-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_latent [hPre_finite_latent : Cert.Pre_finite_latent.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_latent.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_latent [hPre_finite_latent : Cert.Pre_finite_latent.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_latent.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite_latent [hKernel2Ideal : Cert.Kernel2Ideal.Facts] [hPre_finite_latent : Cert.Pre_finite_latent.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_latent m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite_latent [hReference2Ideal : Cert.Reference2Ideal.Facts] [hPre_finite_latent : Cert.Pre_finite_latent.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_latent m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_latent [hKernel2Ideal : Cert.Kernel2Ideal.Facts] [hReference2Ideal : Cert.Reference2Ideal.Facts] [hPre_finite_latent : Cert.Pre_finite_latent.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_latent m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v18)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v99) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v45) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v16)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v81) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v14)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v14) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v40) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_scores : Cert.Pre_finite_scores.Facts) (hPre_finite_latent : Cert.Pre_finite_latent.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_finite_latent (hKernel2Ideal := hKernel2Ideal) (hPre_finite_latent := hPre_finite_latent)
    ∧ quiescent_Reference2Ideal (hReference2Ideal := hReference2Ideal)
    ∧ quiescent_Reference2Ideal_pre_finite_latent (hReference2Ideal := hReference2Ideal) (hPre_finite_latent := hPre_finite_latent)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_finite_latent (hKernel2Ideal := hKernel2Ideal) (hReference2Ideal := hReference2Ideal) (hPre_finite_latent := hPre_finite_latent)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_latent.lean ====
abbrev S2x16640x8x96 : Shape := ⟨4, ![2, 16640, 8, 96]⟩
abbrev S2x16640x8x64 : Shape := ⟨4, ![2, 16640, 8, 64]⟩
abbrev S_ : Shape := ⟨0, ![]⟩

class Facts : Prop where
  bcast_S_S2x16640x8x96 : S_.BroadcastsInDim S2x16640x8x96 (![] : Fin 0 → Fin S2x16640x8x96.rank)
  reducesTo_S2x16640x8x96_S_d0_1_2_3 : S2x16640x8x96.ReducesTo [0, 1, 2, 3] S_
  h_S_ : 0 < S_.numel

variable [Facts]

def fn {F : FTy → Type} [FloatOps F] (main_arg0 : FVec F S2x16640x8x96 .f32) (main_arg1 : FVec F S2x16640x8x96 .f32) (main_arg2 : FVec F S2x16640x8x64 .f32) : IVec S_ 1 :=
  let main_v0 : FVec F S2x16640x8x96 .f32 := Host.absf main_arg0
  let main_cst : FVec F S_ .f32 := constant S_ .f32 0x7F800000#32
  let main_v1 : FVec F S2x16640x8x96 .f32 := broadcastInDim S2x16640x8x96 ![] bcast_S_S2x16640x8x96 main_cst
  let main_v2 : IVec S2x16640x8x96 1 := cmpf .olt main_v0 main_v1
  let main_c : IVec S_ 1 := constantI S_ 1 1#1
  let main_v3 : IVec S_ 1 := (fun x v => Host.reduce IntOp.andi x v reducesTo_S2x16640x8x96_S_d0_1_2_3 h_S_) main_v2 main_c
  let main_v4 : FVec F S2x16640x8x96 .f32 := Host.absf main_arg1
  let main_cst_0 : FVec F S_ .f32 := constant S_ .f32 0x7F800000#32
  let main_v5 : FVec F S2x16640x8x96 .f32 := broadcastInDim S2x16640x8x96 ![] bcast_S_S2x16640x8x96 main_cst_0
  let main_v6 : IVec S2x16640x8x96 1 := cmpf .olt main_v4 main_v5
  let main_c_1 : IVec S_ 1 := constantI S_ 1 1#1
  let main_v7 : IVec S_ 1 := (fun x v => Host.reduce IntOp.andi x v reducesTo_S2x16640x8x96_S_d0_1_2_3 h_S_) main_v6 main_c_1
  let main_v8 : IVec S_ 1 := andi main_v3 main_v7
  main_v8
-- ==== Pre_finite_scores.lean ====
abbrev S2x16640x12x64 : Shape := ⟨4, ![2, 16640, 12, 64]⟩
abbrev S2x16640x4x64 : Shape := ⟨4, ![2, 16640, 4, 64]⟩
abbrev S_ : Shape := ⟨0, ![]⟩

class Facts : Prop where
  bcast_S_S2x16640x12x64 : S_.BroadcastsInDim S2x16640x12x64 (![] : Fin 0 → Fin S2x16640x12x64.rank)
  reducesTo_S2x16640x12x64_S_d0_1_2_3 : S2x16640x12x64.ReducesTo [0, 1, 2, 3] S_
  h_S_ : 0 < S_.numel
  bcast_S_S2x16640x4x64 : S_.BroadcastsInDim S2x16640x4x64 (![] : Fin 0 → Fin S2x16640x4x64.rank)
  reducesTo_S2x16640x4x64_S_d0_1_2_3 : S2x16640x4x64.ReducesTo [0, 1, 2, 3] S_

variable [Facts]

def fn {F : FTy → Type} [FloatOps F] (main_arg0 : FVec F S2x16640x12x64 .f32) (main_arg1 : FVec F S2x16640x4x64 .f32) (main_arg2 : FVec F S2x16640x4x64 .f32) : IVec S_ 1 :=
  let main_v0 : FVec F S2x16640x12x64 .f32 := Host.absf main_arg0
  let main_cst : FVec F S_ .f32 := constant S_ .f32 0x7F800000#32
  let main_v1 : FVec F S2x16640x12x64 .f32 := broadcastInDim S2x16640x12x64 ![] bcast_S_S2x16640x12x64 main_cst
  let main_v2 : IVec S2x16640x12x64 1 := cmpf .olt main_v0 main_v1
  let main_c : IVec S_ 1 := constantI S_ 1 1#1
  let main_v3 : IVec S_ 1 := (fun x v => Host.reduce IntOp.andi x v reducesTo_S2x16640x12x64_S_d0_1_2_3 h_S_) main_v2 main_c
  let main_v4 : FVec F S2x16640x4x64 .f32 := Host.absf main_arg1
  let main_cst_0 : FVec F S_ .f32 := constant S_ .f32 0x7F800000#32
  let main_v5 : FVec F S2x16640x4x64 .f32 := broadcastInDim S2x16640x4x64 ![] bcast_S_S2x16640x4x64 main_cst_0
  let main_v6 : IVec S2x16640x4x64 1 := cmpf .olt main_v4 main_v5
  let main_c_1 : IVec S_ 1 := constantI S_ 1 1#1
  let main_v7 : IVec S_ 1 := (fun x v => Host.reduce IntOp.andi x v reducesTo_S2x16640x4x64_S_d0_1_2_3 h_S_) main_v6 main_c_1
  let main_v8 : IVec S_ 1 := andi main_v3 main_v7
  main_v8
-- ==== Kernel.lean ====
abbrev S2x16640x12x64 : Shape := ⟨4, ![2, 16640, 12, 64]⟩
abbrev S2x16640x4x64 : Shape := ⟨4, ![2, 16640, 4, 64]⟩
abbrev S_ : Shape := ⟨0, ![]⟩
abbrev S2x16640x256 : Shape := ⟨3, ![2, 16640, 256]⟩
abbrev S2x16640x3x64 : Shape := ⟨4, ![2, 16640, 3, 64]⟩
abbrev S2x16640x3x128 : Shape := ⟨4, ![2, 16640, 3, 128]⟩
abbrev S2x16640x12x128 : Shape := ⟨4, ![2, 16640, 12, 128]⟩
abbrev S2x16640x1536 : Shape := ⟨3, ![2, 16640, 1536]⟩
abbrev S2x1536x16640 : Shape := ⟨3, ![2, 1536, 16640]⟩
abbrev S2x16640x4x16 : Shape := ⟨4, ![2, 16640, 4, 16]⟩
abbrev S2x16640x4x80 : Shape := ⟨4, ![2, 16640, 4, 80]⟩
abbrev S2x65x256x320 : Shape := ⟨4, ![2, 65, 256, 320]⟩
abbrev S2x65x320x256 : Shape := ⟨4, ![2, 65, 320, 256]⟩
abbrev S2x16640x768 : Shape := ⟨3, ![2, 16640, 768]⟩
abbrev S1x768x256 : Shape := ⟨3, ![1, 768, 256]⟩
abbrev S1x16640x128 : Shape := ⟨3, ![1, 16640, 128]⟩
abbrev S1x65x160x256 : Shape := ⟨4, ![1, 65, 160, 256]⟩
abbrev S1x256x384 : Shape := ⟨3, ![1, 256, 384]⟩
abbrev S480x256 : Shape := ⟨2, ![480, 256]⟩
abbrev S8x256 : Shape := ⟨2, ![8, 256]⟩
abbrev S384x256 : Shape := ⟨2, ![384, 256]⟩
abbrev S1x256x128 : Shape := ⟨3, ![1, 256, 128]⟩
abbrev S256x128 : Shape := ⟨2, ![256, 128]⟩
abbrev S1x128x256 : Shape := ⟨3, ![1, 128, 256]⟩
abbrev S128x256 : Shape := ⟨2, ![128, 256]⟩
abbrev S256x256 : Shape := ⟨2, ![256, 256]⟩
abbrev S1x256 : Shape := ⟨2, ![1, 256]⟩
abbrev S256 : Shape := ⟨1, ![256]⟩
abbrev S1x1x80x256 : Shape := ⟨4, ![1, 1, 80, 256]⟩
abbrev S80x256 : Shape := ⟨2, ![80, 256]⟩
abbrev S64x256 : Shape := ⟨2, ![64, 256]⟩
abbrev S256x384 : Shape := ⟨2, ![256, 384]⟩

abbrev nBuf : Space → Nat
  | .hbm => 33
  | .vmem => 11
  | .smem => 0
  | _ => 0

abbrev bufTy : (tb : Table) → Fin (tcTables nBuf tb) → BufTy
  | .hbm, ⟨0, _⟩ => ⟨S2x16640x12x64, .f32⟩
  | .hbm, ⟨1, _⟩ => ⟨S2x16640x4x64, .f32⟩
  | .hbm, ⟨2, _⟩ => ⟨S2x16640x4x64, .f32⟩
  | .hbm, ⟨3, _⟩ => ⟨S_, .f32⟩
  | .hbm, ⟨4, _⟩ => ⟨S2x16640x12x64, .f32⟩
  | .hbm, ⟨5, _⟩ => ⟨S2x16640x12x64, .f32⟩
  | .hbm, ⟨6, _⟩ => ⟨S_, .f32⟩
  | .hbm, ⟨7, _⟩ => ⟨S_, .f32⟩
  | .hbm, ⟨8, _⟩ => ⟨S2x16640x12x64, .f32⟩
  | .hbm, ⟨9, _⟩ => ⟨S2x16640x12x64, .f32⟩
  | .hbm, ⟨10, _⟩ => ⟨S2x16640x12x64, .bf16⟩
  | .hbm, ⟨11, _⟩ => ⟨S2x16640x4x64, .bf16⟩
  | .hbm, ⟨12, _⟩ => ⟨S2x16640x256, .bf16⟩
  | .hbm, ⟨13, _⟩ => ⟨S2x16640x4x64, .bf16⟩
  | .hbm, ⟨14, _⟩ => ⟨S_, .bf16⟩
  | .hbm, ⟨15, _⟩ => ⟨S2x16640x3x64, .bf16⟩
  | .hbm, ⟨16, _⟩ => ⟨S2x16640x3x64, .bf16⟩
  | .hbm, ⟨17, _⟩ => ⟨S2x16640x3x128, .bf16⟩
  | .hbm, ⟨18, _⟩ => ⟨S2x16640x3x64, .bf16⟩
  | .hbm, ⟨19, _⟩ => ⟨S2x16640x3x128, .bf16⟩
  | .hbm, ⟨20, _⟩ => ⟨S2x16640x3x64, .bf16⟩
  | .hbm, ⟨21, _⟩ => ⟨S2x16640x3x128, .bf16⟩
  | .hbm, ⟨22, _⟩ => ⟨S2x16640x3x64, .bf16⟩
  | .hbm, ⟨23, _⟩ => ⟨S2x16640x3x128, .bf16⟩
  | .hbm, ⟨24, _⟩ => ⟨S2x16640x12x128, .bf16⟩
  | .hbm, ⟨25, _⟩ => ⟨S2x16640x1536, .bf16⟩
  | .hbm, ⟨26, _⟩ => ⟨S2x1536x16640, .bf16⟩
  | .hbm, ⟨27, _⟩ => ⟨S_, .bf16⟩
  | .hbm, ⟨28, _⟩ => ⟨S2x16640x4x16, .bf16⟩
  | .hbm, ⟨29, _⟩ => ⟨S2x16640x4x80, .bf16⟩
  | .hbm, ⟨30, _⟩ => ⟨S2x65x256x320, .bf16⟩
  | .hbm, ⟨31, _⟩ => ⟨S2x65x320x256, .bf16⟩
  | .hbm, ⟨32, _⟩ => ⟨S2x16640x768, .bf16⟩
  | .local _ .vmem, ⟨0, _⟩ => ⟨S1x768x256, .bf16⟩
  | .local _ .vmem, ⟨1, _⟩ => ⟨S1x768x256, .bf16⟩
  | .local _ .vmem, ⟨2, _⟩ => ⟨S1x16640x128, .bf16⟩
  | .local _ .vmem, ⟨3, _⟩ => ⟨S1x16640x128, .bf16⟩
  | .local _ .vmem, ⟨4, _⟩ => ⟨S1x65x160x256, .bf16⟩
  | .local _ .vmem, ⟨5, _⟩ => ⟨S1x65x160x256, .bf16⟩
  | .local _ .vmem, ⟨6, _⟩ => ⟨S1x256x384, .bf16⟩
  | .local _ .vmem, ⟨7, _⟩ => ⟨S1x256x384, .bf16⟩
  | .local _ .vmem, ⟨8, _⟩ => ⟨S480x256, .f32⟩
  | .local _ .vmem, ⟨9, _⟩ => ⟨S8x256, .f32⟩
  | .local _ .vmem, ⟨10, _⟩ => ⟨S384x256, .f32⟩
  | _, _ => ⟨S2x16640x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 65], ![false, false, false]⟩

def k0_cond2 (i : grid0.Coords) : BitVec 1 :=
  let arg2 : BitVec 32 := BitVec.ofNat 32 (i 2).val
  let c0_i32_5 : BitVec 32 := 0#32
  let v11 : BitVec 1 := Scalar.cmpi .ne arg2 c0_i32_5
  let v12 : BitVec 32 := Scalar.extui v11
  let c0_i32_6 : BitVec 32 := 0#32
  let v13 : BitVec 1 := Scalar.cmpi .ne v12 c0_i32_6
  v13

@[reducible] def k0_t1_loop : Scf.Loop 32 :=
  let c0_i32_34 : BitVec 32 := 0#32
  let c5_i32 : BitVec 32 := 5#32
  let v62 : BitVec 32 := Scalar.addi c0_i32_34 c5_i32
  let c1_i32 : BitVec 32 := 1#32
  ⟨c0_i32_34, v62, c1_i32⟩
def k0_mult1 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32 : BitVec 32 := 13#32
  let v63 : BitVec 32 := Scalar.muli arg10 c13_i32
  let c0_i32_36 : BitVec 32 := 0#32
  let v64 : BitVec 32 := Scalar.addi v63 c0_i32_36
  let c256_i32 : BitVec 32 := 256#32
  let v89 : BitVec 32 := Scalar.muli v64 c256_i32
  v89
def k0_off1 (k0_t1 : Fin k0_t1_loop.trips) (c0_i32_36 : BitVec 32) : Fin 3 → Nat :=
  let c0_51 : Index := 0#32
  let c0_i32_34 : BitVec 32 := 0#32
  let c1_i32 : BitVec 32 := 1#32
  let arg10 : BitVec 32 := Scf.iv c0_i32_34 c1_i32 k0_t1
  let c13_i32 : BitVec 32 := 13#32
  let v63 : BitVec 32 := Scalar.muli arg10 c13_i32
  let v64 : BitVec 32 := Scalar.addi v63 c0_i32_36
  let c256_i32 : BitVec 32 := 256#32
  let v89 : BitVec 32 := Scalar.muli v64 c256_i32
  let v90 : BitVec 32 := v89
  let v91 : Index := Scalar.indexCast v90
  let c0_52 : Index := 0#32
  ![0, v91.toNat, 0]
def k0_mult2 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32 : BitVec 32 := 13#32
  let v63 : BitVec 32 := Scalar.muli arg10 c13_i32
  let c0_i32_36 : BitVec 32 := 0#32
  let v64 : BitVec 32 := Scalar.addi v63 c0_i32_36
  let c256_i32_57 : BitVec 32 := 256#32
  let v97 : BitVec 32 := Scalar.muli v64 c256_i32_57
  v97
def k0_mult3 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32 : BitVec 32 := 13#32
  let v63 : BitVec 32 := Scalar.muli arg10 c13_i32
  let c0_i32_36 : BitVec 32 := 0#32
  let v64 : BitVec 32 := Scalar.addi v63 c0_i32_36
  let c256_i32_64 : BitVec 32 := 256#32
  let v105 : BitVec 32 := Scalar.muli v64 c256_i32_64
  v105
def k0_mult4 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32 : BitVec 32 := 13#32
  let v63 : BitVec 32 := Scalar.muli arg10 c13_i32
  let c0_i32_36 : BitVec 32 := 0#32
  let v64 : BitVec 32 := Scalar.addi v63 c0_i32_36
  let c256_i32_71 : BitVec 32 := 256#32
  let v113 : BitVec 32 := Scalar.muli v64 c256_i32_71
  v113
def k0_mult5 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32 : BitVec 32 := 13#32
  let v63 : BitVec 32 := Scalar.muli arg10 c13_i32
  let c0_i32_36 : BitVec 32 := 0#32
  let v64 : BitVec 32 := Scalar.addi v63 c0_i32_36
  let c256_i32_78 : BitVec 32 := 256#32
  let v121 : BitVec 32 := Scalar.muli v64 c256_i32_78
  v121
def k0_mult6 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32 : BitVec 32 := 13#32
  let v63 : BitVec 32 := Scalar.muli arg10 c13_i32
  let c0_i32_36 : BitVec 32 := 0#32
  let v64 : BitVec 32 := Scalar.addi v63 c0_i32_36
  let c256_i32_84 : BitVec 32 := 256#32
  let v129 : BitVec 32 := Scalar.muli v64 c256_i32_84
  v129
def k0_mult7 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_37 : BitVec 32 := 13#32
  let v65 : BitVec 32 := Scalar.muli arg10 c13_i32_37
  let c1_i32_38 : BitVec 32 := 1#32
  let v66 : BitVec 32 := Scalar.addi v65 c1_i32_38
  let c256_i32_90 : BitVec 32 := 256#32
  let v137 : BitVec 32 := Scalar.muli v66 c256_i32_90
  v137
def k0_off2 (k0_t1 : Fin k0_t1_loop.trips) (c0_i32_36 : BitVec 32) : Fin 4 → Nat :=
  let c0_102 : Index := 0#32
  let c0_i32_34 : BitVec 32 := 0#32
  let c1_i32 : BitVec 32 := 1#32
  let arg10 : BitVec 32 := Scf.iv c0_i32_34 c1_i32 k0_t1
  let c13_i32 : BitVec 32 := 13#32
  let v63 : BitVec 32 := Scalar.muli arg10 c13_i32
  let v64 : BitVec 32 := Scalar.addi v63 c0_i32_36
  let v157 : Index := Scalar.indexCast v64
  let c0_103 : Index := 0#32
  let c0_104 : Index := 0#32
  ![0, v157.toNat, 0, 0]
def k0_mult8 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_37 : BitVec 32 := 13#32
  let v65 : BitVec 32 := Scalar.muli arg10 c13_i32_37
  let c1_i32_38 : BitVec 32 := 1#32
  let v66 : BitVec 32 := Scalar.addi v65 c1_i32_38
  let c256_i32_110 : BitVec 32 := 256#32
  let v169 : BitVec 32 := Scalar.muli v66 c256_i32_110
  v169
def k0_mult9 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_37 : BitVec 32 := 13#32
  let v65 : BitVec 32 := Scalar.muli arg10 c13_i32_37
  let c1_i32_38 : BitVec 32 := 1#32
  let v66 : BitVec 32 := Scalar.addi v65 c1_i32_38
  let c256_i32_129 : BitVec 32 := 256#32
  let v201 : BitVec 32 := Scalar.muli v66 c256_i32_129
  v201
def k0_mult10 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_37 : BitVec 32 := 13#32
  let v65 : BitVec 32 := Scalar.muli arg10 c13_i32_37
  let c1_i32_38 : BitVec 32 := 1#32
  let v66 : BitVec 32 := Scalar.addi v65 c1_i32_38
  let c256_i32_148 : BitVec 32 := 256#32
  let v233 : BitVec 32 := Scalar.muli v66 c256_i32_148
  v233
def k0_off3 (k0_t1 : Fin k0_t1_loop.trips) (c0_i32_36 : BitVec 32) : Fin 4 → Nat :=
  let c0_159 : Index := 0#32
  let c0_i32_34 : BitVec 32 := 0#32
  let c1_i32 : BitVec 32 := 1#32
  let arg10 : BitVec 32 := Scf.iv c0_i32_34 c1_i32 k0_t1
  let c13_i32 : BitVec 32 := 13#32
  let v63 : BitVec 32 := Scalar.muli arg10 c13_i32
  let v64 : BitVec 32 := Scalar.addi v63 c0_i32_36
  let v253 : Index := Scalar.indexCast v64
  let c80_160 : Index := 80#32
  let c0_161 : Index := 0#32
  ![0, v253.toNat, 80, 0]
def k0_mult11 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_37 : BitVec 32 := 13#32
  let v65 : BitVec 32 := Scalar.muli arg10 c13_i32_37
  let c1_i32_38 : BitVec 32 := 1#32
  let v66 : BitVec 32 := Scalar.addi v65 c1_i32_38
  let c256_i32_167 : BitVec 32 := 256#32
  let v265 : BitVec 32 := Scalar.muli v66 c256_i32_167
  v265
def k0_mult12 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_37 : BitVec 32 := 13#32
  let v65 : BitVec 32 := Scalar.muli arg10 c13_i32_37
  let c1_i32_38 : BitVec 32 := 1#32
  let v66 : BitVec 32 := Scalar.addi v65 c1_i32_38
  let c256_i32_186 : BitVec 32 := 256#32
  let v297 : BitVec 32 := Scalar.muli v66 c256_i32_186
  v297
def k0_mult13 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_39 : BitVec 32 := 13#32
  let v67 : BitVec 32 := Scalar.muli arg10 c13_i32_39
  let c2_i32 : BitVec 32 := 2#32
  let v68 : BitVec 32 := Scalar.addi v67 c2_i32
  let c256_i32_205 : BitVec 32 := 256#32
  let v329 : BitVec 32 := Scalar.muli v68 c256_i32_205
  v329
def k0_mult14 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_39 : BitVec 32 := 13#32
  let v67 : BitVec 32 := Scalar.muli arg10 c13_i32_39
  let c2_i32 : BitVec 32 := 2#32
  let v68 : BitVec 32 := Scalar.addi v67 c2_i32
  let c256_i32_225 : BitVec 32 := 256#32
  let v361 : BitVec 32 := Scalar.muli v68 c256_i32_225
  v361
def k0_mult15 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_39 : BitVec 32 := 13#32
  let v67 : BitVec 32 := Scalar.muli arg10 c13_i32_39
  let c2_i32 : BitVec 32 := 2#32
  let v68 : BitVec 32 := Scalar.addi v67 c2_i32
  let c256_i32_245 : BitVec 32 := 256#32
  let v393 : BitVec 32 := Scalar.muli v68 c256_i32_245
  v393
def k0_mult16 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_39 : BitVec 32 := 13#32
  let v67 : BitVec 32 := Scalar.muli arg10 c13_i32_39
  let c2_i32 : BitVec 32 := 2#32
  let v68 : BitVec 32 := Scalar.addi v67 c2_i32
  let c256_i32_265 : BitVec 32 := 256#32
  let v425 : BitVec 32 := Scalar.muli v68 c256_i32_265
  v425
def k0_mult17 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_39 : BitVec 32 := 13#32
  let v67 : BitVec 32 := Scalar.muli arg10 c13_i32_39
  let c2_i32 : BitVec 32 := 2#32
  let v68 : BitVec 32 := Scalar.addi v67 c2_i32
  let c256_i32_285 : BitVec 32 := 256#32
  let v457 : BitVec 32 := Scalar.muli v68 c256_i32_285
  v457
def k0_mult18 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_39 : BitVec 32 := 13#32
  let v67 : BitVec 32 := Scalar.muli arg10 c13_i32_39
  let c2_i32 : BitVec 32 := 2#32
  let v68 : BitVec 32 := Scalar.addi v67 c2_i32
  let c256_i32_305 : BitVec 32 := 256#32
  let v489 : BitVec 32 := Scalar.muli v68 c256_i32_305
  v489
def k0_mult19 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_40 : BitVec 32 := 13#32
  let v69 : BitVec 32 := Scalar.muli arg10 c13_i32_40
  let c3_i32 : BitVec 32 := 3#32
  let v70 : BitVec 32 := Scalar.addi v69 c3_i32
  let c256_i32_325 : BitVec 32 := 256#32
  let v521 : BitVec 32 := Scalar.muli v70 c256_i32_325
  v521
def k0_mult20 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_40 : BitVec 32 := 13#32
  let v69 : BitVec 32 := Scalar.muli arg10 c13_i32_40
  let c3_i32 : BitVec 32 := 3#32
  let v70 : BitVec 32 := Scalar.addi v69 c3_i32
  let c256_i32_345 : BitVec 32 := 256#32
  let v553 : BitVec 32 := Scalar.muli v70 c256_i32_345
  v553
def k0_mult21 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_40 : BitVec 32 := 13#32
  let v69 : BitVec 32 := Scalar.muli arg10 c13_i32_40
  let c3_i32 : BitVec 32 := 3#32
  let v70 : BitVec 32 := Scalar.addi v69 c3_i32
  let c256_i32_365 : BitVec 32 := 256#32
  let v585 : BitVec 32 := Scalar.muli v70 c256_i32_365
  v585
def k0_mult22 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_40 : BitVec 32 := 13#32
  let v69 : BitVec 32 := Scalar.muli arg10 c13_i32_40
  let c3_i32 : BitVec 32 := 3#32
  let v70 : BitVec 32 := Scalar.addi v69 c3_i32
  let c256_i32_385 : BitVec 32 := 256#32
  let v617 : BitVec 32 := Scalar.muli v70 c256_i32_385
  v617
def k0_mult23 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_40 : BitVec 32 := 13#32
  let v69 : BitVec 32 := Scalar.muli arg10 c13_i32_40
  let c3_i32 : BitVec 32 := 3#32
  let v70 : BitVec 32 := Scalar.addi v69 c3_i32
  let c256_i32_405 : BitVec 32 := 256#32
  let v649 : BitVec 32 := Scalar.muli v70 c256_i32_405
  v649
def k0_mult24 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_40 : BitVec 32 := 13#32
  let v69 : BitVec 32 := Scalar.muli arg10 c13_i32_40
  let c3_i32 : BitVec 32 := 3#32
  let v70 : BitVec 32 := Scalar.addi v69 c3_i32
  let c256_i32_425 : BitVec 32 := 256#32
  let v681 : BitVec 32 := Scalar.muli v70 c256_i32_425
  v681
def k0_mult25 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_41 : BitVec 32 := 13#32
  let v71 : BitVec 32 := Scalar.muli arg10 c13_i32_41
  let c4_i32 : BitVec 32 := 4#32
  let v72 : BitVec 32 := Scalar.addi v71 c4_i32
  let c256_i32_445 : BitVec 32 := 256#32
  let v713 : BitVec 32 := Scalar.muli v72 c256_i32_445
  v713
def k0_mult26 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_41 : BitVec 32 := 13#32
  let v71 : BitVec 32 := Scalar.muli arg10 c13_i32_41
  let c4_i32 : BitVec 32 := 4#32
  let v72 : BitVec 32 := Scalar.addi v71 c4_i32
  let c256_i32_465 : BitVec 32 := 256#32
  let v745 : BitVec 32 := Scalar.muli v72 c256_i32_465
  v745
def k0_mult27 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_41 : BitVec 32 := 13#32
  let v71 : BitVec 32 := Scalar.muli arg10 c13_i32_41
  let c4_i32 : BitVec 32 := 4#32
  let v72 : BitVec 32 := Scalar.addi v71 c4_i32
  let c256_i32_485 : BitVec 32 := 256#32
  let v777 : BitVec 32 := Scalar.muli v72 c256_i32_485
  v777
def k0_mult28 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_41 : BitVec 32 := 13#32
  let v71 : BitVec 32 := Scalar.muli arg10 c13_i32_41
  let c4_i32 : BitVec 32 := 4#32
  let v72 : BitVec 32 := Scalar.addi v71 c4_i32
  let c256_i32_505 : BitVec 32 := 256#32
  let v809 : BitVec 32 := Scalar.muli v72 c256_i32_505
  v809
def k0_mult29 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_41 : BitVec 32 := 13#32
  let v71 : BitVec 32 := Scalar.muli arg10 c13_i32_41
  let c4_i32 : BitVec 32 := 4#32
  let v72 : BitVec 32 := Scalar.addi v71 c4_i32
  let c256_i32_525 : BitVec 32 := 256#32
  let v841 : BitVec 32 := Scalar.muli v72 c256_i32_525
  v841
def k0_mult30 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_41 : BitVec 32 := 13#32
  let v71 : BitVec 32 := Scalar.muli arg10 c13_i32_41
  let c4_i32 : BitVec 32 := 4#32
  let v72 : BitVec 32 := Scalar.addi v71 c4_i32
  let c256_i32_545 : BitVec 32 := 256#32
  let v873 : BitVec 32 := Scalar.muli v72 c256_i32_545
  v873
def k0_mult31 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_42 : BitVec 32 := 13#32
  let v73 : BitVec 32 := Scalar.muli arg10 c13_i32_42
  let c5_i32_43 : BitVec 32 := 5#32
  let v74 : BitVec 32 := Scalar.addi v73 c5_i32_43
  let c256_i32_565 : BitVec 32 := 256#32
  let v905 : BitVec 32 := Scalar.muli v74 c256_i32_565
  v905
def k0_mult32 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_42 : BitVec 32 := 13#32
  let v73 : BitVec 32 := Scalar.muli arg10 c13_i32_42
  let c5_i32_43 : BitVec 32 := 5#32
  let v74 : BitVec 32 := Scalar.addi v73 c5_i32_43
  let c256_i32_585 : BitVec 32 := 256#32
  let v937 : BitVec 32 := Scalar.muli v74 c256_i32_585
  v937
def k0_mult33 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_42 : BitVec 32 := 13#32
  let v73 : BitVec 32 := Scalar.muli arg10 c13_i32_42
  let c5_i32_43 : BitVec 32 := 5#32
  let v74 : BitVec 32 := Scalar.addi v73 c5_i32_43
  let c256_i32_605 : BitVec 32 := 256#32
  let v969 : BitVec 32 := Scalar.muli v74 c256_i32_605
  v969
def k0_mult34 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_42 : BitVec 32 := 13#32
  let v73 : BitVec 32 := Scalar.muli arg10 c13_i32_42
  let c5_i32_43 : BitVec 32 := 5#32
  let v74 : BitVec 32 := Scalar.addi v73 c5_i32_43
  let c256_i32_625 : BitVec 32 := 256#32
  let v1001 : BitVec 32 := Scalar.muli v74 c256_i32_625
  v1001
def k0_mult35 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_42 : BitVec 32 := 13#32
  let v73 : BitVec 32 := Scalar.muli arg10 c13_i32_42
  let c5_i32_43 : BitVec 32 := 5#32
  let v74 : BitVec 32 := Scalar.addi v73 c5_i32_43
  let c256_i32_645 : BitVec 32 := 256#32
  let v1033 : BitVec 32 := Scalar.muli v74 c256_i32_645
  v1033
def k0_mult36 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_42 : BitVec 32 := 13#32
  let v73 : BitVec 32 := Scalar.muli arg10 c13_i32_42
  let c5_i32_43 : BitVec 32 := 5#32
  let v74 : BitVec 32 := Scalar.addi v73 c5_i32_43
  let c256_i32_665 : BitVec 32 := 256#32
  let v1065 : BitVec 32 := Scalar.muli v74 c256_i32_665
  v1065
def k0_mult37 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_44 : BitVec 32 := 13#32
  let v75 : BitVec 32 := Scalar.muli arg10 c13_i32_44
  let c6_i32 : BitVec 32 := 6#32
  let v76 : BitVec 32 := Scalar.addi v75 c6_i32
  let c256_i32_685 : BitVec 32 := 256#32
  let v1097 : BitVec 32 := Scalar.muli v76 c256_i32_685
  v1097
def k0_mult38 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_44 : BitVec 32 := 13#32
  let v75 : BitVec 32 := Scalar.muli arg10 c13_i32_44
  let c6_i32 : BitVec 32 := 6#32
  let v76 : BitVec 32 := Scalar.addi v75 c6_i32
  let c256_i32_705 : BitVec 32 := 256#32
  let v1129 : BitVec 32 := Scalar.muli v76 c256_i32_705
  v1129
def k0_mult39 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_44 : BitVec 32 := 13#32
  let v75 : BitVec 32 := Scalar.muli arg10 c13_i32_44
  let c6_i32 : BitVec 32 := 6#32
  let v76 : BitVec 32 := Scalar.addi v75 c6_i32
  let c256_i32_725 : BitVec 32 := 256#32
  let v1161 : BitVec 32 := Scalar.muli v76 c256_i32_725
  v1161
def k0_mult40 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_44 : BitVec 32 := 13#32
  let v75 : BitVec 32 := Scalar.muli arg10 c13_i32_44
  let c6_i32 : BitVec 32 := 6#32
  let v76 : BitVec 32 := Scalar.addi v75 c6_i32
  let c256_i32_745 : BitVec 32 := 256#32
  let v1193 : BitVec 32 := Scalar.muli v76 c256_i32_745
  v1193
def k0_mult41 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_44 : BitVec 32 := 13#32
  let v75 : BitVec 32 := Scalar.muli arg10 c13_i32_44
  let c6_i32 : BitVec 32 := 6#32
  let v76 : BitVec 32 := Scalar.addi v75 c6_i32
  let c256_i32_765 : BitVec 32 := 256#32
  let v1225 : BitVec 32 := Scalar.muli v76 c256_i32_765
  v1225
def k0_mult42 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_44 : BitVec 32 := 13#32
  let v75 : BitVec 32 := Scalar.muli arg10 c13_i32_44
  let c6_i32 : BitVec 32 := 6#32
  let v76 : BitVec 32 := Scalar.addi v75 c6_i32
  let c256_i32_785 : BitVec 32 := 256#32
  let v1257 : BitVec 32 := Scalar.muli v76 c256_i32_785
  v1257
def k0_mult43 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_45 : BitVec 32 := 13#32
  let v77 : BitVec 32 := Scalar.muli arg10 c13_i32_45
  let c7_i32 : BitVec 32 := 7#32
  let v78 : BitVec 32 := Scalar.addi v77 c7_i32
  let c256_i32_805 : BitVec 32 := 256#32
  let v1289 : BitVec 32 := Scalar.muli v78 c256_i32_805
  v1289
def k0_mult44 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_45 : BitVec 32 := 13#32
  let v77 : BitVec 32 := Scalar.muli arg10 c13_i32_45
  let c7_i32 : BitVec 32 := 7#32
  let v78 : BitVec 32 := Scalar.addi v77 c7_i32
  let c256_i32_825 : BitVec 32 := 256#32
  let v1321 : BitVec 32 := Scalar.muli v78 c256_i32_825
  v1321
def k0_mult45 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_45 : BitVec 32 := 13#32
  let v77 : BitVec 32 := Scalar.muli arg10 c13_i32_45
  let c7_i32 : BitVec 32 := 7#32
  let v78 : BitVec 32 := Scalar.addi v77 c7_i32
  let c256_i32_845 : BitVec 32 := 256#32
  let v1353 : BitVec 32 := Scalar.muli v78 c256_i32_845
  v1353
def k0_mult46 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_45 : BitVec 32 := 13#32
  let v77 : BitVec 32 := Scalar.muli arg10 c13_i32_45
  let c7_i32 : BitVec 32 := 7#32
  let v78 : BitVec 32 := Scalar.addi v77 c7_i32
  let c256_i32_865 : BitVec 32 := 256#32
  let v1385 : BitVec 32 := Scalar.muli v78 c256_i32_865
  v1385
def k0_mult47 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_45 : BitVec 32 := 13#32
  let v77 : BitVec 32 := Scalar.muli arg10 c13_i32_45
  let c7_i32 : BitVec 32 := 7#32
  let v78 : BitVec 32 := Scalar.addi v77 c7_i32
  let c256_i32_885 : BitVec 32 := 256#32
  let v1417 : BitVec 32 := Scalar.muli v78 c256_i32_885
  v1417
def k0_mult48 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_45 : BitVec 32 := 13#32
  let v77 : BitVec 32 := Scalar.muli arg10 c13_i32_45
  let c7_i32 : BitVec 32 := 7#32
  let v78 : BitVec 32 := Scalar.addi v77 c7_i32
  let c256_i32_905 : BitVec 32 := 256#32
  let v1449 : BitVec 32 := Scalar.muli v78 c256_i32_905
  v1449
def k0_mult49 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_46 : BitVec 32 := 13#32
  let v79 : BitVec 32 := Scalar.muli arg10 c13_i32_46
  let c8_i32 : BitVec 32 := 8#32
  let v80 : BitVec 32 := Scalar.addi v79 c8_i32
  let c256_i32_925 : BitVec 32 := 256#32
  let v1481 : BitVec 32 := Scalar.muli v80 c256_i32_925
  v1481
def k0_mult50 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_46 : BitVec 32 := 13#32
  let v79 : BitVec 32 := Scalar.muli arg10 c13_i32_46
  let c8_i32 : BitVec 32 := 8#32
  let v80 : BitVec 32 := Scalar.addi v79 c8_i32
  let c256_i32_945 : BitVec 32 := 256#32
  let v1513 : BitVec 32 := Scalar.muli v80 c256_i32_945
  v1513
def k0_mult51 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_46 : BitVec 32 := 13#32
  let v79 : BitVec 32 := Scalar.muli arg10 c13_i32_46
  let c8_i32 : BitVec 32 := 8#32
  let v80 : BitVec 32 := Scalar.addi v79 c8_i32
  let c256_i32_965 : BitVec 32 := 256#32
  let v1545 : BitVec 32 := Scalar.muli v80 c256_i32_965
  v1545
def k0_mult52 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_46 : BitVec 32 := 13#32
  let v79 : BitVec 32 := Scalar.muli arg10 c13_i32_46
  let c8_i32 : BitVec 32 := 8#32
  let v80 : BitVec 32 := Scalar.addi v79 c8_i32
  let c256_i32_985 : BitVec 32 := 256#32
  let v1577 : BitVec 32 := Scalar.muli v80 c256_i32_985
  v1577
def k0_mult53 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_46 : BitVec 32 := 13#32
  let v79 : BitVec 32 := Scalar.muli arg10 c13_i32_46
  let c8_i32 : BitVec 32 := 8#32
  let v80 : BitVec 32 := Scalar.addi v79 c8_i32
  let c256_i32_1005 : BitVec 32 := 256#32
  let v1609 : BitVec 32 := Scalar.muli v80 c256_i32_1005
  v1609
def k0_mult54 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_46 : BitVec 32 := 13#32
  let v79 : BitVec 32 := Scalar.muli arg10 c13_i32_46
  let c8_i32 : BitVec 32 := 8#32
  let v80 : BitVec 32 := Scalar.addi v79 c8_i32
  let c256_i32_1025 : BitVec 32 := 256#32
  let v1641 : BitVec 32 := Scalar.muli v80 c256_i32_1025
  v1641
def k0_mult55 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_47 : BitVec 32 := 13#32
  let v81 : BitVec 32 := Scalar.muli arg10 c13_i32_47
  let c9_i32 : BitVec 32 := 9#32
  let v82 : BitVec 32 := Scalar.addi v81 c9_i32
  let c256_i32_1045 : BitVec 32 := 256#32
  let v1673 : BitVec 32 := Scalar.muli v82 c256_i32_1045
  v1673
def k0_mult56 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_47 : BitVec 32 := 13#32
  let v81 : BitVec 32 := Scalar.muli arg10 c13_i32_47
  let c9_i32 : BitVec 32 := 9#32
  let v82 : BitVec 32 := Scalar.addi v81 c9_i32
  let c256_i32_1065 : BitVec 32 := 256#32
  let v1705 : BitVec 32 := Scalar.muli v82 c256_i32_1065
  v1705
def k0_mult57 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_47 : BitVec 32 := 13#32
  let v81 : BitVec 32 := Scalar.muli arg10 c13_i32_47
  let c9_i32 : BitVec 32 := 9#32
  let v82 : BitVec 32 := Scalar.addi v81 c9_i32
  let c256_i32_1085 : BitVec 32 := 256#32
  let v1737 : BitVec 32 := Scalar.muli v82 c256_i32_1085
  v1737
def k0_mult58 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_47 : BitVec 32 := 13#32
  let v81 : BitVec 32 := Scalar.muli arg10 c13_i32_47
  let c9_i32 : BitVec 32 := 9#32
  let v82 : BitVec 32 := Scalar.addi v81 c9_i32
  let c256_i32_1105 : BitVec 32 := 256#32
  let v1769 : BitVec 32 := Scalar.muli v82 c256_i32_1105
  v1769
def k0_mult59 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_47 : BitVec 32 := 13#32
  let v81 : BitVec 32 := Scalar.muli arg10 c13_i32_47
  let c9_i32 : BitVec 32 := 9#32
  let v82 : BitVec 32 := Scalar.addi v81 c9_i32
  let c256_i32_1125 : BitVec 32 := 256#32
  let v1801 : BitVec 32 := Scalar.muli v82 c256_i32_1125
  v1801
def k0_mult60 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_47 : BitVec 32 := 13#32
  let v81 : BitVec 32 := Scalar.muli arg10 c13_i32_47
  let c9_i32 : BitVec 32 := 9#32
  let v82 : BitVec 32 := Scalar.addi v81 c9_i32
  let c256_i32_1145 : BitVec 32 := 256#32
  let v1833 : BitVec 32 := Scalar.muli v82 c256_i32_1145
  v1833
def k0_mult61 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_48 : BitVec 32 := 13#32
  let v83 : BitVec 32 := Scalar.muli arg10 c13_i32_48
  let c10_i32 : BitVec 32 := 10#32
  let v84 : BitVec 32 := Scalar.addi v83 c10_i32
  let c256_i32_1165 : BitVec 32 := 256#32
  let v1865 : BitVec 32 := Scalar.muli v84 c256_i32_1165
  v1865
def k0_mult62 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_48 : BitVec 32 := 13#32
  let v83 : BitVec 32 := Scalar.muli arg10 c13_i32_48
  let c10_i32 : BitVec 32 := 10#32
  let v84 : BitVec 32 := Scalar.addi v83 c10_i32
  let c256_i32_1185 : BitVec 32 := 256#32
  let v1897 : BitVec 32 := Scalar.muli v84 c256_i32_1185
  v1897
def k0_mult63 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_48 : BitVec 32 := 13#32
  let v83 : BitVec 32 := Scalar.muli arg10 c13_i32_48
  let c10_i32 : BitVec 32 := 10#32
  let v84 : BitVec 32 := Scalar.addi v83 c10_i32
  let c256_i32_1205 : BitVec 32 := 256#32
  let v1929 : BitVec 32 := Scalar.muli v84 c256_i32_1205
  v1929
def k0_mult64 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_48 : BitVec 32 := 13#32
  let v83 : BitVec 32 := Scalar.muli arg10 c13_i32_48
  let c10_i32 : BitVec 32 := 10#32
  let v84 : BitVec 32 := Scalar.addi v83 c10_i32
  let c256_i32_1225 : BitVec 32 := 256#32
  let v1961 : BitVec 32 := Scalar.muli v84 c256_i32_1225
  v1961
def k0_mult65 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_48 : BitVec 32 := 13#32
  let v83 : BitVec 32 := Scalar.muli arg10 c13_i32_48
  let c10_i32 : BitVec 32 := 10#32
  let v84 : BitVec 32 := Scalar.addi v83 c10_i32
  let c256_i32_1245 : BitVec 32 := 256#32
  let v1993 : BitVec 32 := Scalar.muli v84 c256_i32_1245
  v1993
def k0_mult66 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_48 : BitVec 32 := 13#32
  let v83 : BitVec 32 := Scalar.muli arg10 c13_i32_48
  let c10_i32 : BitVec 32 := 10#32
  let v84 : BitVec 32 := Scalar.addi v83 c10_i32
  let c256_i32_1265 : BitVec 32 := 256#32
  let v2025 : BitVec 32 := Scalar.muli v84 c256_i32_1265
  v2025
def k0_mult67 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_49 : BitVec 32 := 13#32
  let v85 : BitVec 32 := Scalar.muli arg10 c13_i32_49
  let c11_i32 : BitVec 32 := 11#32
  let v86 : BitVec 32 := Scalar.addi v85 c11_i32
  let c256_i32_1285 : BitVec 32 := 256#32
  let v2057 : BitVec 32 := Scalar.muli v86 c256_i32_1285
  v2057
def k0_mult68 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_49 : BitVec 32 := 13#32
  let v85 : BitVec 32 := Scalar.muli arg10 c13_i32_49
  let c11_i32 : BitVec 32 := 11#32
  let v86 : BitVec 32 := Scalar.addi v85 c11_i32
  let c256_i32_1305 : BitVec 32 := 256#32
  let v2089 : BitVec 32 := Scalar.muli v86 c256_i32_1305
  v2089
def k0_mult69 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_49 : BitVec 32 := 13#32
  let v85 : BitVec 32 := Scalar.muli arg10 c13_i32_49
  let c11_i32 : BitVec 32 := 11#32
  let v86 : BitVec 32 := Scalar.addi v85 c11_i32
  let c256_i32_1325 : BitVec 32 := 256#32
  let v2121 : BitVec 32 := Scalar.muli v86 c256_i32_1325
  v2121
def k0_mult70 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_49 : BitVec 32 := 13#32
  let v85 : BitVec 32 := Scalar.muli arg10 c13_i32_49
  let c11_i32 : BitVec 32 := 11#32
  let v86 : BitVec 32 := Scalar.addi v85 c11_i32
  let c256_i32_1345 : BitVec 32 := 256#32
  let v2153 : BitVec 32 := Scalar.muli v86 c256_i32_1345
  v2153
def k0_mult71 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_49 : BitVec 32 := 13#32
  let v85 : BitVec 32 := Scalar.muli arg10 c13_i32_49
  let c11_i32 : BitVec 32 := 11#32
  let v86 : BitVec 32 := Scalar.addi v85 c11_i32
  let c256_i32_1365 : BitVec 32 := 256#32
  let v2185 : BitVec 32 := Scalar.muli v86 c256_i32_1365
  v2185
def k0_mult72 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_49 : BitVec 32 := 13#32
  let v85 : BitVec 32 := Scalar.muli arg10 c13_i32_49
  let c11_i32 : BitVec 32 := 11#32
  let v86 : BitVec 32 := Scalar.addi v85 c11_i32
  let c256_i32_1385 : BitVec 32 := 256#32
  let v2217 : BitVec 32 := Scalar.muli v86 c256_i32_1385
  v2217
def k0_mult73 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_50 : BitVec 32 := 13#32
  let v87 : BitVec 32 := Scalar.muli arg10 c13_i32_50
  let c12_i32 : BitVec 32 := 12#32
  let v88 : BitVec 32 := Scalar.addi v87 c12_i32
  let c256_i32_1405 : BitVec 32 := 256#32
  let v2249 : BitVec 32 := Scalar.muli v88 c256_i32_1405
  v2249
def k0_mult74 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_50 : BitVec 32 := 13#32
  let v87 : BitVec 32 := Scalar.muli arg10 c13_i32_50
  let c12_i32 : BitVec 32 := 12#32
  let v88 : BitVec 32 := Scalar.addi v87 c12_i32
  let c256_i32_1425 : BitVec 32 := 256#32
  let v2281 : BitVec 32 := Scalar.muli v88 c256_i32_1425
  v2281
def k0_mult75 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_50 : BitVec 32 := 13#32
  let v87 : BitVec 32 := Scalar.muli arg10 c13_i32_50
  let c12_i32 : BitVec 32 := 12#32
  let v88 : BitVec 32 := Scalar.addi v87 c12_i32
  let c256_i32_1445 : BitVec 32 := 256#32
  let v2313 : BitVec 32 := Scalar.muli v88 c256_i32_1445
  v2313
def k0_mult76 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_50 : BitVec 32 := 13#32
  let v87 : BitVec 32 := Scalar.muli arg10 c13_i32_50
  let c12_i32 : BitVec 32 := 12#32
  let v88 : BitVec 32 := Scalar.addi v87 c12_i32
  let c256_i32_1465 : BitVec 32 := 256#32
  let v2345 : BitVec 32 := Scalar.muli v88 c256_i32_1465
  v2345
def k0_mult77 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_50 : BitVec 32 := 13#32
  let v87 : BitVec 32 := Scalar.muli arg10 c13_i32_50
  let c12_i32 : BitVec 32 := 12#32
  let v88 : BitVec 32 := Scalar.addi v87 c12_i32
  let c256_i32_1485 : BitVec 32 := 256#32
  let v2377 : BitVec 32 := Scalar.muli v88 c256_i32_1485
  v2377
def k0_mult78 (k0_t1 : Fin k0_t1_loop.trips) : BitVec 32 :=
  let c0_i32_34 : BitVec 32 := 0#32
  let c1_i32 : BitVec 32 := 1#32
  let arg10 : BitVec 32 := Scf.iv c0_i32_34 c1_i32 k0_t1
  let c13_i32_50 : BitVec 32 := 13#32
  let v87 : BitVec 32 := Scalar.muli arg10 c13_i32_50
  let c12_i32 : BitVec 32 := 12#32
  let v88 : BitVec 32 := Scalar.addi v87 c12_i32
  let c256_i32_1505 : BitVec 32 := 256#32
  let v2409 : BitVec 32 := Scalar.muli v88 c256_i32_1505
  v2409
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16640x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x65x160x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x16640x12x64 : Shape := ⟨4, ![2, 16640, 12, 64]⟩
abbrev S2x16640x4x64 : Shape := ⟨4, ![2, 16640, 4, 64]⟩
abbrev S2x256x12x64 : Shape := ⟨4, ![2, 256, 12, 64]⟩
abbrev S2x256x4x64 : Shape := ⟨4, ![2, 256, 4, 64]⟩
abbrev S2x256x4x3x64 : Shape := ⟨5, ![2, 256, 4, 3, 64]⟩
abbrev S2x4x256x256x3 : Shape := ⟨5, ![2, 4, 256, 256, 3]⟩
abbrev S2x4x3x256x256 : Shape := ⟨5, ![2, 4, 3, 256, 256]⟩
abbrev S_ : Shape := ⟨0, ![]⟩
abbrev S2x4x3x256 : Shape := ⟨4, ![2, 4, 3, 256]⟩
abbrev S2x4x3x256x1 : Shape := ⟨5, ![2, 4, 3, 256, 1]⟩
abbrev S2x4x64x3x256 : Shape := ⟨5, ![2, 4, 64, 3, 256]⟩
abbrev S2x256x768 : Shape := ⟨3, ![2, 256, 768]⟩
abbrev S2x16384x12x64 : Shape := ⟨4, ![2, 16384, 12, 64]⟩
abbrev S2x16384x4x3x64 : Shape := ⟨5, ![2, 16384, 4, 3, 64]⟩
abbrev S2x4x16640x16384x3 : Shape := ⟨5, ![2, 4, 16640, 16384, 3]⟩
abbrev S2x4x3x16384x16640 : Shape := ⟨5, ![2, 4, 3, 16384, 16640]⟩
abbrev S2x4x3x16384 : Shape := ⟨4, ![2, 4, 3, 16384]⟩
abbrev S2x4x3x16384x1 : Shape := ⟨5, ![2, 4, 3, 16384, 1]⟩
abbrev S2x4x64x3x16384 : Shape := ⟨5, ![2, 4, 64, 3, 16384]⟩
abbrev S2x16384x768 : Shape := ⟨3, ![2, 16384, 768]⟩
abbrev S2x16640x768 : Shape := ⟨3, ![2, 16640, 768]⟩

abbrev nBuf : Space → Nat
  | .hbm => 55
  | .vmem => 0
  | .smem => 0
  | _ => 0

abbrev bufTy : (tb : Table) → Fin (tcTables nBuf tb) → BufTy
  | .hbm, ⟨0, _⟩ => ⟨S2x16640x12x64, .f32⟩
  | .hbm, ⟨1, _⟩ => ⟨S2x16640x4x64, .f32⟩
  | .hbm, ⟨2, _⟩ => ⟨S2x16640x4x64, .f32⟩
  | .hbm, ⟨3, _⟩ => ⟨S2x256x12x64, .f32⟩
  | .hbm, ⟨4, _⟩ => ⟨S2x256x4x64, .f32⟩
  | .hbm, ⟨5, _⟩ => ⟨S2x256x4x64, .f32⟩
  | .hbm, ⟨6, _⟩ => ⟨S2x256x4x3x64, .f32⟩
  | .hbm, ⟨7, _⟩ => ⟨S2x4x256x256x3, .f32⟩
  | .hbm, ⟨8, _⟩ => ⟨S2x4x3x256x256, .f32⟩
  | .hbm, ⟨9, _⟩ => ⟨S_, .f32⟩
  | .hbm, ⟨10, _⟩ => ⟨S2x4x3x256x256, .f32⟩
  | .hbm, ⟨11, _⟩ => ⟨S2x4x3x256x256, .f32⟩
  | .hbm, ⟨12, _⟩ => ⟨S_, .f32⟩
  | .hbm, ⟨13, _⟩ => ⟨S2x4x3x256, .f32⟩
  | .hbm, ⟨14, _⟩ => ⟨S_, .f32⟩
  | .hbm, ⟨15, _⟩ => ⟨S2x4x3x256, .f32⟩
  | .hbm, ⟨16, _⟩ => ⟨S2x4x3x256, .f32⟩
  | .hbm, ⟨17, _⟩ => ⟨S2x4x3x256x1, .f32⟩
  | .hbm, ⟨18, _⟩ => ⟨S2x4x3x256x256, .f32⟩
  | .hbm, ⟨19, _⟩ => ⟨S2x4x3x256x256, .f32⟩
  | .hbm, ⟨20, _⟩ => ⟨S2x4x3x256x256, .f32⟩
  | .hbm, ⟨21, _⟩ => ⟨S_, .f32⟩
  | .hbm, ⟨22, _⟩ => ⟨S2x4x3x256, .f32⟩
  | .hbm, ⟨23, _⟩ => ⟨S2x4x3x256x1, .f32⟩
  | .hbm, ⟨24, _⟩ => ⟨S2x4x3x256x256, .f32⟩
  | .hbm, ⟨25, _⟩ => ⟨S2x4x3x256x256, .f32⟩
  | .hbm, ⟨26, _⟩ => ⟨S2x4x64x3x256, .f32⟩
  | .hbm, ⟨27, _⟩ => ⟨S2x256x4x3x64, .f32⟩
  | .hbm, ⟨28, _⟩ => ⟨S2x256x768, .f32⟩
  | .hbm, ⟨29, _⟩ => ⟨S2x16384x12x64, .f32⟩
  | .hbm, ⟨30, _⟩ => ⟨S2x16384x4x3x64, .f32⟩
  | .hbm, ⟨31, _⟩ => ⟨S2x4x16640x16384x3, .f32⟩
  | .hbm, ⟨32, _⟩ => ⟨S2x4x3x16384x16640, .f32⟩
  | .hbm, ⟨33, _⟩ => ⟨S_, .f32⟩
  | .hbm, ⟨34, _⟩ => ⟨S2x4x3x16384x16640, .f32⟩
  | .hbm, ⟨35, _⟩ => ⟨S2x4x3x16384x16640, .f32⟩
  | .hbm, ⟨36, _⟩ => ⟨S_, .f32⟩
  | .hbm, ⟨37, _⟩ => ⟨S2x4x3x16384, .f32⟩
  | .hbm, ⟨38, _⟩ => ⟨S_, .f32⟩
  | .hbm, ⟨39, _⟩ => ⟨S2x4x3x16384, .f32⟩
  | .hbm, ⟨40, _⟩ => ⟨S2x4x3x16384, .f32⟩
  | .hbm, ⟨41, _⟩ => ⟨S2x4x3x16384x1, .f32⟩
  | .hbm, ⟨42, _⟩ => ⟨S2x4x3x16384x16640, .f32⟩
  | .hbm, ⟨43, _⟩ => ⟨S2x4x3x16384x16640, .f32⟩
  | .hbm, ⟨44, _⟩ => ⟨S2x4x3x16384x16640, .f32⟩
  | .hbm, ⟨45, _⟩ => ⟨S_, .f32⟩
  | .hbm, ⟨46, _⟩ => ⟨S2x4x3x16384, .f32⟩
  | .hbm, ⟨47, _⟩ => ⟨S2x4x3x16384x1, .f32⟩
  | .hbm, ⟨48, _⟩ => ⟨S2x4x3x16384x16640, .f32⟩
  | .hbm, ⟨49, _⟩ => ⟨S2x4x3x16384x16640, .f32⟩
  | .hbm, ⟨50, _⟩ => ⟨S2x4x64x3x16384, .f32⟩
  | .hbm, ⟨51, _⟩ => ⟨S2x16384x4x3x64, .f32⟩
  | .hbm, ⟨52, _⟩ => ⟨S2x16384x768, .f32⟩
  | .hbm, ⟨53, _⟩ => ⟨S2x16640x768, .f32⟩
  | .hbm, ⟨54, _⟩ => ⟨S2x16640x768, .bf16⟩
  | _, _ => ⟨S2x16640x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== Kernel2.lean ====
abbrev S2x16640x8x96 : Shape := ⟨4, ![2, 16640, 8, 96]⟩
abbrev S2x16640x8x64 : Shape := ⟨4, ![2, 16640, 8, 64]⟩
abbrev S_ : Shape := ⟨0, ![]⟩
abbrev S2x16640x8x32 : Shape := ⟨4, ![2, 16640, 8, 32]⟩
abbrev S2x16640x8x128 : Shape := ⟨4, ![2, 16640, 8, 128]⟩
abbrev S2x16640x1024 : Shape := ⟨3, ![2, 16640, 1024]⟩
abbrev S2x1024x16640 : Shape := ⟨3, ![2, 1024, 16640]⟩
abbrev S2x16640x8x16 : Shape := ⟨4, ![2, 16640, 8, 16]⟩
abbrev S2x16640x8x80 : Shape := ⟨4, ![2, 16640, 8, 80]⟩
abbrev S2x65x256x640 : Shape := ⟨4, ![2, 65, 256, 640]⟩
abbrev S2x65x640x256 : Shape := ⟨4, ![2, 65, 640, 256]⟩
abbrev S2x16384x512 : Shape := ⟨3, ![2, 16384, 512]⟩
abbrev S1x256x256 : Shape := ⟨3, ![1, 256, 256]⟩
abbrev S1x16640x256 : Shape := ⟨3, ![1, 16640, 256]⟩
abbrev S1x65x160x256 : Shape := ⟨4, ![1, 65, 160, 256]⟩
abbrev S1x256x128 : Shape := ⟨3, ![1, 256, 128]⟩
abbrev S160x256 : Shape := ⟨2, ![160, 256]⟩
abbrev S8x256 : Shape := ⟨2, ![8, 256]⟩
abbrev S128x256 : Shape := ⟨2, ![128, 256]⟩
abbrev S256x128 : Shape := ⟨2, ![256, 128]⟩
abbrev S1x128x256 : Shape := ⟨3, ![1, 128, 256]⟩
abbrev S256x256 : Shape := ⟨2, ![256, 256]⟩
abbrev S1x256 : Shape := ⟨2, ![1, 256]⟩
abbrev S256 : Shape := ⟨1, ![256]⟩
abbrev S1x1x80x256 : Shape := ⟨4, ![1, 1, 80, 256]⟩
abbrev S80x256 : Shape := ⟨2, ![80, 256]⟩
abbrev S64x256 : Shape := ⟨2, ![64, 256]⟩

abbrev nBuf : Space → Nat
  | .hbm => 26
  | .vmem => 11
  | .smem => 0
  | _ => 0

abbrev bufTy : (tb : Table) → Fin (tcTables nBuf tb) → BufTy
  | .hbm, ⟨0, _⟩ => ⟨S2x16640x8x96, .f32⟩
  | .hbm, ⟨1, _⟩ => ⟨S2x16640x8x96, .f32⟩
  | .hbm, ⟨2, _⟩ => ⟨S2x16640x8x64, .f32⟩
  | .hbm, ⟨3, _⟩ => ⟨S_, .f32⟩
  | .hbm, ⟨4, _⟩ => ⟨S2x16640x8x96, .f32⟩
  | .hbm, ⟨5, _⟩ => ⟨S2x16640x8x96, .f32⟩
  | .hbm, ⟨6, _⟩ => ⟨S_, .f32⟩
  | .hbm, ⟨7, _⟩ => ⟨S_, .f32⟩
  | .hbm, ⟨8, _⟩ => ⟨S2x16640x8x96, .f32⟩
  | .hbm, ⟨9, _⟩ => ⟨S2x16640x8x96, .f32⟩
  | .hbm, ⟨10, _⟩ => ⟨S2x16640x8x96, .bf16⟩
  | .hbm, ⟨11, _⟩ => ⟨S_, .bf16⟩
  | .hbm, ⟨12, _⟩ => ⟨S2x16640x8x32, .bf16⟩
  | .hbm, ⟨13, _⟩ => ⟨S2x16640x8x128, .bf16⟩
  | .hbm, ⟨14, _⟩ => ⟨S2x16640x1024, .bf16⟩
  | .hbm, ⟨15, _⟩ => ⟨S2x1024x16640, .bf16⟩
  | .hbm, ⟨16, _⟩ => ⟨S2x16640x8x96, .bf16⟩
  | .hbm, ⟨17, _⟩ => ⟨S2x16640x8x128, .bf16⟩
  | .hbm, ⟨18, _⟩ => ⟨S2x16640x1024, .bf16⟩
  | .hbm, ⟨19, _⟩ => ⟨S_, .bf16⟩
  | .hbm, ⟨20, _⟩ => ⟨S2x16640x8x16, .bf16⟩
  | .hbm, ⟨21, _⟩ => ⟨S2x16640x8x64, .bf16⟩
  | .hbm, ⟨22, _⟩ => ⟨S2x16640x8x80, .bf16⟩
  | .hbm, ⟨23, _⟩ => ⟨S2x65x256x640, .bf16⟩
  | .hbm, ⟨24, _⟩ => ⟨S2x65x640x256, .bf16⟩
  | .hbm, ⟨25, _⟩ => ⟨S2x16384x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x16640x256, .bf16⟩
  | .local _ .vmem, ⟨3, _⟩ => ⟨S1x16640x256, .bf16⟩
  | .local _ .vmem, ⟨4, _⟩ => ⟨S1x65x160x256, .bf16⟩
  | .local _ .vmem, ⟨5, _⟩ => ⟨S1x65x160x256, .bf16⟩
  | .local _ .vmem, ⟨6, _⟩ => ⟨S1x256x128, .bf16⟩
  | .local _ .vmem, ⟨7, _⟩ => ⟨S1x256x128, .bf16⟩
  | .local _ .vmem, ⟨8, _⟩ => ⟨S160x256, .f32⟩
  | .local _ .vmem, ⟨9, _⟩ => ⟨S8x256, .f32⟩
  | .local _ .vmem, ⟨10, _⟩ => ⟨S128x256, .f32⟩
  | _, _ => ⟨S2x16640x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 64], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16640x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x65x160x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference2Ideal.lean ====
abbrev S2x16640x8x96 : Shape := ⟨4, ![2, 16640, 8, 96]⟩
abbrev S2x16640x8x64 : Shape := ⟨4, ![2, 16640, 8, 64]⟩
abbrev S2x16384x8x96 : Shape := ⟨4, ![2, 16384, 8, 96]⟩
abbrev S2x8x16384x16640 : Shape := ⟨4, ![2, 8, 16384, 16640]⟩
abbrev S_ : Shape := ⟨0, ![]⟩
abbrev S2x8x16384 : Shape := ⟨3, ![2, 8, 16384]⟩
abbrev S2x8x16384x1 : Shape := ⟨4, ![2, 8, 16384, 1]⟩
abbrev S2x8x64x16384 : Shape := ⟨4, ![2, 8, 64, 16384]⟩
abbrev S2x16384x8x64 : Shape := ⟨4, ![2, 16384, 8, 64]⟩
abbrev S2x16384x512 : Shape := ⟨3, ![2, 16384, 512]⟩

abbrev nBuf : Space → Nat
  | .hbm => 26
  | .vmem => 0
  | .smem => 0
  | _ => 0

abbrev bufTy : (tb : Table) → Fin (tcTables nBuf tb) → BufTy
  | .hbm, ⟨0, _⟩ => ⟨S2x16640x8x96, .f32⟩
  | .hbm, ⟨1, _⟩ => ⟨S2x16640x8x96, .f32⟩
  | .hbm, ⟨2, _⟩ => ⟨S2x16640x8x64, .f32⟩
  | .hbm, ⟨3, _⟩ => ⟨S2x16384x8x96, .f32⟩
  | .hbm, ⟨4, _⟩ => ⟨S2x8x16384x16640, .f32⟩
  | .hbm, ⟨5, _⟩ => ⟨S_, .f32⟩
  | .hbm, ⟨6, _⟩ => ⟨S2x8x16384x16640, .f32⟩
  | .hbm, ⟨7, _⟩ => ⟨S2x8x16384x16640, .f32⟩
  | .hbm, ⟨8, _⟩ => ⟨S_, .f32⟩
  | .hbm, ⟨9, _⟩ => ⟨S2x8x16384, .f32⟩
  | .hbm, ⟨10, _⟩ => ⟨S_, .f32⟩
  | .hbm, ⟨11, _⟩ => ⟨S2x8x16384, .f32⟩
  | .hbm, ⟨12, _⟩ => ⟨S2x8x16384, .f32⟩
  | .hbm, ⟨13, _⟩ => ⟨S2x8x16384x1, .f32⟩
  | .hbm, ⟨14, _⟩ => ⟨S2x8x16384x16640, .f32⟩
  | .hbm, ⟨15, _⟩ => ⟨S2x8x16384x16640, .f32⟩
  | .hbm, ⟨16, _⟩ => ⟨S2x8x16384x16640, .f32⟩
  | .hbm, ⟨17, _⟩ => ⟨S_, .f32⟩
  | .hbm, ⟨18, _⟩ => ⟨S2x8x16384, .f32⟩
  | .hbm, ⟨19, _⟩ => ⟨S2x8x16384x1, .f32⟩
  | .hbm, ⟨20, _⟩ => ⟨S2x8x16384x16640, .f32⟩
  | .hbm, ⟨21, _⟩ => ⟨S2x8x16384x16640, .f32⟩
  | .hbm, ⟨22, _⟩ => ⟨S2x8x64x16384, .f32⟩
  | .hbm, ⟨23, _⟩ => ⟨S2x16384x8x64, .f32⟩
  | .hbm, ⟨24, _⟩ => ⟨S2x16384x512, .f32⟩
  | .hbm, ⟨25, _⟩ => ⟨S2x16384x512, .bf16⟩
  | _, _ => ⟨S2x16640x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel3.lean ====
abbrev S2x16384x1024 : Shape := ⟨3, ![2, 16384, 1024]⟩
abbrev S2x256x1024 : Shape := ⟨3, ![2, 256, 1024]⟩
abbrev S2x2x6144 : Shape := ⟨3, ![2, 2, 6144]⟩
abbrev S2x6144 : Shape := ⟨2, ![2, 6144]⟩
abbrev S1024x2816 : Shape := ⟨2, ![1024, 2816]⟩
abbrev S2816x1024 : Shape := ⟨2, ![2816, 1024]⟩
abbrev S1024 : Shape := ⟨1, ![1024]⟩
abbrev S2x16640x1024 : Shape := ⟨3, ![2, 16640, 1024]⟩
abbrev S33280x1024 : Shape := ⟨2, ![33280, 1024]⟩
abbrev S2x1x6144 : Shape := ⟨3, ![2, 1, 6144]⟩
abbrev S_ : Shape := ⟨0, ![]⟩
abbrev S2x5x6144 : Shape := ⟨3, ![2, 5, 6144]⟩
abbrev S2x8x6144 : Shape := ⟨3, ![2, 8, 6144]⟩
abbrev S1x1024 : Shape := ⟨2, ![1, 1024]⟩
abbrev S256x1024 : Shape := ⟨2, ![256, 1024]⟩
abbrev S1x8x1024 : Shape := ⟨3, ![1, 8, 1024]⟩
abbrev S1x1x1024 : Shape := ⟨3, ![1, 1, 1024]⟩
abbrev S256x2816 : Shape := ⟨2, ![256, 2816]⟩
abbrev S256 : Shape := ⟨1, ![256]⟩
abbrev S256x1 : Shape := ⟨2, ![256, 1]⟩

abbrev nBuf : Space → Nat
  | .hbm => 21
  | .vmem => 12
  | .smem => 0
  | _ => 0

abbrev bufTy : (tb : Table) → Fin (tcTables nBuf tb) → BufTy
  | .hbm, ⟨0, _⟩ => ⟨S2x16384x1024, .f32⟩
  | .hbm, ⟨1, _⟩ => ⟨S2x256x1024, .f32⟩
  | .hbm, ⟨2, _⟩ => ⟨S2x2x6144, .f32⟩
  | .hbm, ⟨3, _⟩ => ⟨S2x6144, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S1024, .f32⟩
  | .hbm, ⟨9, _⟩ => ⟨S2x16640x1024, .f32⟩
  | .hbm, ⟨10, _⟩ => ⟨S33280x1024, .f32⟩
  | .hbm, ⟨11, _⟩ => ⟨S2x1x6144, .f32⟩
  | .hbm, ⟨12, _⟩ => ⟨S_, .f32⟩
  | .hbm, ⟨13, _⟩ => ⟨S2x5x6144, .f32⟩
  | .hbm, ⟨14, _⟩ => ⟨S2x8x6144, .f32⟩
  | .hbm, ⟨15, _⟩ => ⟨S1024x2816, .bf16⟩
  | .hbm, ⟨16, _⟩ => ⟨S1024x2816, .bf16⟩
  | .hbm, ⟨17, _⟩ => ⟨S2816x1024, .bf16⟩
  | .hbm, ⟨18, _⟩ => ⟨S1x1024, .f32⟩
  | .hbm, ⟨19, _⟩ => ⟨S1x1024, .f32⟩
  | .hbm, ⟨20, _⟩ => ⟨S33280x1024, .f32⟩
  | .local _ .vmem, ⟨0, _⟩ => ⟨S256x1024, .f32⟩
  | .local _ .vmem, ⟨1, _⟩ => ⟨S256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![130], ![false]⟩

def k0_off1 (i : grid0.Coords) : Fin 3 → Nat :=
  let c0_14 : Index := 0#32
  let arg0 : BitVec 32 := BitVec.ofNat 32 (i 0).val
  let c65_i32 : BitVec 32 := 65#32
  let c0_i32 : BitVec 32 := 0#32
  let v0 : BitVec 1 := Scalar.cmpi .eq c65_i32 c0_i32
  let c1_i32 : BitVec 32 := 1#32
  let v1 : BitVec 32 := Scalar.select v0 c1_i32 c65_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c0_i32_12 : BitVec 32 := 0#32
  let c1_i32_11 : BitVec 32 := 1#32
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c65_i32_4 : BitVec 32 := 65#32
  let c0_i32_7 : BitVec 32 := 0#32
  let v17 : BitVec 1 := Scalar.cmpi .sgt c65_i32_4 c0_i32_7
  let v18 : BitVec 32 := Scalar.extui v17
  let c0_i32_8 : BitVec 32 := 0#32
  let v19 : BitVec 1 := Scalar.cmpi .slt c65_i32_4 c0_i32_8
  let v20 : BitVec 32 := Scalar.extui v19
  let v21 : BitVec 32 := Scalar.subi v18 v20
  let v22 : BitVec 1 := Scalar.cmpi .ne v16 v21
  let v23 : BitVec 32 := Scalar.remsi arg0 c65_i32_4
  let c0_i32_9 : BitVec 32 := 0#32
  let v24 : BitVec 1 := Scalar.cmpi .ne v23 c0_i32_9
  let v25 : BitVec 1 := Scalar.andi v22 v24
  let v11 : BitVec 32 := Scalar.divsi arg0 c65_i32_4
  let c1_i32_10 : BitVec 32 := 1#32
  let v26 : BitVec 32 := Scalar.subi v11 c1_i32_10
  let v27 : BitVec 32 := Scalar.select v25 v26 v11
  let v28 : BitVec 32 := Scalar.addi c1_i32_11 v27
  let v29 : BitVec 32 := Scalar.select v10 c0_i32_12 v28
  let v32 : Index := Scalar.indexCast v29
  let c0_15 : Index := 0#32
  ![0, v32.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c4_i32 : BitVec 32 := 4#32
  let c0_i32_1 : BitVec 32 := 0#32
  ![c0_i32.toNat, c0_i32_0.toNat, c4_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c5_i32 : BitVec 32 := 5#32
  let c0_i32_1 : BitVec 32 := 0#32
  ![c0_i32.toNat, c0_i32_0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S2x16384x1024 : Shape := ⟨3, ![2, 16384, 1024]⟩
abbrev S2x256x1024 : Shape := ⟨3, ![2, 256, 1024]⟩
abbrev S2x2x6144 : Shape := ⟨3, ![2, 2, 6144]⟩
abbrev S2x6144 : Shape := ⟨2, ![2, 6144]⟩
abbrev S1024x2816 : Shape := ⟨2, ![1024, 2816]⟩
abbrev S2816x1024 : Shape := ⟨2, ![2816, 1024]⟩
abbrev S1024 : Shape := ⟨1, ![1024]⟩
abbrev S1x2x6144 : Shape := ⟨3, ![1, 2, 6144]⟩
abbrev S2x1x6144 : Shape := ⟨3, ![2, 1, 6144]⟩
abbrev S2x1x1024 : Shape := ⟨3, ![2, 1, 1024]⟩
abbrev S_ : Shape := ⟨0, ![]⟩
abbrev S2x16384x2816 : Shape := ⟨3, ![2, 16384, 2816]⟩
abbrev S2x16384 : Shape := ⟨2, ![2, 16384]⟩
abbrev S2x16384x1 : Shape := ⟨3, ![2, 16384, 1]⟩
abbrev S1x1x1024 : Shape := ⟨3, ![1, 1, 1024]⟩
abbrev S1x6144 : Shape := ⟨2, ![1, 6144]⟩
abbrev S6144 : Shape := ⟨1, ![6144]⟩
abbrev S1x1x6144 : Shape := ⟨3, ![1, 1, 6144]⟩
abbrev S2x256x2816 : Shape := ⟨3, ![2, 256, 2816]⟩
abbrev S2x256 : Shape := ⟨2, ![2, 256]⟩
abbrev S2x256x1 : Shape := ⟨3, ![2, 256, 1]⟩
abbrev S2x16640x1024 : Shape := ⟨3, ![2, 16640, 1024]⟩
abbrev S33280x1024 : Shape := ⟨2, ![33280, 1024]⟩

abbrev nBuf : Space → Nat
  | .hbm => 139
  | .vmem => 0
  | .smem => 0
  | _ => 0

abbrev hbmTy0_0 (i : Nat) : BufTy := match i % 128 with
  | 0 => ⟨S2x16384x1024, .f32⟩
  | 1 => ⟨S2x256x1024, .f32⟩
  | 2 => ⟨S2x2x6144, .f32⟩
  | 3 => ⟨S2x6144, .f32⟩
  | 4 => ⟨S1024x2816, .f32⟩
  | 5 => ⟨S1024x2816, .f32⟩
  | 6 => ⟨S2816x1024, .f32⟩
  | 7 => ⟨S1024, .f32⟩
  | 8 => ⟨S1024, .f32⟩
  | 9 => ⟨S1x2x6144, .f32⟩
  | 10 => ⟨S2x6144, .f32⟩
  | 11 => ⟨S2x1x6144, .f32⟩
  | 12 => ⟨S2x1x1024, .f32⟩
  | 13 => ⟨S2x1x1024, .f32⟩
  | 14 => ⟨S2x1x1024, .f32⟩
  | 15 => ⟨S2x1x1024, .f32⟩
  | 16 => ⟨S2x1x1024, .f32⟩
  | 17 => ⟨S2x1x1024, .f32⟩
  | 18 => ⟨S_, .f32⟩
  | 19 => ⟨S2x1x1024, .f32⟩
  | 20 => ⟨S2x1x1024, .f32⟩
  | 21 => ⟨S2x16384x1024, .f32⟩
  | 22 => ⟨S2x16384x1024, .f32⟩
  | 23 => ⟨S2x16384x1024, .f32⟩
  | 24 => ⟨S2x16384x1024, .f32⟩
  | 25 => ⟨S_, .f32⟩
  | 26 => ⟨S2x16384x1024, .f32⟩
  | 27 => ⟨S2x16384x1024, .f32⟩
  | 28 => ⟨S2x16384x2816, .f32⟩
  | 29 => ⟨S2x16384x2816, .f32⟩
  | 30 => ⟨S2x16384x2816, .f32⟩
  | 31 => ⟨S_, .f32⟩
  | 32 => ⟨S2x16384x2816, .f32⟩
  | 33 => ⟨S2x16384x2816, .f32⟩
  | 34 => ⟨S_, .f32⟩
  | 35 => ⟨S2x16384x2816, .f32⟩
  | 36 => ⟨S2x16384x2816, .f32⟩
  | 37 => ⟨S2x16384x2816, .f32⟩
  | 38 => ⟨S2x16384x2816, .f32⟩
  | 39 => ⟨S2x16384x2816, .f32⟩
  | 40 => ⟨S2x16384x1024, .f32⟩
  | 41 => ⟨S2x16384x1024, .f32⟩
  | 42 => ⟨S2x16384x1024, .f32⟩
  | 43 => ⟨S2x16384x1024, .f32⟩
  | 44 => ⟨S_, .f32⟩
  | 45 => ⟨S2x16384, .f32⟩
  | 46 => ⟨S2x16384x1, .f32⟩
  | 47 => ⟨S_, .f32⟩
  | 48 => ⟨S2x16384x1, .f32⟩
  | 49 => ⟨S2x16384x1, .f32⟩
  | 50 => ⟨S2x16384x1024, .f32⟩
  | 51 => ⟨S2x16384x1024, .f32⟩
  | 52 => ⟨S2x16384x1024, .f32⟩
  | 53 => ⟨S_, .f32⟩
  | 54 => ⟨S2x16384, .f32⟩
  | 55 => ⟨S2x16384x1, .f32⟩
  | 56 => ⟨S_, .f32⟩
  | 57 => ⟨S2x16384x1, .f32⟩
  | 58 => ⟨S2x16384x1, .f32⟩
  | 59 => ⟨S2x16384x1024, .f32⟩
  | 60 => ⟨S2x16384x1024, .f32⟩
  | 61 => ⟨S_, .f32⟩
  | 62 => ⟨S2x16384x1, .f32⟩
  | 63 => ⟨S2x16384x1, .f32⟩
  | 64 => ⟨S2x16384x1, .f32⟩
  | 65 => ⟨S2x16384x1024, .f32⟩
  | 66 => ⟨S2x16384x1024, .f32⟩
  | 67 => ⟨S1x1x1024, .f32⟩
  | 68 => ⟨S2x16384x1024, .f32⟩
  | 69 => ⟨S2x16384x1024, .f32⟩
  | 70 => ⟨S1x1x1024, .f32⟩
  | 71 => ⟨S2x16384x1024, .f32⟩
  | 72 => ⟨S2x16384x1024, .f32⟩
  | 73 => ⟨S1x6144, .f32⟩
  | 74 => ⟨S6144, .f32⟩
  | 75 => ⟨S1x1x6144, .f32⟩
  | 76 => ⟨S1x1x1024, .f32⟩
  | 77 => ⟨S1x1x1024, .f32⟩
  | 78 => ⟨S1x1x1024, .f32⟩
  | 79 => ⟨S1x1x1024, .f32⟩
  | 80 => ⟨S1x1x1024, .f32⟩
  | 81 => ⟨S1x1x1024, .f32⟩
  | 82 => ⟨S_, .f32⟩
  | 83 => ⟨S1x1x1024, .f32⟩
  | 84 => ⟨S1x1x1024, .f32⟩
  | 85 => ⟨S2x256x1024, .f32⟩
  | 86 => ⟨S2x256x1024, .f32⟩
  | 87 => ⟨S2x256x1024, .f32⟩
  | 88 => ⟨S2x256x1024, .f32⟩
  | 89 => ⟨S_, .f32⟩
  | 90 => ⟨S2x256x1024, .f32⟩
  | 91 => ⟨S2x256x1024, .f32⟩
  | 92 => ⟨S2x256x2816, .f32⟩
  | 93 => ⟨S2x256x2816, .f32⟩
  | 94 => ⟨S2x256x2816, .f32⟩
  | 95 => ⟨S_, .f32⟩
  | 96 => ⟨S2x256x2816, .f32⟩
  | 97 => ⟨S2x256x2816, .f32⟩
  | 98 => ⟨S_, .f32⟩
  | 99 => ⟨S2x256x2816, .f32⟩
  | 100 => ⟨S2x256x2816, .f32⟩
  | 101 => ⟨S2x256x2816, .f32⟩
  | 102 => ⟨S2x256x2816, .f32⟩
  | 103 => ⟨S2x256x2816, .f32⟩
  | 104 => ⟨S2x256x1024, .f32⟩
  | 105 => ⟨S2x256x1024, .f32⟩
  | 106 => ⟨S2x256x1024, .f32⟩
  | 107 => ⟨S2x256x1024, .f32⟩
  | 108 => ⟨S_, .f32⟩
  | 109 => ⟨S2x256, .f32⟩
  | 110 => ⟨S2x256x1, .f32⟩
  | 111 => ⟨S_, .f32⟩
  | 112 => ⟨S2x256x1, .f32⟩
  | 113 => ⟨S2x256x1, .f32⟩
  | 114 => ⟨S2x256x1024, .f32⟩
  | 115 => ⟨S2x256x1024, .f32⟩
  | 116 => ⟨S2x256x1024, .f32⟩
  | 117 => ⟨S_, .f32⟩
  | 118 => ⟨S2x256, .f32⟩
  | 119 => ⟨S2x256x1, .f32⟩
  | 120 => ⟨S_, .f32⟩
  | 121 => ⟨S2x256x1, .f32⟩
  | 122 => ⟨S2x256x1, .f32⟩
  | 123 => ⟨S2x256x1024, .f32⟩
  | 124 => ⟨S2x256x1024, .f32⟩
  | 125 => ⟨S_, .f32⟩
  | 126 => ⟨S2x256x1, .f32⟩
  | 127 => ⟨S2x256x1, .f32⟩
  | _ => ⟨S2x16384x1024, .f32⟩

abbrev hbmTy0_1 (i : Nat) : BufTy := match i % 128 with
  | 0 => ⟨S2x256x1, .f32⟩
  | 1 => ⟨S2x256x1024, .f32⟩
  | 2 => ⟨S2x256x1024, .f32⟩
  | 3 => ⟨S1x1x1024, .f32⟩
  | 4 => ⟨S2x256x1024, .f32⟩
  | 5 => ⟨S2x256x1024, .f32⟩
  | 6 => ⟨S1x1x1024, .f32⟩
  | 7 => ⟨S2x256x1024, .f32⟩
  | 8 => ⟨S2x256x1024, .f32⟩
  | 9 => ⟨S2x16640x1024, .f32⟩
  | 10 => ⟨S33280x1024, .f32⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_1 : Ref sig .tc := ⟨.hbm, 44, rfl⟩
abbrev main_v25 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_6 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_7 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_call1_v0 : Ref sig .tc := ⟨.hbm, 93, rfl⟩
abbrev main_call1_v1 : Ref sig .tc := ⟨.hbm, 94, rfl⟩
abbrev main_call1_cst : Ref sig .tc := ⟨.hbm, 95, rfl⟩
abbrev main_call1_v2 : Ref sig .tc := ⟨.hbm, 96, rfl⟩
abbrev main_call1_v3 : Ref sig .tc := ⟨.hbm, 97, rfl⟩
abbrev main_call1_cst_0 : Ref sig .tc := ⟨.hbm, 98, rfl⟩
abbrev main_call1_v4 : Ref sig .tc := ⟨.hbm, 99, rfl⟩
abbrev main_call1_v5 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_8 : Ref sig .tc := ⟨.hbm, 108, rfl⟩
abbrev main_v74 : Ref sig .tc := ⟨.hbm, 109, rfl⟩
abbrev main_v75 : Ref sig .tc := ⟨.hbm, 110, rfl⟩
abbrev main_cst_9 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_10 : Ref sig .tc := ⟨.hbm, 117, rfl⟩
abbrev main_v81 : Ref sig .tc := ⟨.hbm, 118, rfl⟩
abbrev main_v82 : Ref sig .tc := ⟨.hbm, 119, rfl⟩
abbrev main_cst_11 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_12 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩

abbrev nD : Nat := 1
abbrev τ : Topo := Topo.v7x

variable {F : FTy → Type} [FloatOps F]
-- ==== Kernel4.lean ====
abbrev S2x16384x1024 : Shape := ⟨3, ![2, 16384, 1024]⟩
abbrev S2x16384x2 : Shape := ⟨3, ![2, 16384, 2]⟩
abbrev S2x2x6144 : Shape := ⟨3, ![2, 2, 6144]⟩
abbrev S2x6144 : Shape := ⟨2, ![2, 6144]⟩
abbrev S1024 : Shape := ⟨1, ![1024]⟩
abbrev S32768x1024 : Shape := ⟨2, ![32768, 1024]⟩
abbrev S_ : Shape := ⟨0, ![]⟩
abbrev S1024x1024 : Shape := ⟨2, ![1024, 1024]⟩
abbrev S66560x1024 : Shape := ⟨2, ![66560, 1024]⟩
abbrev S32768x2 : Shape := ⟨2, ![32768, 2]⟩
abbrev S32768x124 : Shape := ⟨2, ![32768, 124]⟩
abbrev S32768x128 : Shape := ⟨2, ![32768, 128]⟩
abbrev S2x1x6144 : Shape := ⟨3, ![2, 1, 6144]⟩
abbrev S2x5x6144 : Shape := ⟨3, ![2, 5, 6144]⟩
abbrev S2x8x6144 : Shape := ⟨3, ![2, 8, 6144]⟩
abbrev S1x1024 : Shape := ⟨2, ![1, 1024]⟩
abbrev S256x1024 : Shape := ⟨2, ![256, 1024]⟩
abbrev S256x128 : Shape := ⟨2, ![256, 128]⟩
abbrev S1x8x1024 : Shape := ⟨3, ![1, 8, 1024]⟩
abbrev S256x1 : Shape := ⟨2, ![256, 1]⟩
abbrev S1x1x1024 : Shape := ⟨3, ![1, 1, 1024]⟩
abbrev S256 : Shape := ⟨1, ![256]⟩

abbrev nBuf : Space → Nat
  | .hbm => 27
  | .vmem => 13
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S2x16384x2, .f32⟩
  | .hbm, ⟨4, _⟩ => ⟨S2x2x6144, .f32⟩
  | .hbm, ⟨5, _⟩ => ⟨S2x6144, .f32⟩
  | .hbm, ⟨6, _⟩ => ⟨S1024, .f32⟩
  | .hbm, ⟨7, _⟩ => ⟨S1024, .f32⟩
  | .hbm, ⟨8, _⟩ => ⟨S32768x1024, .f32⟩
  | .hbm, ⟨9, _⟩ => ⟨S32768x1024, .f32⟩
  | .hbm, ⟨10, _⟩ => ⟨S_, .f32⟩
  | .hbm, ⟨11, _⟩ => ⟨S1024x1024, .f32⟩
  | .hbm, ⟨12, _⟩ => ⟨S66560x1024, .f32⟩
  | .hbm, ⟨13, _⟩ => ⟨S32768x2, .f32⟩
  | .hbm, ⟨14, _⟩ => ⟨S_, .f32⟩
  | .hbm, ⟨15, _⟩ => ⟨S32768x2, .f32⟩
  | .hbm, ⟨16, _⟩ => ⟨S_, .f32⟩
  | .hbm, ⟨17, _⟩ => ⟨S32768x124, .f32⟩
  | .hbm, ⟨18, _⟩ => ⟨S32768x128, .f32⟩
  | .hbm, ⟨19, _⟩ => ⟨S2x1x6144, .f32⟩
  | .hbm, ⟨20, _⟩ => ⟨S_, .f32⟩
  | .hbm, ⟨21, _⟩ => ⟨S2x5x6144, .f32⟩
  | .hbm, ⟨22, _⟩ => ⟨S2x8x6144, .f32⟩
  | .hbm, ⟨23, _⟩ => ⟨S32768x1024, .f32⟩
  | .hbm, ⟨24, _⟩ => ⟨S1x1024, .f32⟩
  | .hbm, ⟨25, _⟩ => ⟨S1x1024, .f32⟩
  | .hbm, ⟨26, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x128, .f32⟩
  | .local _ .vmem, ⟨7, _⟩ => ⟨S256x128, .f32⟩
  | .local _ .vmem, ⟨8, _⟩ => ⟨S1x8x1024, .f32⟩
  | .local _ .vmem, ⟨9, _⟩ => ⟨S1x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![128], ![false]⟩

def k0_off1 (i : grid0.Coords) : Fin 3 → Nat :=
  let c0_10 : Index := 0#32
  let c1_i32_4 : BitVec 32 := 1#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c64_i32 : BitVec 32 := 64#32
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let v0 : BitVec 32 := Scalar.divsi arg0 c64_i32
  let c1_i32 : BitVec 32 := 1#32
  let v15 : BitVec 32 := Scalar.subi v0 c1_i32
  let v16 : BitVec 32 := Scalar.select v14 v15 v0
  let v17 : BitVec 32 := Scalar.addi c1_i32_4 v16
  let v31 : Index := Scalar.indexCast v17
  let c0_11 : Index := 0#32
  ![0, v31.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.addi arg0 c128_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c5_i32 : BitVec 32 := 5#32
  let c0_i32_0 : BitVec 32 := 0#32
  ![c1_i32.toNat, c0_i32.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S2x16384x1024 : Shape := ⟨3, ![2, 16384, 1024]⟩
abbrev S2x16384x2 : Shape := ⟨3, ![2, 16384, 2]⟩
abbrev S2x2x6144 : Shape := ⟨3, ![2, 2, 6144]⟩
abbrev S2x6144 : Shape := ⟨2, ![2, 6144]⟩
abbrev S1024 : Shape := ⟨1, ![1024]⟩
abbrev S1x2x6144 : Shape := ⟨3, ![1, 2, 6144]⟩
abbrev S2x1x6144 : Shape := ⟨3, ![2, 1, 6144]⟩
abbrev S2x1x1024 : Shape := ⟨3, ![2, 1, 1024]⟩
abbrev S2x16384x1 : Shape := ⟨3, ![2, 16384, 1]⟩
abbrev S_ : Shape := ⟨0, ![]⟩
abbrev S2x16384 : Shape := ⟨2, ![2, 16384]⟩
abbrev S1x1x1024 : Shape := ⟨3, ![1, 1, 1024]⟩
abbrev S32768x1024 : Shape := ⟨2, ![32768, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S2x16384x2, .f32⟩
  | .hbm, ⟨4, _⟩ => ⟨S2x2x6144, .f32⟩
  | .hbm, ⟨5, _⟩ => ⟨S2x6144, .f32⟩
  | .hbm, ⟨6, _⟩ => ⟨S1024, .f32⟩
  | .hbm, ⟨7, _⟩ => ⟨S1024, .f32⟩
  | .hbm, ⟨8, _⟩ => ⟨S1x2x6144, .f32⟩
  | .hbm, ⟨9, _⟩ => ⟨S2x6144, .f32⟩
  | .hbm, ⟨10, _⟩ => ⟨S2x1x6144, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x16384x1, .f32⟩
  | .hbm, ⟨18, _⟩ => ⟨S2x16384x1024, .f32⟩
  | .hbm, ⟨19, _⟩ => ⟨S2x16384x1024, .f32⟩
  | .hbm, ⟨20, _⟩ => ⟨S2x16384x1, .f32⟩
  | .hbm, ⟨21, _⟩ => ⟨S2x16384x1024, .f32⟩
  | .hbm, ⟨22, _⟩ => ⟨S2x16384x1024, .f32⟩
  | .hbm, ⟨23, _⟩ => ⟨S2x16384x1024, .f32⟩
  | .hbm, ⟨24, _⟩ => ⟨S_, .f32⟩
  | .hbm, ⟨25, _⟩ => ⟨S2x16384x1024, .f32⟩
  | .hbm, ⟨26, _⟩ => ⟨S2x16384x1024, .f32⟩
  | .hbm, ⟨27, _⟩ => ⟨S2x16384x1024, .f32⟩
  | .hbm, ⟨28, _⟩ => ⟨S2x16384x1024, .f32⟩
  | .hbm, ⟨29, _⟩ => ⟨S2x16384x1024, .f32⟩
  | .hbm, ⟨30, _⟩ => ⟨S_, .f32⟩
  | .hbm, ⟨31, _⟩ => ⟨S2x16384, .f32⟩
  | .hbm, ⟨32, _⟩ => ⟨S2x16384x1, .f32⟩
  | .hbm, ⟨33, _⟩ => ⟨S_, .f32⟩
  | .hbm, ⟨34, _⟩ => ⟨S2x16384x1, .f32⟩
  | .hbm, ⟨35, _⟩ => ⟨S2x16384x1, .f32⟩
  | .hbm, ⟨36, _⟩ => ⟨S2x16384x1024, .f32⟩
  | .hbm, ⟨37, _⟩ => ⟨S2x16384x1024, .f32⟩
  | .hbm, ⟨38, _⟩ => ⟨S2x16384x1024, .f32⟩
  | .hbm, ⟨39, _⟩ => ⟨S_, .f32⟩
  | .hbm, ⟨40, _⟩ => ⟨S2x16384, .f32⟩
  | .hbm, ⟨41, _⟩ => ⟨S2x16384x1, .f32⟩
  | .hbm, ⟨42, _⟩ => ⟨S_, .f32⟩
  | .hbm, ⟨43, _⟩ => ⟨S2x16384x1, .f32⟩
  | .hbm, ⟨44, _⟩ => ⟨S2x16384x1, .f32⟩
  | .hbm, ⟨45, _⟩ => ⟨S2x16384x1024, .f32⟩
  | .hbm, ⟨46, _⟩ => ⟨S2x16384x1024, .f32⟩
  | .hbm, ⟨47, _⟩ => ⟨S_, .f32⟩
  | .hbm, ⟨48, _⟩ => ⟨S2x16384x1, .f32⟩
  | .hbm, ⟨49, _⟩ => ⟨S2x16384x1, .f32⟩
  | .hbm, ⟨50, _⟩ => ⟨S2x16384x1, .f32⟩
  | .hbm, ⟨51, _⟩ => ⟨S2x16384x1024, .f32⟩
  | .hbm, ⟨52, _⟩ => ⟨S2x16384x1024, .f32⟩
  | .hbm, ⟨53, _⟩ => ⟨S1x1x1024, .f32⟩
  | .hbm, ⟨54, _⟩ => ⟨S2x16384x1024, .f32⟩
  | .hbm, ⟨55, _⟩ => ⟨S2x16384x1024, .f32⟩
  | .hbm, ⟨56, _⟩ => ⟨S1x1x1024, .f32⟩
  | .hbm, ⟨57, _⟩ => ⟨S2x16384x1024, .f32⟩
  | .hbm, ⟨58, _⟩ => ⟨S2x16384x1024, .f32⟩
  | .hbm, ⟨59, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel5.lean ====
abbrev S2x16384x768 : Shape := ⟨3, ![2, 16384, 768]⟩
abbrev S2x256x768 : Shape := ⟨3, ![2, 256, 768]⟩
abbrev S2x16384x256 : Shape := ⟨3, ![2, 16384, 256]⟩
abbrev S2x256x256 : Shape := ⟨3, ![2, 256, 256]⟩
abbrev S2x16384x1024 : Shape := ⟨3, ![2, 16384, 1024]⟩
abbrev S2x256x1024 : Shape := ⟨3, ![2, 256, 1024]⟩
abbrev S2x2x6144 : Shape := ⟨3, ![2, 2, 6144]⟩
abbrev S2x6144 : Shape := ⟨2, ![2, 6144]⟩
abbrev S1024x1024 : Shape := ⟨2, ![1024, 1024]⟩
abbrev S1024 : Shape := ⟨1, ![1024]⟩
abbrev S2x16640x768 : Shape := ⟨3, ![2, 16640, 768]⟩
abbrev S33280x768 : Shape := ⟨2, ![33280, 768]⟩
abbrev S2x16640x256 : Shape := ⟨3, ![2, 16640, 256]⟩
abbrev S33280x256 : Shape := ⟨2, ![33280, 256]⟩
abbrev S2x1x6144 : Shape := ⟨3, ![2, 1, 6144]⟩
abbrev S_ : Shape := ⟨0, ![]⟩
abbrev S2x5x6144 : Shape := ⟨3, ![2, 5, 6144]⟩
abbrev S2x8x6144 : Shape := ⟨3, ![2, 8, 6144]⟩
abbrev S768x1024 : Shape := ⟨2, ![768, 1024]⟩
abbrev S256x1024 : Shape := ⟨2, ![256, 1024]⟩
abbrev S512x1024 : Shape := ⟨2, ![512, 1024]⟩
abbrev S32768x1024 : Shape := ⟨2, ![32768, 1024]⟩
abbrev S1x1024 : Shape := ⟨2, ![1, 1024]⟩
abbrev S33280x1024 : Shape := ⟨2, ![33280, 1024]⟩
abbrev S256x768 : Shape := ⟨2, ![256, 768]⟩
abbrev S256x256 : Shape := ⟨2, ![256, 256]⟩
abbrev S1x8x1024 : Shape := ⟨3, ![1, 8, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 29
  | .vmem => 15
  | .smem => 0
  | _ => 0

abbrev bufTy : (tb : Table) → Fin (tcTables nBuf tb) → BufTy
  | .hbm, ⟨0, _⟩ => ⟨S2x16384x768, .f32⟩
  | .hbm, ⟨1, _⟩ => ⟨S2x256x768, .f32⟩
  | .hbm, ⟨2, _⟩ => ⟨S2x16384x256, .f32⟩
  | .hbm, ⟨3, _⟩ => ⟨S2x256x256, .f32⟩
  | .hbm, ⟨4, _⟩ => ⟨S2x16384x1024, .f32⟩
  | .hbm, ⟨5, _⟩ => ⟨S2x256x1024, .f32⟩
  | .hbm, ⟨6, _⟩ => ⟨S2x2x6144, .f32⟩
  | .hbm, ⟨7, _⟩ => ⟨S2x6144, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S2x16640x768, .f32⟩
  | .hbm, ⟨12, _⟩ => ⟨S33280x768, .f32⟩
  | .hbm, ⟨13, _⟩ => ⟨S33280x768, .bf16⟩
  | .hbm, ⟨14, _⟩ => ⟨S2x16640x256, .f32⟩
  | .hbm, ⟨15, _⟩ => ⟨S33280x256, .f32⟩
  | .hbm, ⟨16, _⟩ => ⟨S33280x256, .bf16⟩
  | .hbm, ⟨17, _⟩ => ⟨S2x1x6144, .f32⟩
  | .hbm, ⟨18, _⟩ => ⟨S_, .f32⟩
  | .hbm, ⟨19, _⟩ => ⟨S2x5x6144, .f32⟩
  | .hbm, ⟨20, _⟩ => ⟨S2x8x6144, .f32⟩
  | .hbm, ⟨21, _⟩ => ⟨S1024x1024, .bf16⟩
  | .hbm, ⟨22, _⟩ => ⟨S768x1024, .bf16⟩
  | .hbm, ⟨23, _⟩ => ⟨S256x1024, .bf16⟩
  | .hbm, ⟨24, _⟩ => ⟨S512x1024, .f32⟩
  | .hbm, ⟨25, _⟩ => ⟨S32768x1024, .f32⟩
  | .hbm, ⟨26, _⟩ => ⟨S1x1024, .f32⟩
  | .hbm, ⟨27, _⟩ => ⟨S1x1024, .f32⟩
  | .hbm, ⟨28, _⟩ => ⟨S33280x1024, .f32⟩
  | .local _ .vmem, ⟨0, _⟩ => ⟨S256x768, .bf16⟩
  | .local _ .vmem, ⟨1, _⟩ => ⟨S256x768, .bf16⟩
  | .local _ .vmem, ⟨2, _⟩ => ⟨S256x256, .bf16⟩
  | .local _ .vmem, ⟨3, _⟩ => ⟨S256x256, .bf16⟩
  | .local _ .vmem, ⟨4, _⟩ => ⟨S768x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x8x1024, .f32⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | _, _ => ⟨S2x16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![130], ![false]⟩

def k0_off1 (i : grid0.Coords) : Fin 3 → Nat :=
  let c0_23 : Index := 0#32
  let arg0 : BitVec 32 := BitVec.ofNat 32 (i 0).val
  let c65_i32_7 : BitVec 32 := 65#32
  let c0_i32_8 : BitVec 32 := 0#32
  let v16 : BitVec 1 := Scalar.cmpi .eq c65_i32_7 c0_i32_8
  let c1_i32_9 : BitVec 32 := 1#32
  let v17 : BitVec 32 := Scalar.select v16 c1_i32_9 c65_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c0_i32_13 : BitVec 32 := 0#32
  let v26 : BitVec 1 := Scalar.cmpi .eq v25 c0_i32_13
  let c0_i32_22 : BitVec 32 := 0#32
  let c1_i32_21 : BitVec 32 := 1#32
  let c0_i32_15 : BitVec 32 := 0#32
  let v28 : BitVec 1 := Scalar.cmpi .sgt arg0 c0_i32_15
  let v29 : BitVec 32 := Scalar.extui v28
  let c0_i32_16 : BitVec 32 := 0#32
  let v30 : BitVec 1 := Scalar.cmpi .slt arg0 c0_i32_16
  let v31 : BitVec 32 := Scalar.extui v30
  let v32 : BitVec 32 := Scalar.subi v29 v31
  let c65_i32_14 : BitVec 32 := 65#32
  let c0_i32_17 : BitVec 32 := 0#32
  let v33 : BitVec 1 := Scalar.cmpi .sgt c65_i32_14 c0_i32_17
  let v34 : BitVec 32 := Scalar.extui v33
  let c0_i32_18 : BitVec 32 := 0#32
  let v35 : BitVec 1 := Scalar.cmpi .slt c65_i32_14 c0_i32_18
  let v36 : BitVec 32 := Scalar.extui v35
  let v37 : BitVec 32 := Scalar.subi v34 v36
  let v38 : BitVec 1 := Scalar.cmpi .ne v32 v37
  let v39 : BitVec 32 := Scalar.remsi arg0 c65_i32_14
  let c0_i32_19 : BitVec 32 := 0#32
  let v40 : BitVec 1 := Scalar.cmpi .ne v39 c0_i32_19
  let v41 : BitVec 1 := Scalar.andi v38 v40
  let v27 : BitVec 32 := Scalar.divsi arg0 c65_i32_14
  let c1_i32_20 : BitVec 32 := 1#32
  let v42 : BitVec 32 := Scalar.subi v27 c1_i32_20
  let v43 : BitVec 32 := Scalar.select v41 v42 v27
  let v44 : BitVec 32 := Scalar.addi c1_i32_21 v43
  let v45 : BitVec 32 := Scalar.select v26 c0_i32_22 v44
  let v46 : Index := Scalar.indexCast v45
  let c0_24 : Index := 0#32
  ![0, v46.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c65_i32 : BitVec 32 := 65#32
  let v0 : BitVec 32 := Scalar.divsi arg0 c65_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c65_i32 c0_i32_1
  let v7 : BitVec 32 := Scalar.extui v6
  let c0_i32_2 : BitVec 32 := 0#32
  let v8 : BitVec 1 := Scalar.cmpi .slt c65_i32 c0_i32_2
  let v9 : BitVec 32 := Scalar.extui v8
  let v10 : BitVec 32 := Scalar.subi v7 v9
  let v11 : BitVec 1 := Scalar.cmpi .ne v5 v10
  let v12 : BitVec 32 := Scalar.remsi arg0 c65_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_5 (i : grid0.Coords) : Fin 2 → Nat :=
  let arg0 : BitVec 32 := BitVec.ofNat 32 (i 0).val
  let c65_i32 : BitVec 32 := 65#32
  let v0 : BitVec 32 := Scalar.divsi arg0 c65_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c65_i32 c0_i32_1
  let v7 : BitVec 32 := Scalar.extui v6
  let c0_i32_2 : BitVec 32 := 0#32
  let v8 : BitVec 1 := Scalar.cmpi .slt c65_i32 c0_i32_2
  let v9 : BitVec 32 := Scalar.extui v8
  let v10 : BitVec 32 := Scalar.subi v7 v9
  let v11 : BitVec 1 := Scalar.cmpi .ne v5 v10
  let v12 : BitVec 32 := Scalar.remsi arg0 c65_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli v16 c64_i32
  let c65_i32_4 : BitVec 32 := 65#32
  let c0_i32_5 : BitVec 32 := 0#32
  let v18 : BitVec 1 := Scalar.cmpi .eq c65_i32_4 c0_i32_5
  let c1_i32_6 : BitVec 32 := 1#32
  let v19 : BitVec 32 := Scalar.select v18 c1_i32_6 c65_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.subi v27 c1_i32_10
  let c0_i32_11 : BitVec 32 := 0#32
  let v29 : BitVec 32 := Scalar.maxsi v28 c0_i32_11
  let v30 : BitVec 32 := Scalar.addi v17 v29
  let c0_i32_12 : BitVec 32 := 0#32
  let c0_i32_13 : BitVec 32 := 0#32
  ![v30.toNat, c0_i32_12.toNat]

def cc0_transform_6 (i : grid0.Coords) : Fin 3 → Nat :=
  let arg0 : BitVec 32 := BitVec.ofNat 32 (i 0).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S2x16384x768 : Shape := ⟨3, ![2, 16384, 768]⟩
abbrev S2x256x768 : Shape := ⟨3, ![2, 256, 768]⟩
abbrev S2x16384x256 : Shape := ⟨3, ![2, 16384, 256]⟩
abbrev S2x256x256 : Shape := ⟨3, ![2, 256, 256]⟩
abbrev S2x16384x1024 : Shape := ⟨3, ![2, 16384, 1024]⟩
abbrev S2x256x1024 : Shape := ⟨3, ![2, 256, 1024]⟩
abbrev S2x2x6144 : Shape := ⟨3, ![2, 2, 6144]⟩
abbrev S2x6144 : Shape := ⟨2, ![2, 6144]⟩
abbrev S1024x1024 : Shape := ⟨2, ![1024, 1024]⟩
abbrev S1024 : Shape := ⟨1, ![1024]⟩
abbrev S1x2x6144 : Shape := ⟨3, ![1, 2, 6144]⟩
abbrev S2x1x6144 : Shape := ⟨3, ![2, 1, 6144]⟩
abbrev S2x1x1024 : Shape := ⟨3, ![2, 1, 1024]⟩
abbrev S1x6144 : Shape := ⟨2, ![1, 6144]⟩
abbrev S6144 : Shape := ⟨1, ![6144]⟩
abbrev S1x1x6144 : Shape := ⟨3, ![1, 1, 6144]⟩
abbrev S1x1x1024 : Shape := ⟨3, ![1, 1, 1024]⟩
abbrev S_ : Shape := ⟨0, ![]⟩
abbrev S2x256 : Shape := ⟨2, ![2, 256]⟩
abbrev S2x256x1 : Shape := ⟨3, ![2, 256, 1]⟩
abbrev S2x16384 : Shape := ⟨2, ![2, 16384]⟩
abbrev S2x16384x1 : Shape := ⟨3, ![2, 16384, 1]⟩
abbrev S2x16640x1024 : Shape := ⟨3, ![2, 16640, 1024]⟩
abbrev S33280x1024 : Shape := ⟨2, ![33280, 1024]⟩

abbrev nBuf : Space → Nat
  | .hbm => 105
  | .vmem => 0
  | .smem => 0
  | _ => 0

abbrev bufTy : (tb : Table) → Fin (tcTables nBuf tb) → BufTy
  | .hbm, ⟨0, _⟩ => ⟨S2x16384x768, .f32⟩
  | .hbm, ⟨1, _⟩ => ⟨S2x256x768, .f32⟩
  | .hbm, ⟨2, _⟩ => ⟨S2x16384x256, .f32⟩
  | .hbm, ⟨3, _⟩ => ⟨S2x256x256, .f32⟩
  | .hbm, ⟨4, _⟩ => ⟨S2x16384x1024, .f32⟩
  | .hbm, ⟨5, _⟩ => ⟨S2x256x1024, .f32⟩
  | .hbm, ⟨6, _⟩ => ⟨S2x2x6144, .f32⟩
  | .hbm, ⟨7, _⟩ => ⟨S2x6144, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1x2x6144, .f32⟩
  | .hbm, ⟨12, _⟩ => ⟨S2x6144, .f32⟩
  | .hbm, ⟨13, _⟩ => ⟨S2x1x6144, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S1x6144, .f32⟩
  | .hbm, ⟨21, _⟩ => ⟨S6144, .f32⟩
  | .hbm, ⟨22, _⟩ => ⟨S1x1x6144, .f32⟩
  | .hbm, ⟨23, _⟩ => ⟨S1x1x1024, .f32⟩
  | .hbm, ⟨24, _⟩ => ⟨S1x1x1024, .f32⟩
  | .hbm, ⟨25, _⟩ => ⟨S1x1x1024, .f32⟩
  | .hbm, ⟨26, _⟩ => ⟨S1x1x1024, .f32⟩
  | .hbm, ⟨27, _⟩ => ⟨S1x1x1024, .f32⟩
  | .hbm, ⟨28, _⟩ => ⟨S1x1x1024, .f32⟩
  | .hbm, ⟨29, _⟩ => ⟨S2x16384x1024, .f32⟩
  | .hbm, ⟨30, _⟩ => ⟨S2x16384x1024, .f32⟩
  | .hbm, ⟨31, _⟩ => ⟨S2x256x1024, .f32⟩
  | .hbm, ⟨32, _⟩ => ⟨S2x256x1024, .f32⟩
  | .hbm, ⟨33, _⟩ => ⟨S_, .f32⟩
  | .hbm, ⟨34, _⟩ => ⟨S2x256x1024, .f32⟩
  | .hbm, ⟨35, _⟩ => ⟨S2x256x1024, .f32⟩
  | .hbm, ⟨36, _⟩ => ⟨S2x256x1024, .f32⟩
  | .hbm, ⟨37, _⟩ => ⟨S2x256x1024, .f32⟩
  | .hbm, ⟨38, _⟩ => ⟨S2x256x1024, .f32⟩
  | .hbm, ⟨39, _⟩ => ⟨S_, .f32⟩
  | .hbm, ⟨40, _⟩ => ⟨S2x256, .f32⟩
  | .hbm, ⟨41, _⟩ => ⟨S2x256x1, .f32⟩
  | .hbm, ⟨42, _⟩ => ⟨S_, .f32⟩
  | .hbm, ⟨43, _⟩ => ⟨S2x256x1, .f32⟩
  | .hbm, ⟨44, _⟩ => ⟨S2x256x1, .f32⟩
  | .hbm, ⟨45, _⟩ => ⟨S2x256x1024, .f32⟩
  | .hbm, ⟨46, _⟩ => ⟨S2x256x1024, .f32⟩
  | .hbm, ⟨47, _⟩ => ⟨S2x256x1024, .f32⟩
  | .hbm, ⟨48, _⟩ => ⟨S_, .f32⟩
  | .hbm, ⟨49, _⟩ => ⟨S2x256, .f32⟩
  | .hbm, ⟨50, _⟩ => ⟨S2x256x1, .f32⟩
  | .hbm, ⟨51, _⟩ => ⟨S_, .f32⟩
  | .hbm, ⟨52, _⟩ => ⟨S2x256x1, .f32⟩
  | .hbm, ⟨53, _⟩ => ⟨S2x256x1, .f32⟩
  | .hbm, ⟨54, _⟩ => ⟨S2x256x1024, .f32⟩
  | .hbm, ⟨55, _⟩ => ⟨S2x256x1024, .f32⟩
  | .hbm, ⟨56, _⟩ => ⟨S_, .f32⟩
  | .hbm, ⟨57, _⟩ => ⟨S2x256x1, .f32⟩
  | .hbm, ⟨58, _⟩ => ⟨S2x256x1, .f32⟩
  | .hbm, ⟨59, _⟩ => ⟨S2x256x1, .f32⟩
  | .hbm, ⟨60, _⟩ => ⟨S2x256x1024, .f32⟩
  | .hbm, ⟨61, _⟩ => ⟨S2x256x1024, .f32⟩
  | .hbm, ⟨62, _⟩ => ⟨S1x1x1024, .f32⟩
  | .hbm, ⟨63, _⟩ => ⟨S2x256x1024, .f32⟩
  | .hbm, ⟨64, _⟩ => ⟨S2x256x1024, .f32⟩
  | .hbm, ⟨65, _⟩ => ⟨S1x1x1024, .f32⟩
  | .hbm, ⟨66, _⟩ => ⟨S2x256x1024, .f32⟩
  | .hbm, ⟨67, _⟩ => ⟨S2x256x1024, .f32⟩
  | .hbm, ⟨68, _⟩ => ⟨S_, .f32⟩
  | .hbm, ⟨69, _⟩ => ⟨S2x16384x1024, .f32⟩
  | .hbm, ⟨70, _⟩ => ⟨S2x16384x1024, .f32⟩
  | .hbm, ⟨71, _⟩ => ⟨S2x16384x1024, .f32⟩
  | .hbm, ⟨72, _⟩ => ⟨S2x16384x1024, .f32⟩
  | .hbm, ⟨73, _⟩ => ⟨S2x16384x1024, .f32⟩
  | .hbm, ⟨74, _⟩ => ⟨S_, .f32⟩
  | .hbm, ⟨75, _⟩ => ⟨S2x16384, .f32⟩
  | .hbm, ⟨76, _⟩ => ⟨S2x16384x1, .f32⟩
  | .hbm, ⟨77, _⟩ => ⟨S_, .f32⟩
  | .hbm, ⟨78, _⟩ => ⟨S2x16384x1, .f32⟩
  | .hbm, ⟨79, _⟩ => ⟨S2x16384x1, .f32⟩
  | .hbm, ⟨80, _⟩ => ⟨S2x16384x1024, .f32⟩
  | .hbm, ⟨81, _⟩ => ⟨S2x16384x1024, .f32⟩
  | .hbm, ⟨82, _⟩ => ⟨S2x16384x1024, .f32⟩
  | .hbm, ⟨83, _⟩ => ⟨S_, .f32⟩
  | .hbm, ⟨84, _⟩ => ⟨S2x16384, .f32⟩
  | .hbm, ⟨85, _⟩ => ⟨S2x16384x1, .f32⟩
  | .hbm, ⟨86, _⟩ => ⟨S_, .f32⟩
  | .hbm, ⟨87, _⟩ => ⟨S2x16384x1, .f32⟩
  | .hbm, ⟨88, _⟩ => ⟨S2x16384x1, .f32⟩
  | .hbm, ⟨89, _⟩ => ⟨S2x16384x1024, .f32⟩
  | .hbm, ⟨90, _⟩ => ⟨S2x16384x1024, .f32⟩
  | .hbm, ⟨91, _⟩ => ⟨S_, .f32⟩
  | .hbm, ⟨92, _⟩ => ⟨S2x16384x1, .f32⟩
  | .hbm, ⟨93, _⟩ => ⟨S2x16384x1, .f32⟩
  | .hbm, ⟨94, _⟩ => ⟨S2x16384x1, .f32⟩
  | .hbm, ⟨95, _⟩ => ⟨S2x16384x1024, .f32⟩
  | .hbm, ⟨96, _⟩ => ⟨S2x16384x1024, .f32⟩
  | .hbm, ⟨97, _⟩ => ⟨S1x1x1024, .f32⟩
  | .hbm, ⟨98, _⟩ => ⟨S2x16384x1024, .f32⟩
  | .hbm, ⟨99, _⟩ => ⟨S2x16384x1024, .f32⟩
  | .hbm, ⟨100, _⟩ => ⟨S1x1x1024, .f32⟩
  | .hbm, ⟨101, _⟩ => ⟨S2x16384x1024, .f32⟩
  | .hbm, ⟨102, _⟩ => ⟨S2x16384x1024, .f32⟩
  | .hbm, ⟨103, _⟩ => ⟨S2x16640x1024, .f32⟩
  | .hbm, ⟨104, _⟩ => ⟨S33280x1024, .f32⟩
  | _, _ => ⟨S2x16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_0 : Ref sig .tc := ⟨.hbm, 39, rfl⟩
abbrev main_v27 : Ref sig .tc := ⟨.hbm, 40, rfl⟩
abbrev main_v28 : Ref sig .tc := ⟨.hbm, 41, rfl⟩
abbrev main_cst_1 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_5 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_6 : Ref sig .tc := ⟨.hbm, 74, rfl⟩
abbrev main_v56 : Ref sig .tc := ⟨.hbm, 75, rfl⟩
abbrev main_v57 : Ref sig .tc := ⟨.hbm, 76, rfl⟩
abbrev main_cst_7 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_8 : Ref sig .tc := ⟨.hbm, 83, rfl⟩
abbrev main_v63 : Ref sig .tc := ⟨.hbm, 84, rfl⟩
abbrev main_v64 : Ref sig .tc := ⟨.hbm, 85, rfl⟩
abbrev main_cst_9 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_10 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩

abbrev nD : Nat := 1
abbrev τ : Topo := Topo.v7x

variable {F : FTy → Type} [FloatOps F]
-- ==== Kernel6.lean ====
abbrev S2x16384x512 : Shape := ⟨3, ![2, 16384, 512]⟩
abbrev S2x16384x1024 : Shape := ⟨3, ![2, 16384, 1024]⟩
abbrev S2x256x1024 : Shape := ⟨3, ![2, 256, 1024]⟩
abbrev S2x2x6144 : Shape := ⟨3, ![2, 2, 6144]⟩
abbrev S2x6144 : Shape := ⟨2, ![2, 6144]⟩
abbrev S1024x1024 : Shape := ⟨2, ![1024, 1024]⟩
abbrev S1024 : Shape := ⟨1, ![1024]⟩
abbrev S2x16640x1024 : Shape := ⟨3, ![2, 16640, 1024]⟩
abbrev S33280x1024 : Shape := ⟨2, ![33280, 1024]⟩
abbrev S2x1x6144 : Shape := ⟨3, ![2, 1, 6144]⟩
abbrev S_ : Shape := ⟨0, ![]⟩
abbrev S2x5x6144 : Shape := ⟨3, ![2, 5, 6144]⟩
abbrev S2x8x6144 : Shape := ⟨3, ![2, 8, 6144]⟩
abbrev S32768x512 : Shape := ⟨2, ![32768, 512]⟩
abbrev S512x1024 : Shape := ⟨2, ![512, 1024]⟩
abbrev S1x1024 : Shape := ⟨2, ![1, 1024]⟩
abbrev S32768x1024 : Shape := ⟨2, ![32768, 1024]⟩
abbrev S256x512 : Shape := ⟨2, ![256, 512]⟩
abbrev S256x1024 : Shape := ⟨2, ![256, 1024]⟩
abbrev S1x8x1024 : Shape := ⟨3, ![1, 8, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 25
  | .vmem => 13
  | .smem => 0
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S2x16384x1024, .f32⟩
  | .hbm, ⟨3, _⟩ => ⟨S2x256x1024, .f32⟩
  | .hbm, ⟨4, _⟩ => ⟨S2x2x6144, .f32⟩
  | .hbm, ⟨5, _⟩ => ⟨S2x6144, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S2x16640x1024, .f32⟩
  | .hbm, ⟨10, _⟩ => ⟨S33280x1024, .f32⟩
  | .hbm, ⟨11, _⟩ => ⟨S2x1x6144, .f32⟩
  | .hbm, ⟨12, _⟩ => ⟨S_, .f32⟩
  | .hbm, ⟨13, _⟩ => ⟨S2x5x6144, .f32⟩
  | .hbm, ⟨14, _⟩ => ⟨S2x8x6144, .f32⟩
  | .hbm, ⟨15, _⟩ => ⟨S1024x1024, .bf16⟩
  | .hbm, ⟨16, _⟩ => ⟨S32768x512, .f32⟩
  | .hbm, ⟨17, _⟩ => ⟨S32768x512, .bf16⟩
  | .hbm, ⟨18, _⟩ => ⟨S32768x512, .f32⟩
  | .hbm, ⟨19, _⟩ => ⟨S32768x512, .bf16⟩
  | .hbm, ⟨20, _⟩ => ⟨S512x1024, .bf16⟩
  | .hbm, ⟨21, _⟩ => ⟨S512x1024, .bf16⟩
  | .hbm, ⟨22, _⟩ => ⟨S1x1024, .f32⟩
  | .hbm, ⟨23, _⟩ => ⟨S1x1024, .f32⟩
  | .hbm, ⟨24, _⟩ => ⟨S32768x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S512x1024, .bf16⟩
  | .local _ .vmem, ⟨5, _⟩ => ⟨S512x1024, .bf16⟩
  | .local _ .vmem, ⟨6, _⟩ => ⟨S256x1024, .f32⟩
  | .local _ .vmem, ⟨7, _⟩ => ⟨S256x1024, .f32⟩
  | .local _ .vmem, ⟨8, _⟩ => ⟨S1x8x1024, .f32⟩
  | .local _ .vmem, ⟨9, _⟩ => ⟨S1x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![128], ![false]⟩

def k0_off1 (i : grid0.Coords) : Fin 3 → Nat :=
  let c0_6 : Index := 0#32
  let c1_i32_5 : BitVec 32 := 1#32
  let arg0 : BitVec 32 := BitVec.ofNat 32 (i 0).val
  let c0_i32 : BitVec 32 := 0#32
  let v3 : BitVec 1 := Scalar.cmpi .sgt arg0 c0_i32
  let v4 : BitVec 32 := Scalar.extui v3
  let c0_i32_1 : BitVec 32 := 0#32
  let v5 : BitVec 1 := Scalar.cmpi .slt arg0 c0_i32_1
  let v6 : BitVec 32 := Scalar.extui v5
  let v7 : BitVec 32 := Scalar.subi v4 v6
  let c64_i32 : BitVec 32 := 64#32
  let c0_i32_2 : BitVec 32 := 0#32
  let v8 : BitVec 1 := Scalar.cmpi .sgt c64_i32 c0_i32_2
  let v9 : BitVec 32 := Scalar.extui v8
  let c0_i32_3 : BitVec 32 := 0#32
  let v10 : BitVec 1 := Scalar.cmpi .slt c64_i32 c0_i32_3
  let v11 : BitVec 32 := Scalar.extui v10
  let v12 : BitVec 32 := Scalar.subi v9 v11
  let v13 : BitVec 1 := Scalar.cmpi .ne v7 v12
  let v14 : BitVec 32 := Scalar.remsi arg0 c64_i32
  let c0_i32_4 : BitVec 32 := 0#32
  let v15 : BitVec 1 := Scalar.cmpi .ne v14 c0_i32_4
  let v16 : BitVec 1 := Scalar.andi v13 v15
  let v2 : BitVec 32 := Scalar.divsi arg0 c64_i32
  let c1_i32 : BitVec 32 := 1#32
  let v17 : BitVec 32 := Scalar.subi v2 c1_i32
  let v18 : BitVec 32 := Scalar.select v16 v17 v2
  let v19 : BitVec 32 := Scalar.addi c1_i32_5 v18
  let v20 : Index := Scalar.indexCast v19
  let c0_7 : Index := 0#32
  ![0, v20.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : BitVec 32 := Scalar.addi arg0 v16
  let c1_i32_4 : BitVec 32 := 1#32
  let v18 : BitVec 32 := Scalar.addi v17 c1_i32_4
  let c0_i32_5 : BitVec 32 := 0#32
  let c0_i32_6 : BitVec 32 := 0#32
  ![v18.toNat, c0_i32_5.toNat]

def cc0_transform_5 (i : grid0.Coords) : Fin 3 → Nat :=
  let arg0 : BitVec 32 := BitVec.ofNat 32 (i 0).val
  let c1_i32 : BitVec 32 := 1#32
  let c0_i32 : BitVec 32 := 0#32
  let c2_i32 : BitVec 32 := 2#32
  let c0_i32_0 : BitVec 32 := 0#32
  ![c1_i32.toNat, c0_i32.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S2x16384x512 : Shape := ⟨3, ![2, 16384, 512]⟩
abbrev S2x16384x1024 : Shape := ⟨3, ![2, 16384, 1024]⟩
abbrev S2x256x1024 : Shape := ⟨3, ![2, 256, 1024]⟩
abbrev S2x2x6144 : Shape := ⟨3, ![2, 2, 6144]⟩
abbrev S2x6144 : Shape := ⟨2, ![2, 6144]⟩
abbrev S1024x1024 : Shape := ⟨2, ![1024, 1024]⟩
abbrev S1024 : Shape := ⟨1, ![1024]⟩
abbrev S1x2x6144 : Shape := ⟨3, ![1, 2, 6144]⟩
abbrev S2x1x6144 : Shape := ⟨3, ![2, 1, 6144]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S32768x1024 : Shape := ⟨2, ![32768, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S2x16384x1024, .f32⟩
  | .hbm, ⟨3, _⟩ => ⟨S2x256x1024, .f32⟩
  | .hbm, ⟨4, _⟩ => ⟨S2x2x6144, .f32⟩
  | .hbm, ⟨5, _⟩ => ⟨S2x6144, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1x2x6144, .f32⟩
  | .hbm, ⟨10, _⟩ => ⟨S2x6144, .f32⟩
  | .hbm, ⟨11, _⟩ => ⟨S2x1x6144, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S_, .f32⟩
  | .hbm, ⟨19, _⟩ => ⟨S2x16384x1024, .f32⟩
  | .hbm, ⟨20, _⟩ => ⟨S2x16384x1024, .f32⟩
  | .hbm, ⟨21, _⟩ => ⟨S2x16384x1024, .f32⟩
  | .hbm, ⟨22, _⟩ => ⟨S2x16384x1024, .f32⟩
  | .hbm, ⟨23, _⟩ => ⟨S2x16384x1024, .f32⟩
  | .hbm, ⟨24, _⟩ => ⟨S2x16384x1024, .f32⟩
  | .hbm, ⟨25, _⟩ => ⟨S2x16384x1024, .f32⟩
  | .hbm, ⟨26, _⟩ => ⟨S_, .f32⟩
  | .hbm, ⟨27, _⟩ => ⟨S2x16384, .f32⟩
  | .hbm, ⟨28, _⟩ => ⟨S2x16384x1, .f32⟩
  | .hbm, ⟨29, _⟩ => ⟨S_, .f32⟩
  | .hbm, ⟨30, _⟩ => ⟨S2x16384x1, .f32⟩
  | .hbm, ⟨31, _⟩ => ⟨S2x16384x1, .f32⟩
  | .hbm, ⟨32, _⟩ => ⟨S2x16384x1024, .f32⟩
  | .hbm, ⟨33, _⟩ => ⟨S2x16384x1024, .f32⟩
  | .hbm, ⟨34, _⟩ => ⟨S2x16384x1024, .f32⟩
  | .hbm, ⟨35, _⟩ => ⟨S_, .f32⟩
  | .hbm, ⟨36, _⟩ => ⟨S2x16384, .f32⟩
  | .hbm, ⟨37, _⟩ => ⟨S2x16384x1, .f32⟩
  | .hbm, ⟨38, _⟩ => ⟨S_, .f32⟩
  | .hbm, ⟨39, _⟩ => ⟨S2x16384x1, .f32⟩
  | .hbm, ⟨40, _⟩ => ⟨S2x16384x1, .f32⟩
  | .hbm, ⟨41, _⟩ => ⟨S2x16384x1024, .f32⟩
  | .hbm, ⟨42, _⟩ => ⟨S2x16384x1024, .f32⟩
  | .hbm, ⟨43, _⟩ => ⟨S_, .f32⟩
  | .hbm, ⟨44, _⟩ => ⟨S2x16384x1, .f32⟩
  | .hbm, ⟨45, _⟩ => ⟨S2x16384x1, .f32⟩
  | .hbm, ⟨46, _⟩ => ⟨S2x16384x1, .f32⟩
  | .hbm, ⟨47, _⟩ => ⟨S2x16384x1024, .f32⟩
  | .hbm, ⟨48, _⟩ => ⟨S2x16384x1024, .f32⟩
  | .hbm, ⟨49, _⟩ => ⟨S1x1x1024, .f32⟩
  | .hbm, ⟨50, _⟩ => ⟨S2x16384x1024, .f32⟩
  | .hbm, ⟨51, _⟩ => ⟨S2x16384x1024, .f32⟩
  | .hbm, ⟨52, _⟩ => ⟨S1x1x1024, .f32⟩
  | .hbm, ⟨53, _⟩ => ⟨S2x16384x1024, .f32⟩
  | .hbm, ⟨54, _⟩ => ⟨S2x16384x1024, .f32⟩
  | .hbm, ⟨55, _⟩ => ⟨S32768x1024, .f32⟩
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel7.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S2x1x6144 : Shape := ⟨3, ![2, 1, 6144]⟩
abbrev S2x8x6144 : Shape := ⟨3, ![2, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S2x1x6144, .f32⟩
  | .hbm, ⟨9, _⟩ => ⟨S2x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S2x6144x2 : Shape := ⟨3, ![2, 6144, 2]⟩
abbrev S2x2x6144 : Shape := ⟨3, ![2, 2, 6144]⟩
abbrev S2x1x6144 : Shape := ⟨3, ![2, 1, 6144]⟩
abbrev S2x5x6144 : Shape := ⟨3, ![2, 5, 6144]⟩
abbrev S2x8x6144 : Shape := ⟨3, ![2, 8, 6144]⟩

abbrev nBuf : Space → Nat
  | .hbm => 33
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S2x1024, .f32⟩
  | .hbm, ⟨5, _⟩ => ⟨S2x1024, .f32⟩
  | .hbm, ⟨6, _⟩ => ⟨S_, .f32⟩
  | .hbm, ⟨7, _⟩ => ⟨S2x1024, .f32⟩
  | .hbm, ⟨8, _⟩ => ⟨S2x1024, .f32⟩
  | .hbm, ⟨9, _⟩ => ⟨S_, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x6144x2, .f32⟩
  | .hbm, ⟨14, _⟩ => ⟨S2x2x6144, .f32⟩
  | .hbm, ⟨15, _⟩ => ⟨S2x1x6144, .f32⟩
  | .hbm, ⟨16, _⟩ => ⟨S2x2x6144, .f32⟩
  | .hbm, ⟨17, _⟩ => ⟨S2x2x6144, .f32⟩
  | .hbm, ⟨18, _⟩ => ⟨S1024, .f32⟩
  | .hbm, ⟨19, _⟩ => ⟨S1024, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S2x6144, .f32⟩
  | .hbm, ⟨28, _⟩ => ⟨S2x6144, .f32⟩
  | .hbm, ⟨29, _⟩ => ⟨S2x1x6144, .f32⟩
  | .hbm, ⟨30, _⟩ => ⟨S2x5x6144, .f32⟩
  | .hbm, ⟨31, _⟩ => ⟨S2x1x6144, .f32⟩
  | .hbm, ⟨32, _⟩ => ⟨S2x8x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== Proof.Rows.lean ====
module

public import Idealize.ShloMosaic.Lib.WritesUnit
public import Idealize.ShloMosaic.Lib.Exec.Geometry

@[expose] public section

set_option maxRecDepth 16384

noncomputable section

namespace Cert.Rows

open Idealize.ShloMosaic Idealize.ShloMosaic.TcCoe

/-- The writes of `n` stages, last first, over `base`: stage `n` writes the band of `h` rows numbered `n % q`,
    its contents a function of the writes before it. -/
def bands {Val : EltTy → Type} {e : EltTy} (R C q h : ℕ) (inb : ∀ n, ∀ a, (![h * (n % q), 0] : Fin 2 → ℕ) a + (⟨2, ![h, C]⟩ : Shape).size a ≤ (⟨2, ![R, C]⟩ : Shape).size a)
    (P : ℕ → List (View.Piece Val ⟨2, ![R, C]⟩ e) → (⟨2, ![h, C]⟩ : Shape).Idx → Val e) (base : List (View.Piece Val ⟨2, ![R, C]⟩ e)) (n : ℕ) :
    List (View.Piece Val ⟨2, ![R, C]⟩ e) :=
  Nat.rec base (fun n L => ⟨Rect.unit ![h * (n % q), 0] (⟨2, ![h, C]⟩ : Shape).size (inb n), P n L⟩ :: L) n

section generic
variable {sig : RefSig} {Val : EltTy → Type} [∀ e, Nonempty (Val e)] {e : EltTy} {R C q h : ℕ}
  {inb : ∀ n, ∀ a, (![h * (n % q), 0] : Fin 2 → ℕ) a + (⟨2, ![h, C]⟩ : Shape).size a ≤ (⟨2, ![R, C]⟩ : Shape).size a}
  (v : View sig .tc .vmem ⟨2, ![R, C]⟩ e)

/-- The band numbered `n % q` of a buffer. -/
def bandAt (inb : ∀ n, ∀ a, (![h * (n % q), 0] : Fin 2 → ℕ) a + (⟨2, ![h, C]⟩ : Shape).size a ≤ (⟨2, ![R, C]⟩ : Shape).size a)
    (f : v.ty.Contents Val) (n : ℕ) : (⟨2, ![h, C]⟩ : Shape).Idx → Val e :=
  v.readAt Val (Rect.unit (s := ⟨2, ![R, C]⟩) ![h * (n % q), 0] (⟨2, ![h, C]⟩ : Shape).size (inb n)).toLoadRect f

theorem bandAt_congr (f : v.ty.Contents Val) {n n' : ℕ} (hn : n % q = n' % q) : bandAt v inb f n = bandAt v inb f n' := by
  have key : ∀ a b : ℕ, a = b → ∀ (ia : ∀ x, (![h * a, 0] : Fin 2 → ℕ) x + (⟨2, ![h, C]⟩ : Shape).size x ≤ (⟨2, ![R, C]⟩ : Shape).size x)
      (ib : ∀ x, (![h * b, 0] : Fin 2 → ℕ) x + (⟨2, ![h, C]⟩ : Shape).size x ≤ (⟨2, ![R, C]⟩ : Shape).size x),
      (v.readAt Val (Rect.unit (s := ⟨2, ![R, C]⟩) ![h * a, 0] (⟨2, ![h, C]⟩ : Shape).size ia).toLoadRect f : (⟨2, ![h, C]⟩ : Shape).Idx → Val e)
        = v.readAt Val (Rect.unit (s := ⟨2, ![R, C]⟩) ![h * b, 0] (⟨2, ![h, C]⟩ : Shape).size ib).toLoadRect f := by
    intro a b hab ia ib; subst hab; rfl
  exact key _ _ hn _ _

/-- The newest write is what its own band reads, and nothing to the other bands. -/
theorem bandAt_cons (f : v.ty.Contents Val) (w : (⟨2, ![h, C]⟩ : Shape).Idx → Val e) (L : List (View.Piece Val ⟨2, ![R, C]⟩ e)) (n j : ℕ) :
    bandAt v inb (v.writes Val f (⟨Rect.unit (s := ⟨2, ![R, C]⟩) ![h * (n % q), 0] (⟨2, ![h, C]⟩ : Shape).size (inb n), w⟩ :: L)) j
      = if n % q = j % q then w else bandAt v inb (v.writes Val f L) j := by
  funext x
  split
  · rename_i hq
    exact View.read_writes_cons_rows_of_mem v f (inb n) w L ((Rect.unit (s := ⟨2, ![R, C]⟩) ![h * (j % q), 0] (⟨2, ![h, C]⟩ : Shape).size (inb j)).emb x) x rfl
      (by show h * (j % q) + 1 * (x 0).val = h * (n % q) + (x 0).val; rw [hq]; omega) (by show 0 + 1 * (x 1).val = (x 1).val; omega)
  · rename_i hq
    refine View.read_writes_cons_rows_of_not_mem v f (inb n) w L ((Rect.unit (s := ⟨2, ![R, C]⟩) ![h * (j % q), 0] (⟨2, ![h, C]⟩ : Shape).size (inb j)).emb x) (W := h) rfl rfl ?_
    show h * (j % q) + 1 * (x 0).val < h * (n % q) ∨ h * (n % q) + h ≤ h * (j % q) + 1 * (x 0).val
    have hx : (x 0).val < h := (x 0).isLt
    rcases Nat.lt_or_gt_of_ne hq with hlt | hlt
    · right
      have := Nat.mul_le_mul_left h (Nat.succ_le_of_lt hlt)
      rw [Nat.mul_succ] at this; omega
    · left
      have := Nat.mul_le_mul_left h (Nat.succ_le_of_lt hlt)
      rw [Nat.mul_succ] at this; omega

variable {P : ℕ → List (View.Piece Val ⟨2, ![R, C]⟩ e) → (⟨2, ![h, C]⟩ : Shape).Idx → Val e} {base : List (View.Piece Val ⟨2, ![R, C]⟩ e)}

theorem bandAt_bands_succ (f : v.ty.Contents Val) (n j : ℕ) :
    bandAt v inb (v.writes Val f (bands R C q h inb P base (n + 1))) j
      = if n % q = j % q then P n (bands R C q h inb P base n) else bandAt v inb (v.writes Val f (bands R C q h inb P base n)) j :=
  bandAt_cons v f _ _ n j

/-- A band no stage has come to holds what it held before. -/
theorem bandAt_bands_of_le (f : v.ty.Contents Val) (n j : ℕ) (hj : j < q) (hn : n ≤ j) :
    bandAt v inb (v.writes Val f (bands R C q h inb P base n)) j = bandAt v inb (v.writes Val f base) j := by
  induction n with
  | zero => rfl
  | succ n ih =>
    rw [bandAt_bands_succ, if_neg, ih (by omega)]
    rw [Nat.mod_eq_of_lt hj, Nat.mod_eq_of_lt (by omega)]; omega

/-- Round-robin recursion: band `j` holds the state of its own stages `j`, `j + q`, …. -/
theorem bandAt_bands (M : ℕ → List (View.Piece Val ⟨2, ![R, C]⟩ e) → (⟨2, ![h, C]⟩ : Shape).Idx → Val e)
    (step : ℕ → ((⟨2, ![h, C]⟩ : Shape).Idx → Val e) → (⟨2, ![h, C]⟩ : Shape).Idx → Val e)
    (hP : ∀ n L, P n L = step n (M n L)) (st : ℕ → ℕ → (⟨2, ![h, C]⟩ : Shape).Idx → Val e)
    (N : ℕ) (hst : ∀ j c, j < q → q * c + j < N → st j (c + 1) = step (q * c + j) (st j c))
    (hfirst : ∀ n, n < q → M n (bands R C q h inb P base n) = st n 0)
    (hnext : ∀ n, q ≤ n → M n (bands R C q h inb P base n) = bandAt v inb (v.writes Val v.junk (bands R C q h inb P base n)) n)
    (n : ℕ) (hN : n ≤ N) : (∀ c j, n = q * c + j → j < q → M n (bands R C q h inb P base n) = st j c) ∧
      (∀ f c j j', n = q * c + j' → j < q → j' ≤ q → j < n → bandAt v inb (v.writes Val f (bands R C q h inb P base n)) j = st j (if j < j' then c + 1 else c)) := by
  induction n with
  | zero =>
    refine ⟨fun c j hn hj => ?_, fun f c j j' hn hj hj' hlt => absurd hlt (Nat.not_lt_zero _)⟩
    have hc : c = 0 := by
      rcases Nat.eq_zero_or_pos c with h | h
      · exact h
      · have := Nat.mul_le_mul_left q h; omega
    have hj0 : j = 0 := by omega
    subst hc; subst hj0
    exact hfirst 0 hj
  | succ n ih =>
    replace ih := ih (by omega)
    have second : ∀ f c j j', n + 1 = q * c + j' → j < q → j' ≤ q → j < n + 1 →
        bandAt v inb (v.writes Val f (bands R C q h inb P base (n + 1))) j = st j (if j < j' then c + 1 else c) := by
      intro f c j j' hn hj hj' hlt
      have hqpos : 0 < q := by omega
      -- reduce to the position of the last stage
      have main : ∀ c j', n = q * c + j' → j' < q → bandAt v inb (v.writes Val f (bands R C q h inb P base (n + 1))) j = st j (if j < j' + 1 then c + 1 else c) := by
        intro c j' hn hj'
        have hmod : n % q = j' := by rw [hn, Nat.mul_add_mod, Nat.mod_eq_of_lt hj']
        rw [bandAt_bands_succ, hmod, Nat.mod_eq_of_lt hj]
        split
        · rename_i he
          subst he
          rw [if_pos (Nat.lt_succ_self _), hst _ _ hj (by omega), hP, ih.1 c j' hn hj', ← hn]
        · rename_i he
          rw [ih.2 f c j j' hn hj hj'.le (Nat.lt_of_le_of_ne (by omega) (fun h => he (hmod.symm.trans (by rw [← h, Nat.mod_eq_of_lt hj]))))]
          congr 1
          have : (j < j' + 1) = (j < j') := by apply propext; omega
          simp only [this]
      rcases Nat.eq_zero_or_pos j' with h0 | h0
      · subst h0
        have hc : 0 < c := by
          rcases Nat.eq_zero_or_pos c with h | h
          · subst h; simp at hn
          · exact h
        obtain ⟨c, rfl⟩ : ∃ d, c = d + 1 := ⟨c - 1, by omega⟩
        rw [Nat.mul_succ] at hn
        rw [main c (q - 1) (by omega) (by omega), if_pos (by omega), if_neg (by omega)]
      · rw [main c (j' - 1) (by omega) (by omega)]
        congr 1
        have : (j < j' - 1 + 1) = (j < j') := by apply propext; omega
        simp only [this]
    refine ⟨fun c j hn hj => ?_, second⟩
    rcases Nat.lt_or_ge (n + 1) q with hlt | hge
    · have hc : c = 0 := by
        rcases Nat.eq_zero_or_pos c with h | h
        · exact h
        · have := Nat.mul_le_mul_left q h; omega
      subst hc
      have hjn : j = n + 1 := by omega
      subst hjn
      exact hfirst _ hlt
    · rw [hnext _ hge, bandAt_congr v _ (n' := j) (by rw [hn, Nat.mul_add_mod]), second _ c j j hn hj hj.le (by
        rcases Nat.eq_zero_or_pos c with h | h
        · subst h; omega
        · have := Nat.mul_le_mul_left q h; omega), if_neg (lt_irrefl _)]

end generic

end Cert.Rows
end
-- ==== Proof.LatRun.lean ====
module

public import proofs.«01_k».proof.Proof.Gen.Kernel2Ideal.Frame
public import proofs.«01_k».proof.Proof.Rows

@[expose] public section

set_option maxRecDepth 16384

noncomputable section

namespace Cert.Kernel2Ideal.Mla

open Cert.Rows Cert.Kernel2Ideal Cert.Kernel2Ideal.Gen Idealize.ShloMosaic Idealize.ShloMosaic.TcCoe Idealize.ShloMosaic.Tactic

variable {F : FTy → Type} [FloatOps F]

theorem inb8 (n : ℕ) : ∀ a, (![1 * (n % 2), 0] : Fin 2 → ℕ) a + (⟨2, ![1, 256]⟩ : Shape).size a ≤ (⟨2, ![8, 256]⟩ : Shape).size a := by
  intro a; fin_cases a <;> simp <;> omega

theorem inb7 (n : ℕ) : ∀ a, (![80 * (n % 2), 0] : Fin 2 → ℕ) a + (⟨2, ![80, 256]⟩ : Shape).size a ≤ (⟨2, ![160, 256]⟩ : Shape).size a := by
  intro a; fin_cases a <;> simp <;> omega

theorem inbw (n : ℕ) : ∀ a, (![64 * (n % 2), 0] : Fin 2 → ℕ) a + (⟨2, ![64, 256]⟩ : Shape).size a ≤ (⟨2, ![128, 256]⟩ : Shape).size a := by
  intro a; fin_cases a <;> simp <;> omega

theorem inb64 (n : ℕ) : ∀ a, (![80 * (n % 2), 0] : Fin 2 → ℕ) a + S64x256.size a ≤ S160x256.size a := by
  intro a; fin_cases a <;> simp <;> omega

theorem inb1 (n : ℕ) : ∀ a, (![80 * (n % 2) + 64, 0] : Fin 2 → ℕ) a + S1x256.size a ≤ S160x256.size a := by
  intro a; fin_cases a <;> simp <;> omega

theorem inbq (n : ℕ) : ∀ a, (![0, 128 * (n % 2), 0] : Fin 3 → ℕ) a + S1x128x256.size a ≤ S1x256x256.size a := by
  intro a; fin_cases a <;> simp <;> omega

theorem inbk (n : ℕ) : ∀ a, (![0, 256 * (n / 2 % 65), 128 * (n % 2)] : Fin 3 → ℕ) a + S1x256x128.size a ≤ S1x16640x256.size a := by
  intro a; fin_cases a <;> simp <;> omega

theorem inbv (n : ℕ) : ∀ a, (![0, n / 2 % 65, 80 * (n % 2), 0] : Fin 4 → ℕ) a + S1x1x80x256.size a ≤ S1x65x160x256.size a := by
  intro a; fin_cases a <;> simp <;> omega

/-- The maxima after a stage. -/
def top (s : FVec F S256x256 .f32) (m : Vec F S1x256 .f32) : FVec F S1x256 .f32 := k0_pay16 s m
/-- The sums after a stage. -/
def acc (s : FVec F S256x256 .f32) (m : Vec F S1x256 .f32) (v : Vec F S1x1x80x256 .bf16) (a : Vec F S80x256 .f32) : FVec F S80x256 .f32 := k0_pay29 (k0_pay28 s m v a)

section run
variable (c : Dev nD) (i : grid0.Coords) (arg3 : Memref sig .tc .vmem S1x256x256 .bf16) (arg4 : Memref sig .tc .vmem S1x16640x256 .bf16) (arg5 : Memref sig .tc .vmem S1x65x160x256 .bf16)
  (arg6 : Memref sig .tc .vmem S1x256x128 .bf16) (arg7 : Memref sig .tc .vmem S160x256 .f32) (arg8 : Memref sig .tc .vmem S8x256 .f32) (arg9 : Memref sig .tc .vmem S128x256 .f32)
  (h3 : arg3.IsWhole) (h4 : arg4.IsWhole) (h5 : arg5.IsWhole) (h6 : arg6.IsWhole) (h7 : arg7.IsWhole) (h8 : arg8.IsWhole) (h9 : arg9.IsWhole)
  (x0 : Vec F S1x256x256 .bf16) (x1 : Vec F S1x16640x256 .bf16) (x2 : Vec F S1x65x160x256 .bf16)

/-- The writes that clear the sums and reset the maxima. -/
def base7 : List (View.Piece (Elt F) S160x256 .f32) := [⟨Rect.unit (s := S160x256) ![0, 0] S160x256.size inb_S160x256_S160x256_0_0, k0_pay3⟩]
@[inherit_doc base7] def base8 : List (View.Piece (Elt F) S8x256 .f32) := [⟨Rect.unit (s := S8x256) ![0, 0] S8x256.size inb_S8x256_S8x256_0_0, k0_pay4⟩]

/-- The scores, the values, the maxima and the sums stage `n` finds. -/
def stS (n : ℕ) : FVec F S256x256 .f32 :=
  k0_pay5 (View.readAt (Elt F) arg4.view (Rect.unit (s := S1x16640x256) ![0, 256 * (n / 2 % 65), 128 * (n % 2)] S1x256x128.size (inbk n)).toLoadRect (h4.unread x1))
    (View.readAt (Elt F) arg3.view (Rect.unit (s := S1x256x256) ![0, 128 * (n % 2), 0] S1x128x256.size (inbq n)).toLoadRect (h3.unread x0))
@[inherit_doc stS] def stV (n : ℕ) : Vec F S1x1x80x256 .bf16 :=
  View.readAt (Elt F) arg5.view (Rect.unit (s := S1x65x160x256) ![0, n / 2 % 65, 80 * (n % 2), 0] S1x1x80x256.size (inbv n)).toLoadRect (h5.unread x2)
@[inherit_doc stS] def stM (n : ℕ) (L : List (View.Piece (Elt F) S8x256 .f32)) : Vec F S1x256 .f32 :=
  arg8.view.readCov L (Rect.unit (s := S8x256) ![1 * (n % 2), 0] S1x256.size (inb8 n)).toLoadRect
@[inherit_doc stS] def stA (n : ℕ) (L : List (View.Piece (Elt F) S160x256 .f32)) : Vec F S80x256 .f32 :=
  arg7.view.readCov L (Rect.unit (s := S160x256) ![80 * (n % 2), 0] S80x256.size (inb7 n)).toLoadRect

/-- The writes of the maxima. -/
def list8 (n : ℕ) : List (View.Piece (Elt F) S8x256 .f32) :=
  bands (Val := Elt F) (e := .f32) 8 256 2 1 inb8 (fun n L => top (stS arg3 arg4 h3 h4 x0 x1 n) (stM arg8 n L)) base8 n

/-- The writes of the sums. -/
def list7 (n : ℕ) : List (View.Piece (Elt F) S160x256 .f32) :=
  bands (Val := Elt F) (e := .f32) 160 256 2 80 inb7
    (fun n L => acc (stS arg3 arg4 h3 h4 x0 x1 n) (stM arg8 n (list8 arg3 arg4 arg8 h3 h4 x0 x1 n)) (stV arg5 h5 x2 n) (stA arg7 n L)) base7 n

/-- The quotients of the heads, from the writes of the sums. -/
def list9 (L7 : List (View.Piece (Elt F) S160x256 .f32)) : List (View.Piece (Elt F) S128x256 .f32) :=
  bands (Val := Elt F) (e := .f32) 128 256 2 64 inbw
    (fun n _ => k0_pay1 (arg7.view.readCov L7 (Rect.unit (s := S160x256) ![80 * (n % 2) + 64, 0] S1x256.size (inb1 n)).toLoadRect)
      (arg7.view.readCov L7 (Rect.unit (s := S160x256) ![80 * (n % 2), 0] S64x256.size (inb64 n)).toLoadRect)) [] 2

/-- The block written back, from the writes of the sums. -/
def outBlock (L7 : List (View.Piece (Elt F) S160x256 .f32)) : FVec F S1x256x128 .bf16 :=
  k0_pay2 (arg9.view.readCov (list9 arg7 L7) (Rect.unit (s := S128x256) ![0, 0] S128x256.size inb_S128x256_S128x256_0_0).toLoadRect)

set_option maxHeartbeats 4000000 in
theorem run_eq : (kernelRun0_A (F := F) c i arg3 h3 arg4 h4 arg5 h5 arg6 h6 arg7 h7 arg8 h8 arg9 h9 x0 x1 x2).1
      = [⟨Rect.unit (s := S1x256x128) ![0, 0, 0] S1x256x128.size inb_S1x256x128_S1x256x128_0_0_0, outBlock arg7 arg9 (list7 arg3 arg4 arg5 arg7 arg8 h3 h4 h5 x0 x1 x2 130)⟩] := by
  sl_kernel_rfl

end run
end Cert.Kernel2Ideal.Mla
end
-- ==== Proof.LatState.lean ====
module

public import proofs.«01_k».proof.Proof.LatRun
public import Idealize.ShloMosaic.Lib.Pointwise

@[expose] public section

set_option maxRecDepth 16384

noncomputable section

namespace Cert.Kernel2Ideal.Mla

open Cert.Rows Cert.Kernel2Ideal Cert.Kernel2Ideal.Gen Idealize.ShloMosaic Idealize.ShloMosaic.TcCoe Idealize.ShloMosaic.Tactic

variable {F : FTy → Type} [FloatOps F]

section seq
variable (x0 : Vec F S1x256x256 .bf16) (x1 : Vec F S1x16640x256 .bf16) (x2 : Vec F S1x65x160x256 .bf16)

/-- Chunk `c` of the keys of head `j`. -/
def kslice (j c : ℕ) : Vec F S1x256x128 .bf16 := fun y =>
  x1 (ix3 0 ⟨(256 * c + (y 1).val) % 16640, Nat.mod_lt _ (by decide)⟩ ⟨(128 * j + (y 2).val) % 256, Nat.mod_lt _ (by decide)⟩)
/-- The queries of head `j`. -/
def qslice (j : ℕ) : Vec F S1x128x256 .bf16 := fun y =>
  x0 (ix3 0 ⟨(128 * j + (y 1).val) % 256, Nat.mod_lt _ (by decide)⟩ ⟨(y 2).val, (y 2).isLt⟩)
/-- Chunk `c` of the values of head `j`. -/
def vslice (j c : ℕ) : Vec F S1x1x80x256 .bf16 := fun y =>
  x2 (ix4 0 ⟨c % 65, Nat.mod_lt _ (by decide)⟩ ⟨(80 * j + (y 2).val) % 160, Nat.mod_lt _ (by decide)⟩ ⟨(y 3).val, (y 3).isLt⟩)

/-- Head `j`'s scores in chunk `c`. -/
def sc (j c : ℕ) : FVec F S256x256 .f32 := k0_pay5 (kslice x1 j c) (qslice x0 j)

/-- Head `j`'s maxima before chunk `c`. -/
def mst (j : ℕ) : ℕ → Vec F S1x256 .f32
  | 0 => fun _ => Scalar.ofBits .f32 0xF149F2CA#32
  | c + 1 => top (sc x0 x1 j c) (mst j c)
/-- Head `j`'s sums before chunk `c`. -/
def ast (j : ℕ) : ℕ → Vec F S80x256 .f32
  | 0 => fun _ => Scalar.ofBits .f32 0x00000000#32
  | c + 1 => acc (sc x0 x1 j c) (mst x0 x1 j c) (vslice x2 j c) (ast j c)
end seq

/-- The reset buffers. -/
theorem band8_base (arg8 : Memref sig .tc .vmem S8x256 .f32) (f) (j : ℕ) :
    bandAt (Val := Elt F) arg8.view inb8 (arg8.view.writes (Elt F) f base8) j = fun _ => Scalar.ofBits .f32 0xF149F2CA#32 := by
  funext x
  exact View.read_writes_cons_unit_of_mem arg8.view f _ k0_pay4 [] _ _ rfl (fun a => by match a with | ⟨0, _⟩ => exact (Nat.zero_add _).symm | ⟨1, _⟩ => exact (Nat.zero_add _).symm)

theorem band7_base (arg7 : Memref sig .tc .vmem S160x256 .f32) (f) (j : ℕ) :
    bandAt (Val := Elt F) arg7.view inb7 (arg7.view.writes (Elt F) f base7) j = fun _ => Scalar.ofBits .f32 0x00000000#32 := by
  funext x
  exact View.read_writes_cons_unit_of_mem arg7.view f _ k0_pay3 [] _ _ rfl (fun a => by match a with | ⟨0, _⟩ => exact (Nat.zero_add _).symm | ⟨1, _⟩ => exact (Nat.zero_add _).symm)

section run
variable (arg3 : Memref sig .tc .vmem S1x256x256 .bf16) (arg4 : Memref sig .tc .vmem S1x16640x256 .bf16) (arg5 : Memref sig .tc .vmem S1x65x160x256 .bf16)
  (arg7 : Memref sig .tc .vmem S160x256 .f32) (arg8 : Memref sig .tc .vmem S8x256 .f32) (arg9 : Memref sig .tc .vmem S128x256 .f32)
  (h3 : arg3.IsWhole) (h4 : arg4.IsWhole) (h5 : arg5.IsWhole)
  (x0 : Vec F S1x256x256 .bf16) (x1 : Vec F S1x16640x256 .bf16) (x2 : Vec F S1x65x160x256 .bf16)

theorem read_q (n : ℕ) : View.readAt (Elt F) arg3.view (Rect.unit (s := S1x256x256) ![0, 128 * (n % 2), 0] S1x128x256.size (inbq n)).toLoadRect (h3.unread x0) = qslice x0 (n % 2) := by
  funext y
  show arg3.view.read (Elt F) (h3.unread x0) _ = _
  rw [h3.read_unread]
  refine congrArg x0 (funext fun a => Fin.ext ?_)
  have h1 : (y 1).val < 128 := (y 1).isLt
  have h0 : (y 0).val < 1 := (y 0).isLt
  match a with
  | ⟨0, _⟩ => show 0 + 1 * (y 0).val = 0; omega
  | ⟨1, _⟩ => show 128 * (n % 2) + 1 * (y 1).val = (128 * (n % 2) + (y 1).val) % 256; omega
  | ⟨2, _⟩ => show 0 + 1 * (y 2).val = (y 2).val; omega

theorem read_k (n : ℕ) : View.readAt (Elt F) arg4.view (Rect.unit (s := S1x16640x256) ![0, 256 * (n / 2 % 65), 128 * (n % 2)] S1x256x128.size (inbk n)).toLoadRect (h4.unread x1)
    = kslice x1 (n % 2) (n / 2 % 65) := by
  funext y
  show arg4.view.read (Elt F) (h4.unread x1) _ = _
  rw [h4.read_unread]
  refine congrArg x1 (funext fun a => Fin.ext ?_)
  have h1 : (y 1).val < 256 := (y 1).isLt
  have h2 : (y 2).val < 128 := (y 2).isLt
  have h0 : (y 0).val < 1 := (y 0).isLt
  match a with
  | ⟨0, _⟩ => show 0 + 1 * (y 0).val = 0; omega
  | ⟨1, _⟩ => show 256 * (n / 2 % 65) + 1 * (y 1).val = (256 * (n / 2 % 65) + (y 1).val) % 16640; omega
  | ⟨2, _⟩ => show 128 * (n % 2) + 1 * (y 2).val = (128 * (n % 2) + (y 2).val) % 256; omega

theorem read_v (n : ℕ) : View.readAt (Elt F) arg5.view (Rect.unit (s := S1x65x160x256) ![0, n / 2 % 65, 80 * (n % 2), 0] S1x1x80x256.size (inbv n)).toLoadRect (h5.unread x2)
    = vslice x2 (n % 2) (n / 2 % 65) := by
  funext y
  show arg5.view.read (Elt F) (h5.unread x2) _ = _
  rw [h5.read_unread]
  refine congrArg x2 (funext fun a => Fin.ext ?_)
  have h2 : (y 2).val < 80 := (y 2).isLt
  have h1 : (y 1).val < 1 := (y 1).isLt
  have h0 : (y 0).val < 1 := (y 0).isLt
  match a with
  | ⟨0, _⟩ => show 0 + 1 * (y 0).val = 0; omega
  | ⟨1, _⟩ => show n / 2 % 65 + 1 * (y 1).val = n / 2 % 65 % 65; omega
  | ⟨2, _⟩ => show 80 * (n % 2) + 1 * (y 2).val = (80 * (n % 2) + (y 2).val) % 160; omega
  | ⟨3, _⟩ => show 0 + 1 * (y 3).val = (y 3).val; omega

theorem stS_eq (j c : ℕ) (hj : j < 2) (hc : 2 * c + j < 130) : stS arg3 arg4 h3 h4 x0 x1 (2 * c + j) = sc x0 x1 j c := by
  unfold stS sc
  rw [read_q, read_k, show (2 * c + j) % 2 = j by omega, show (2 * c + j) / 2 % 65 = c by omega]

theorem stV_eq (j c : ℕ) (hj : j < 2) (hc : 2 * c + j < 130) : stV arg5 h5 x2 (2 * c + j) = vslice x2 j c := by
  unfold stV
  rw [read_v, show (2 * c + j) % 2 = j by omega, show (2 * c + j) / 2 % 65 = c by omega]

/-- The stages leave every head's state after its sixty-five chunks. -/
theorem run_bands (j : ℕ) (hj : j < 2) :
    bandAt (Val := Elt F) arg7.view inb7 (arg7.view.writes (Elt F) arg7.view.junk (list7 arg3 arg4 arg5 arg7 arg8 h3 h4 h5 x0 x1 x2 130)) j = ast x0 x1 x2 j 65 := by
  have e8 := fun n hn => bandAt_bands (Val := Elt F) arg8.view (inb := inb8) (base := base8) (P := fun n L => top (stS arg3 arg4 h3 h4 x0 x1 n) (stM arg8 n L)) (stM arg8)
    (fun n x => top (stS arg3 arg4 h3 h4 x0 x1 n) x) (fun _ _ => rfl) (fun j c => mst x0 x1 j c) 130
    (fun j c hj hlt => by
      show top (sc x0 x1 j c) _ = top (stS arg3 arg4 h3 h4 x0 x1 (2 * c + j)) _
      rw [stS_eq arg3 arg4 h3 h4 x0 x1 j c hj hlt])
    (fun n hn => (bandAt_bands_of_le (Val := Elt F) arg8.view arg8.view.junk n n hn le_rfl).trans (band8_base arg8 _ n)) (fun n hn => rfl) n hn
  have e7 := bandAt_bands (Val := Elt F) arg7.view (inb := inb7) (base := base7)
    (P := fun n L => acc (stS arg3 arg4 h3 h4 x0 x1 n) (stM arg8 n (list8 arg3 arg4 arg8 h3 h4 x0 x1 n)) (stV arg5 h5 x2 n) (stA arg7 n L)) (stA arg7)
    (fun n x => acc (stS arg3 arg4 h3 h4 x0 x1 n) (stM arg8 n (list8 arg3 arg4 arg8 h3 h4 x0 x1 n)) (stV arg5 h5 x2 n) x) (fun _ _ => rfl) (fun j c => ast x0 x1 x2 j c) 130
    (fun j c hj hlt => by
      show acc (sc x0 x1 j c) (mst x0 x1 j c) (vslice x2 j c) _ = acc (stS arg3 arg4 h3 h4 x0 x1 (2 * c + j)) (stM arg8 (2 * c + j) _) (stV arg5 h5 x2 (2 * c + j)) _
      rw [stS_eq arg3 arg4 h3 h4 x0 x1 j c hj hlt, stV_eq arg5 h5 x2 j c hj hlt]
      exact congrArg (fun m => acc _ m _ _) ((e8 _ (by omega)).1 c j rfl hj).symm)
    (fun n hn => (bandAt_bands_of_le (Val := Elt F) arg7.view arg7.view.junk n n hn le_rfl).trans (band7_base arg7 _ n)) (fun n hn => rfl) 130 le_rfl
  exact (e7.2 arg7.view.junk 65 j 0 rfl hj (by decide) (by omega)).trans (by rw [if_neg (by omega)])

/-- The quotient of a head's sums by its sum of weights. -/
def quot (a : Vec F S80x256 .f32) : FVec F S64x256 .f32 :=
  k0_pay1 (fun y => a (ix2 64 ⟨(y 1).val, (y 1).isLt⟩)) (fun y => a (ix2 ⟨(y 0).val, lt_of_lt_of_le (y 0).isLt (show 64 ≤ 80 by decide)⟩ ⟨(y 1).val, (y 1).isLt⟩))

theorem list9_bands (L7 : List (View.Piece (Elt F) S160x256 .f32)) (a : ℕ → Vec F S80x256 .f32)
    (hL : ∀ j, j < 2 → bandAt (Val := Elt F) arg7.view inb7 (arg7.view.writes (Elt F) arg7.view.junk L7) j = a j) (f) (j : ℕ) (hj : j < 2) :
    bandAt (Val := Elt F) arg9.view inbw (arg9.view.writes (Elt F) f (list9 arg7 L7)) j = quot (a j) := by
  have hP : ∀ n, n < 2 → k0_pay1 (arg7.view.readCov L7 (Rect.unit (s := S160x256) ![80 * (n % 2) + 64, 0] S1x256.size (inb1 n)).toLoadRect)
      (arg7.view.readCov L7 (Rect.unit (s := S160x256) ![80 * (n % 2), 0] S64x256.size (inb64 n)).toLoadRect) = quot (a n) := by
    intro n hn
    unfold quot
    rw [← hL n hn]
    refine congrArg₂ k0_pay1 (funext fun y => ?_) (funext fun y => ?_)
    · refine congrArg (arg7.view.read (Elt F) (arg7.view.writes (Elt F) arg7.view.junk L7)) (funext fun a => Fin.ext ?_)
      have h0 : (y 0).val < 1 := (y 0).isLt
      match a with
      | ⟨0, _⟩ => show 80 * (n % 2) + 64 + 1 * (y 0).val = 80 * (n % 2) + 1 * 64; omega
      | ⟨1, _⟩ => show 0 + 1 * (y 1).val = 0 + 1 * (y 1).val; rfl
    · refine congrArg (arg7.view.read (Elt F) (arg7.view.writes (Elt F) arg7.view.junk L7)) (funext fun a => Fin.ext ?_)
      match a with
      | ⟨0, _⟩ => rfl
      | ⟨1, _⟩ => rfl
  unfold list9
  have u := fun n => bandAt_bands_succ (Val := Elt F) (e := .f32) (R := 128) (C := 256) (q := 2) (h := 64) (inb := inbw) arg9.view (base := [])
    (P := fun n _ => k0_pay1 (arg7.view.readCov L7 (Rect.unit (s := S160x256) ![80 * (n % 2) + 64, 0] S1x256.size (inb1 n)).toLoadRect)
      (arg7.view.readCov L7 (Rect.unit (s := S160x256) ![80 * (n % 2), 0] S64x256.size (inb64 n)).toLoadRect)) f n j
  have main : ∀ n, j < n → n ≤ 2 → bandAt (Val := Elt F) arg9.view inbw (arg9.view.writes (Elt F) f (bands (Val := Elt F) (e := .f32) 128 256 2 64 inbw
    (fun n _ => k0_pay1 (arg7.view.readCov L7 (Rect.unit (s := S160x256) ![80 * (n % 2) + 64, 0] S1x256.size (inb1 n)).toLoadRect)
      (arg7.view.readCov L7 (Rect.unit (s := S160x256) ![80 * (n % 2), 0] S64x256.size (inb64 n)).toLoadRect)) [] n)) j = quot (a j) := by
    intro n
    induction n with
    | zero => exact fun h => absurd h (Nat.not_lt_zero _)
    | succ n ih =>
      intro hlt hle
      rw [u n]
      split
      · obtain rfl : n = j := by omega
        exact hP n hj
      · exact ih (by omega) (by omega)
  exact main 2 hj le_rfl

/-- The block written back, entry by entry. -/
theorem outBlock_apply (L7 : List (View.Piece (Elt F) S160x256 .f32)) (a : ℕ → Vec F S80x256 .f32)
    (hL : ∀ j, j < 2 → bandAt (Val := Elt F) arg7.view inb7 (arg7.view.writes (Elt F) arg7.view.junk L7) j = a j) (p : Fin 256) (j : Fin 2) (d : Fin 64) :
    outBlock arg7 arg9 L7 (ix3 0 p ⟨64 * j.val + d.val, by omega⟩) = FloatOps.truncf .bf16 bitsLt_bf16_f32 (quot (a j.val) (ix2 d p)) := by
  have hb := congrFun (list9_bands arg7 arg9 L7 a hL arg9.view.junk j.val j.isLt) (ix2 d p)
  unfold outBlock
  pointwise [k0_pay2]
  rw [← hb]
  refine congrArg _ (congrArg (arg9.view.read (Elt F) (arg9.view.writes (Elt F) arg9.view.junk (list9 arg7 L7))) (funext fun a => Fin.ext ?_))
  match a with
  | ⟨0, _⟩ => show 0 + 1 * (64 * j.val + d.val) = 64 * (j.val % 2) + 1 * d.val; omega
  | ⟨1, _⟩ => rfl

end run
end Cert.Kernel2Ideal.Mla
end
-- ==== Proof.Soft.lean ====
module

public import Idealize.ShloMosaic.Lib.Pointwise

@[expose] public section

noncomputable section

namespace Cert.Online

open Idealize.ShloMosaic

/-- A nonnegative real factor distributes over a sum of extended reals. -/
theorem coe_mul_sum {ι : Type*} (s : Finset ι) (f : ι → EReal) (r : ℝ) (hr : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (by exact_mod_cast hr) (EReal.coe_ne_top r), ih]

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The weight base two of a score against a reference. -/
def w2 (x μ : ℝ) : ℝ := Real.rpow 2 (x - μ)

theorem w2_pos (x μ : ℝ) : 0 < w2 x μ := Real.rpow_pos_of_pos (by norm_num) _

theorem exp2_sub (x μ : ℝ) : Ideal.exp2 ((x : EReal) - (μ : EReal)) = (w2 x μ : EReal) := by
  rw [← EReal.coe_sub]; rfl

theorem w2_mul (x μ ν : ℝ) : w2 μ ν * w2 x μ = w2 x ν := by
  unfold w2
  rw [Real.rpow_eq_pow, Real.rpow_eq_pow, Real.rpow_eq_pow, ← Real.rpow_add (by norm_num)]
  congr 1; ring

theorem w2_eq (x μ M : ℝ) : w2 x μ = Real.exp (M - Real.log 2 * μ) * Real.exp (x * Real.log 2 - M) := by
  unfold w2
  rw [Real.rpow_eq_pow, Real.rpow_def_of_pos (by norm_num), ← Real.exp_add]
  congr 1; ring

variable {W : ℕ} (s : ℕ → ℝ) (v : ℕ → EReal) (m a : ℕ → EReal)

/-- The running sum rescaled chunk by chunk is the sum of the values weighted against the last maximum. -/
theorem closed (n : ℕ) (μ : ℕ → ℝ) (hm : ∀ c, c ≤ n → m c = (μ c : EReal)) (h0 : a 0 = 0)
    (hs : ∀ c, c < n → a (c + 1) = Ideal.exp2 (m c - m (c + 1)) * a c
      + ∑ t ∈ Finset.range W, v (W * c + t) * Ideal.exp2 ((s (W * c + t) : EReal) - m (c + 1))) :
    ∀ c, c ≤ n → a c = ∑ u ∈ Finset.range (W * c), (w2 (s u) (μ c) : EReal) * v u := by
  intro c
  induction c with
  | zero => intro _; simpa using h0
  | succ c ih =>
    intro hc
    rw [hs c (by omega), ih (by omega), hm c (by omega), hm (c + 1) hc, exp2_sub, coe_mul_sum _ _ _ (w2_pos _ _).le, Nat.mul_succ, Finset.sum_range_add]
    refine congrArg₂ (· + ·) (Finset.sum_congr rfl fun u _ => ?_) (Finset.sum_congr rfl fun t _ => ?_)
    · rw [← mul_assoc, ← EReal.coe_mul, w2_mul]
    · rw [exp2_sub, mul_comm]

theorem div_coe (x : EReal) (r : ℝ) (hr : r ≠ 0) : Ideal.div x (r : EReal) = x * ((r⁻¹ : ℝ) : EReal) := by
  unfold Ideal.div
  rw [if_neg (by exact_mod_cast hr), EReal.coe_inv]

/-- Online softmax: the quotient of the two running sums is the softmax's weighted mean of the values. -/
theorem online (n N : ℕ) (hN : W * n = N) (hpos : 0 < N) (l : ℕ → EReal) (hm : ∀ c, c ≤ n → ∃ r : ℝ, m c = (r : EReal)) (ha0 : a 0 = 0) (hl0 : l 0 = 0)
    (ha : ∀ c, c < n → a (c + 1) = Ideal.exp2 (m c - m (c + 1)) * a c
      + ∑ t ∈ Finset.range W, v (W * c + t) * Ideal.exp2 ((s (W * c + t) : EReal) - m (c + 1)))
    (hl : ∀ c, c < n → l (c + 1) = Ideal.exp2 (m c - m (c + 1)) * l c
      + ∑ t ∈ Finset.range W, 1 * Ideal.exp2 ((s (W * c + t) : EReal) - m (c + 1)))
    (σ : ℕ → ℝ) (hσ : ∀ u, u < N → σ u = s u * Real.log 2) (M : ℝ) :
    Ideal.div (a n) (l n) = ∑ u ∈ Finset.range N, v u * Ideal.div (Ideal.exp ((σ u : EReal) - (M : EReal)))
      (∑ u ∈ Finset.range N, Ideal.exp ((σ u : EReal) - (M : EReal))) := by
  subst hN
  have hμ : ∀ c, ∃ r : ℝ, c ≤ n → m c = (r : EReal) := fun c => by
    by_cases h : c ≤ n
    · obtain ⟨r, hr⟩ := hm c h; exact ⟨r, fun _ => hr⟩
    · exact ⟨0, fun h' => absurd h' h⟩
  choose μ hμ using hμ
  rw [closed s v m a n μ hμ ha0 ha n le_rfl, closed s (fun _ => 1) m l n μ hμ hl0 hl n le_rfl]
  set K : ℝ := Real.exp (M - Real.log 2 * μ n) with hK
  have hKp : 0 < K := Real.exp_pos _
  set E : ℕ → ℝ := fun u => Real.exp (σ u - M) with hE
  have hw : ∀ u ∈ Finset.range (W * n), w2 (s u) (μ n) = K * E u := fun u hu => by
    rw [hE]; simp only []; rw [hσ u (Finset.mem_range.mp hu)]; exact w2_eq _ _ _
  have hexp : ∀ u, Ideal.exp ((σ u : EReal) - (M : EReal)) = (E u : EReal) := fun u => by rw [← EReal.coe_sub]; rfl
  set L : ℝ := ∑ u ∈ Finset.range (W * n), E u with hL
  have hLp : 0 < L := Finset.sum_pos (fun u _ => Real.exp_pos _) ⟨0, Finset.mem_range.mpr hpos⟩
  have e1 : (∑ u ∈ Finset.range (W * n), (w2 (s u) (μ n) : EReal) * 1) = ((K * L : ℝ) : EReal) := by
    rw [hL, Finset.mul_sum, coe_sum]
    exact Finset.sum_congr rfl fun u hu => by rw [mul_one, hw u hu]
  have e2 : (∑ u ∈ Finset.range (W * n), Ideal.exp ((σ u : EReal) - (M : EReal))) = (L : EReal) := by
    rw [hL, coe_sum]; exact Finset.sum_congr rfl fun u _ => hexp u
  rw [e1, e2, div_coe _ _ (mul_pos hKp hLp).ne', mul_comm, coe_mul_sum _ _ _ (inv_nonneg.mpr (mul_pos hKp hLp).le)]
  refine Finset.sum_congr rfl fun u hu => ?_
  rw [hexp, div_coe _ _ hLp.ne', ← EReal.coe_mul, ← mul_assoc, ← EReal.coe_mul, mul_comm (v u), hw u hu]
  congr 2
  field_simp

/-- A maximum of reals over a nonempty range started from the least element is a real. -/
theorem fold_max_real {n : ℕ} (hn : 0 < n) (f : Fin n → ℝ) : ∃ r : ℝ, (Finset.univ : Finset (Fin n)).fold max ⊥ (fun k => (f k : EReal)) = (r : EReal) := by
  have key : ∀ t : Finset (Fin n), t.fold max ⊥ (fun k => (f k : EReal)) < ⊤ := by
    intro t
    rw [Finset.fold_max_lt]
    exact ⟨bot_lt_top, fun x _ => EReal.coe_lt_top _⟩
  have hb : (⊥ : EReal) < (Finset.univ : Finset (Fin n)).fold max ⊥ (fun k => (f k : EReal)) := by
    rw [Finset.lt_fold_max]
    exact Or.inr ⟨⟨0, hn⟩, Finset.mem_univ _, EReal.bot_lt_coe _⟩
  exact ⟨_, (EReal.coe_toReal (key _).ne hb.ne').symm⟩

/-- The running maximum stays real. -/
theorem max_real {n : ℕ} (hn : 0 < n) (x : EReal) (hx : ∃ r : ℝ, x = (r : EReal)) (f : Fin n → ℝ) :
    ∃ r : ℝ, max x ((Finset.univ : Finset (Fin n)).fold max ⊥ (fun k => (f k : EReal))) = (r : EReal) := by
  obtain ⟨r, rfl⟩ := hx
  obtain ⟨r', h'⟩ := fold_max_real hn f
  exact ⟨max r r', by rw [h']; exact (EReal.coe_strictMono.monotone.map_max (a := r) (b := r')).symm⟩

end Cert.Online
end
-- ==== Proof.LatHead.lean ====
module

public import proofs.«01_k».proof.Proof.LatState
public import proofs.«01_k».proof.Proof.Soft

@[expose] public section

set_option maxRecDepth 16384

noncomputable section

namespace Cert.Kernel2Ideal.Mla

open Cert.Kernel2Ideal Cert.Kernel2Ideal.Gen Idealize.ShloMosaic Idealize.ShloMosaic.TcCoe Idealize.ShloMosaic.Tactic

theorem bits_bot : Ideal.ofBits .f32 0xFF800000#32 = (⊥ : EReal) := by
  simp [Ideal.ofBits, Ideal.ieee]
theorem bits_low : ∃ r : ℝ, Ideal.ofBits .f32 0xF149F2CA#32 = (r : EReal) := by
  simp [Ideal.ofBits, Ideal.ieee, -EReal.coe_mul, -EReal.coe_neg]
theorem bits_two : Ideal.ofBits .f32 0x40000000#32 = ((2 : ℝ) : EReal) := by
  simp [Ideal.ofBits, Ideal.ieee, -EReal.coe_mul]; norm_num

theorem pay5_apply (a : Vec Ideal S1x256x128 .bf16) (b : Vec Ideal S1x128x256 .bf16) (t p : Fin 256) :
    k0_pay5 a b (ix2 t p) = ∑ x : Fin 128, a (ix3 0 t x) * b (ix3 0 x p) := by
  pointwise [k0_pay5]

theorem top_apply (s : FVec Ideal S256x256 .f32) (m : Vec Ideal S1x256 .f32) (z : Fin 1) (p : Fin 256) :
    top s m (ix2 z p) = max (m (ix2 0 p)) ((Finset.univ : Finset (Fin 256)).fold max ⊥ fun t => s (ix2 t p)) := by
  pointwise [top, k0_pay16, k0_pay13]
  rw [bits_bot, Subsingleton.elim z 0]

theorem acc_apply (s : FVec Ideal S256x256 .f32) (m : Vec Ideal S1x256 .f32) (v : Vec Ideal S1x1x80x256 .bf16) (a : Vec Ideal S80x256 .f32) (r : Fin 80) (p : Fin 256) :
    acc s m v a (ix2 r p) = Ideal.exp2 (m (ix2 0 p) - top s m (ix2 0 p)) * a (ix2 r p)
      + ∑ t : Fin 256, v (ix4 0 0 r t) * Ideal.exp2 (s (ix2 t p) - top s m (ix2 0 p)) := by
  pointwise [acc, k0_pay29, k0_pay28, top, k0_pay16]
  rfl

theorem quot_apply (a : Vec Ideal S80x256 .f32) (d : Fin 64) (p : Fin 256) :
    quot a (ix2 d p) = Ideal.div (a (ix2 ⟨d.val, by omega⟩ p)) (a (ix2 64 p)) := by
  pointwise [quot, k0_pay1]

section head
variable (x0 : Vec Ideal S1x256x256 .bf16) (x1 : Vec Ideal S1x16640x256 .bf16) (x2 : Vec Ideal S1x65x160x256 .bf16) (j : ℕ) (p : Fin 256)

/-- Head `j`'s score of query `p` against key `u`. -/
def score (u : ℕ) : EReal := ∑ x : Fin 128, x1 (ix3 0 ⟨u % 16640, Nat.mod_lt _ (by decide)⟩ ⟨(128 * j + x.val) % 256, Nat.mod_lt _ (by decide)⟩) * x0 (ix3 0 ⟨(128 * j + x.val) % 256, Nat.mod_lt _ (by decide)⟩ p)
/-- Row `r` of head `j`'s value of key `u`. -/
def val (r : Fin 80) (u : ℕ) : EReal := x2 (ix4 0 ⟨u / 256 % 65, Nat.mod_lt _ (by decide)⟩ ⟨(80 * j + r.val) % 160, Nat.mod_lt _ (by decide)⟩ ⟨u % 256, Nat.mod_lt _ (by decide)⟩)

theorem sc_apply (c : ℕ) (t : Fin 256) : sc x0 x1 j c (ix2 t p) = score x0 x1 j p (256 * c + t.val) := by
  unfold sc; rw [pay5_apply]; rfl

theorem vslice_apply (c : ℕ) (r : Fin 80) (t : Fin 256) : vslice x2 j c (ix4 0 0 r t) = val x2 j r (256 * c + t.val) := by
  unfold vslice val
  have ht := t.isLt
  refine congrArg x2 ?_
  refine (ix4_inj _ _ _ _ _ _ _ _).mpr ⟨rfl, Fin.ext ?_, Fin.ext rfl, Fin.ext ?_⟩
  · show c % 65 = (256 * c + t.val) / 256 % 65; omega
  · show t.val = (256 * c + t.val) % 256; omega

theorem mst_succ (c : ℕ) : mst x0 x1 j (c + 1) (ix2 0 p)
    = max (mst x0 x1 j c (ix2 0 p)) ((Finset.univ : Finset (Fin 256)).fold max ⊥ fun t => score x0 x1 j p (256 * c + t.val)) := by
  show top (sc x0 x1 j c) (mst x0 x1 j c) (ix2 0 p) = _
  rw [top_apply]
  simp only [sc_apply]

theorem ast_succ (c : ℕ) (r : Fin 80) : ast x0 x1 x2 j (c + 1) (ix2 r p)
    = Ideal.exp2 (mst x0 x1 j c (ix2 0 p) - mst x0 x1 j (c + 1) (ix2 0 p)) * ast x0 x1 x2 j c (ix2 r p)
      + ∑ t ∈ Finset.range 256, val x2 j r (256 * c + t) * Ideal.exp2 (score x0 x1 j p (256 * c + t) - mst x0 x1 j (c + 1) (ix2 0 p)) := by
  show acc (sc x0 x1 j c) (mst x0 x1 j c) (vslice x2 j c) (ast x0 x1 x2 j c) (ix2 r p) = _
  rw [acc_apply, Finset.sum_range]
  simp only [sc_apply, vslice_apply]
  rfl

/-- A head's quotient is the softmax's weighted mean of its values. -/
theorem head (s : ℕ → ℝ) (hs : ∀ u, u < 16640 → score x0 x1 j p u = (s u : EReal))
    (h1 : ∀ u, u < 16640 → val x2 j 64 u = 1) (σ : ℕ → ℝ) (hσ : ∀ u, u < 16640 → σ u = s u * Real.log 2) (M : ℝ) (d : Fin 64) :
    quot (ast x0 x1 x2 j 65) (ix2 d p) = ∑ u ∈ Finset.range 16640, val x2 j ⟨d.val, by omega⟩ u * Ideal.div (Ideal.exp ((σ u : EReal) - (M : EReal)))
      (∑ u ∈ Finset.range 16640, Ideal.exp ((σ u : EReal) - (M : EReal))) := by
  rw [quot_apply]
  have z : ∀ r, ast x0 x1 x2 j 0 (ix2 r p) = (0 : EReal) := fun r => Ideal.ofBits_zero .f32
  refine Online.online (W := 256) s (val x2 j ⟨d.val, by omega⟩) (fun c => mst x0 x1 j c (ix2 0 p)) (fun c => ast x0 x1 x2 j c (ix2 ⟨d.val, by omega⟩ p)) 65 16640 rfl (by omega)
    (fun c => ast x0 x1 x2 j c (ix2 64 p)) ?_ (z _) (z _) ?_ ?_ σ hσ M
  · intro c
    induction c with
    | zero => exact fun _ => bits_low
    | succ c ih =>
      intro hc
      simp only [mst_succ]
      have e : (fun t : Fin 256 => score x0 x1 j p (256 * c + t.val)) = fun t : Fin 256 => (s (256 * c + t.val) : EReal) := funext fun t => hs _ (by omega)
      rw [e]
      exact Online.max_real (by decide) _ (ih (by omega)) _
  · intro c hc
    simp only [ast_succ]
    refine congrArg _ (Finset.sum_congr rfl fun t ht => ?_)
    rw [hs _ (by have := Finset.mem_range.mp ht; omega)]
  · intro c hc
    simp only [ast_succ]
    refine congrArg _ (Finset.sum_congr rfl fun t ht => ?_)
    have := Finset.mem_range.mp ht
    rw [hs _ (by omega), h1 _ (by omega)]

end head

end Cert.Kernel2Ideal.Mla
end
-- ==== Proof.LatBlock.lean ====
module

public import proofs.«01_k».proof.Proof.LatHead
public import proofs.«01_k».proof.Proof.Gen.Kernel2Ideal.Value
public import Idealize.ShloMosaic.Lib.Pipeline.ValueKit
public import Idealize.ShloMosaic.Lib.StableHlo.ReadAt
public import Idealize.ShloMosaic.Lib.VecWindow

@[expose] public section

set_option maxRecDepth 16384

noncomputable section

namespace Cert.Kernel2Ideal.Mla

open Cert.Kernel2Ideal Cert.Kernel2Ideal.Gen Idealize.ShloMosaic Idealize.ShloMosaic.TcCoe Idealize.ShloMosaic.Tactic
open Idealize.ShloMosaic.Pipeline (Dat)

theorem idx : ∀ t : Fin cfg0.N, win0_0.index t = ![t.val / 256, t.val / 64 % 4, t.val % 64 + 1] ∧ win0_1.index t = ![t.val / 256, 0, t.val / 64 % 4]
    ∧ win0_2.index t = ![t.val / 256, 0, t.val / 64 % 4, 0] ∧ win0_3.index t = ![t.val / 256, t.val % 64, t.val / 64 % 4] := by
  decide +kernel

theorem t_lt (t : Fin cfg0.N) : t.val < 512 := t.isLt.trans_eq N_0

variable (t : Fin cfg0.N)

theorem read0 (X : S2x1024x16640.Idx → Elt Ideal .bf16) (r : Fin 256) (p : Fin 256) : ((cfg0.win 0).blk t).view.read (Elt Ideal) X (ix3 0 r p)
    = X (ix3 ⟨t.val / 256, by have := t_lt t; omega⟩ ⟨256 * (t.val / 64 % 4) + r.val, by omega⟩ ⟨256 * (t.val % 64 + 1) + p.val, by omega⟩) := by
  obtain ⟨h0, -⟩ := idx t
  refine congrArg X ?_
  blk_ext [h0]

theorem read1 (X : S2x16640x1024.Idx → Elt Ideal .bf16) (r : Fin 16640) (x : Fin 256) : ((cfg0.win 1).blk t).view.read (Elt Ideal) X (ix3 0 r x)
    = X (ix3 ⟨t.val / 256, by have := t_lt t; omega⟩ r ⟨256 * (t.val / 64 % 4) + x.val, by omega⟩) := by
  obtain ⟨-, h1, -⟩ := idx t
  refine congrArg X ?_
  blk_ext [h1]

theorem read2 (X : S2x65x640x256.Idx → Elt Ideal .bf16) (a : Fin 65) (r : Fin 160) (x : Fin 256) : ((cfg0.win 2).blk t).view.read (Elt Ideal) X (ix4 0 a r x)
    = X (ix4 ⟨t.val / 256, by have := t_lt t; omega⟩ a ⟨160 * (t.val / 64 % 4) + r.val, by omega⟩ x) := by
  obtain ⟨-, -, h2, -⟩ := idx t
  refine congrArg X ?_
  blk_ext [h2]

theorem read3 (X : S2x16384x512.Idx → Elt Ideal .bf16) (p : Fin 256) (x : Fin 128) : ((cfg0.win 3).blk t).view.read (Elt Ideal) X (ix3 0 p x)
    = X (ix3 ⟨t.val / 256, by have := t_lt t; omega⟩ ⟨256 * (t.val % 64) + p.val, by omega⟩ ⟨128 * (t.val / 64 % 4) + x.val, by omega⟩) := by
  obtain ⟨-, -, -, h3⟩ := idx t
  refine congrArg X ?_
  blk_ext [h3]

variable (m : (ℓ : Loc nD τ sig) → Buf (Elt Ideal) ℓ) (c : Dev nD)

theorem iblk0_apply (r : Fin 256) (p : Fin 256) : iblk m c 0 t (ix3 0 r p)
    = V m c main_v9 (ix3 ⟨t.val / 256, by have := t_lt t; omega⟩ ⟨256 * (t.val / 64 % 4) + r.val, by omega⟩ ⟨256 * (t.val % 64 + 1) + p.val, by omega⟩) :=
  read0 t _ r p

theorem iblk1_apply (r : Fin 16640) (x : Fin 256) : iblk m c 1 t (ix3 0 r x)
    = V m c main_v12 (ix3 ⟨t.val / 256, by have := t_lt t; omega⟩ r ⟨256 * (t.val / 64 % 4) + x.val, by omega⟩) :=
  read1 t _ r x

theorem iblk2_apply (a : Fin 65) (r : Fin 160) (x : Fin 256) : iblk m c 2 t (ix4 0 a r x)
    = V m c main_v17 (ix4 ⟨t.val / 256, by have := t_lt t; omega⟩ a ⟨160 * (t.val / 64 % 4) + r.val, by omega⟩ x) :=
  read2 t _ a r x

/-- The queries, the keys and the values as they are passed. -/
abbrev argQ : S2x16640x8x96.Idx → EReal := m ((c : Thread nD τ).loc main_arg0)
@[inherit_doc argQ] abbrev argK : S2x16640x8x96.Idx → EReal := m ((c : Thread nD τ).loc main_arg1)
@[inherit_doc argQ] abbrev argV : S2x16640x8x64.Idx → EReal := m ((c : Thread nD τ).loc main_arg2)

/-- A query's feature with the scale and the change of base. -/
def query (b : Fin 2) (u : Fin 16640) (h : Fin 8) (x : Fin 96) : EReal :=
  Ideal.div (argQ m c (ix4 b u h x) * Ideal.ofBits .f32 0x3DD105EC#32) (Ideal.log (Ideal.ofBits .f32 0x40000000#32))

theorem q_on (b : Fin 2) (r : Fin 1024) (u : Fin 16640) (h : r.val % 128 < 96) :
    Eq (α := EReal) (V m c main_v9 (ix3 b r u)) (query m c b u ⟨r.val / 128, by omega⟩ ⟨r.val % 128, h⟩) := by
  unfold V query
  after_reads_at
  rw [dif_pos h]
  after_reads_at

theorem q_off (b : Fin 2) (r : Fin 1024) (u : Fin 16640) (h : ¬ r.val % 128 < 96) :
    Eq (α := EReal) (V m c main_v9 (ix3 b r u)) 0 := by
  unfold V
  after_reads_at
  rw [dif_neg h]
  after_reads_at

theorem k_on (b : Fin 2) (u : Fin 16640) (r : Fin 1024) (h : r.val % 128 < 96) :
    Eq (α := EReal) (V m c main_v12 (ix3 b u r)) (argK m c (ix4 b u ⟨r.val / 128, by omega⟩ ⟨r.val % 128, h⟩)) := by
  unfold V
  after_reads_at
  rw [dif_pos h]
  after_reads_at

theorem v_val (b : Fin 2) (a : Fin 65) (r : Fin 640) (x : Fin 256) (h : r.val % 80 < 64) :
    Eq (α := EReal) (V m c main_v17 (ix4 b a r x)) (argV m c (ix4 b ⟨a.val * 256 + x.val, by omega⟩ ⟨r.val / 80, by omega⟩ ⟨r.val % 80, h⟩)) := by
  unfold V
  after_reads_at
  rw [dif_pos h]
  after_reads_at

theorem v_one (b : Fin 2) (a : Fin 65) (r : Fin 640) (x : Fin 256) (h : ¬ r.val % 80 < 64) :
    Eq (α := EReal) (V m c main_v17 (ix4 b a r x)) 1 := by
  unfold V
  after_reads_at
  rw [dif_neg h]
  after_reads_at

theorem after_apply (p : Fin 256) (j : Fin 2) (d : Fin 64) :
    Eq (α := EReal) (outsAt0 m c t (ix3 0 p ⟨64 * j.val + d.val, by omega⟩))
      (quot (ast (iblk m c 0 t) (iblk m c 1 t) (iblk m c 2 t) j 65) (ix2 d p)) := by
  unfold outsAt0 out0_A_3
  rw [run_eq, View.read_writes_full]
  exact outBlock_apply _ _ _ (fun j => ast (iblk m c 0 t) (iblk m c 1 t) (iblk m c 2 t) j 65) (fun j hj => run_bands _ _ _ _ _ _ _ _ _ _ _ j hj) p j d

end Cert.Kernel2Ideal.Mla
end
-- ==== Proof.Spec.lean ====
module

public import proofs.«01_k».proof.Proof.Soft
public import Idealize.ShloMosaic.Lib.Pointwise

@[expose] public section

noncomputable section

namespace Cert.Gqa

open Idealize.ShloMosaic

/-- A softmax's weighted mean of the values `v` over the first `N` keys, the scores `σ` taken less `M`. -/
def attn (N : ℕ) (σ : ℕ → ℝ) (v : ℕ → EReal) (M : ℝ) : EReal :=
  ∑ u ∈ Finset.range N, v u * Ideal.div (Ideal.exp ((σ u : EReal) - (M : EReal))) (∑ u ∈ Finset.range N, Ideal.exp ((σ u : EReal) - (M : EReal)))

/-- How many keys a query sees. -/
def seen (p : ℕ) : ℕ := if p < 256 then 256 else 16640

theorem seen_le (p : ℕ) : seen p ≤ 16640 := by unfold seen; split <;> omega

variable (q : (⟨4, ![2, 16640, 12, 64]⟩ : Shape).Idx → ℝ) (k : (⟨4, ![2, 16640, 4, 64]⟩ : Shape).Idx → ℝ)

/-- A query's score of key `u`. -/
def qk (b : Fin 2) (h : Fin 12) (p : Fin 16640) (u : ℕ) : ℝ :=
  (∑ x : Fin 64, k (ix4 b ⟨u % 16640, Nat.mod_lt _ (by decide)⟩ ⟨h.val / 3, by omega⟩ x) * q (ix4 b p h x)) * (1 / 8)

/-- A feature of key `u`'s value. -/
def vals (V : (⟨4, ![2, 16640, 4, 64]⟩ : Shape).Idx → EReal) (b : Fin 2) (h : Fin 12) (d : Fin 64) (u : ℕ) : EReal :=
  V (ix4 b ⟨u % 16640, Nat.mod_lt _ (by decide)⟩ ⟨h.val / 3, by omega⟩ d)

theorem at4 {α : Type} {n0 n1 n2 n3 : ℕ} (f : (⟨4, ![n0, n1, n2, n3]⟩ : Shape).Idx → α) {a a' : Fin n0} {b b' : Fin n1} {c c' : Fin n2} {d d' : Fin n3}
    (ha : a.val = a'.val) (hb : b.val = b'.val) (hc : c.val = c'.val) (hd : d.val = d'.val) : f (ix4 a b c d) = f (ix4 a' b' c' d') := by
  obtain rfl := Fin.ext ha; obtain rfl := Fin.ext hb; obtain rfl := Fin.ext hc; obtain rfl := Fin.ext hd; rfl

theorem at3 {α : Type} {n0 n1 n2 : ℕ} (f : (⟨3, ![n0, n1, n2]⟩ : Shape).Idx → α) {a a' : Fin n0} {b b' : Fin n1} {c c' : Fin n2}
    (ha : a.val = a'.val) (hb : b.val = b'.val) (hc : c.val = c'.val) : f (ix3 a b c) = f (ix3 a' b' c') := by
  obtain rfl := Fin.ext ha; obtain rfl := Fin.ext hb; obtain rfl := Fin.ext hc; rfl

/-- A sum over a pair of heads' features of which one head's are zero. -/
theorem halves (f : ℕ → EReal) (e : ℕ) (he : e < 2) : (∑ x : Fin 128, if x.val / 64 = e then f (x.val % 64) else 0) = ∑ x : Fin 64, f x.val := by
  have h := Fin.sum_univ_add (a := 64) (b := 64) fun x : Fin (64 + 64) => if x.val / 64 = e then f (x.val % 64) else (0 : EReal)
  refine h.trans ?_
  have a : ∀ x : Fin 64, (Fin.castAdd 64 x).val / 64 = 0 ∧ (Fin.castAdd 64 x).val % 64 = x.val := fun x => by
    have := x.isLt; constructor <;> simp only [Fin.val_castAdd] <;> omega
  have b : ∀ x : Fin 64, (Fin.natAdd 64 x).val / 64 = 1 ∧ (Fin.natAdd 64 x).val % 64 = x.val := fun x => by
    have := x.isLt; constructor <;> simp only [Fin.val_natAdd] <;> omega
  simp only [(a _).1, (a _).2, (b _).1, (b _).2]
  interval_cases e <;> simp

/-- A finite extended real is a real. -/
theorem real_of_abs (x : EReal) (h : max x (-x) < ⊤) : ∃ r : ℝ, x = (r : EReal) := by
  induction x with
  | bot => simp at h
  | top => simp at h
  | coe r => exact ⟨r, rfl⟩

end Cert.Gqa
end
-- ==== Proof.LatSpec.lean ====
module

public import proofs.«01_k».proof.Proof.Spec

@[expose] public section

noncomputable section

namespace Cert.Mla

open Idealize.ShloMosaic

/-- The factor both programs take for one over the root of ninety-six is a real. -/
theorem bits_scale : ∃ r : ℝ, Ideal.ofBits .f32 0x3DD105EC#32 = (r : EReal) := by
  simp [Ideal.ofBits, Ideal.ieee, -EReal.coe_mul]

/-- That factor. -/
def scale : ℝ := (Ideal.ofBits .f32 0x3DD105EC#32).toReal

theorem scale_coe : (scale : EReal) = Ideal.ofBits .f32 0x3DD105EC#32 := by
  obtain ⟨r, hr⟩ := bits_scale
  unfold scale
  rw [hr, EReal.toReal_coe]

variable (q k : (⟨4, ![2, 16640, 8, 96]⟩ : Shape).Idx → ℝ)

/-- A query's score of key `u`. -/
def qk (b : Fin 2) (h : Fin 8) (p : Fin 16640) (u : ℕ) : ℝ :=
  (∑ x : Fin 96, k (ix4 b ⟨u % 16640, Nat.mod_lt _ (by decide)⟩ h x) * q (ix4 b p h x)) * scale

/-- A feature of key `u`'s value. -/
def vals (V : (⟨4, ![2, 16640, 8, 64]⟩ : Shape).Idx → EReal) (b : Fin 2) (h : Fin 8) (d : Fin 64) (u : ℕ) : EReal :=
  V (ix4 b ⟨u % 16640, Nat.mod_lt _ (by decide)⟩ h d)

/-- A sum over a head's lanes, of which the last are zero. -/
theorem padded (f : ℕ → EReal) : (∑ x : Fin 128, if x.val < 96 then f x.val else 0) = ∑ x : Fin 96, f x.val := by
  have h := Fin.sum_univ_add (a := 96) (b := 32) fun x : Fin (96 + 32) => if x.val < 96 then f x.val else (0 : EReal)
  refine h.trans ?_
  have a : ∀ x : Fin 96, (Fin.castAdd 32 x).val < 96 := fun x => x.isLt
  have b : ∀ x : Fin 32, ¬ (Fin.natAdd 96 x).val < 96 := fun x => by simp only [Fin.val_natAdd]; omega
  simp only [if_pos (a _), if_neg (b _), Finset.sum_const_zero, add_zero, Fin.val_castAdd]
  exact Finset.sum_congr rfl fun x _ => if_pos x.isLt

end Cert.Mla
end
-- ==== Proof.LatResult.lean ====
module

public import proofs.«01_k».proof.Proof.LatBlock
public import proofs.«01_k».proof.Proof.LatSpec

@[expose] public section

set_option maxRecDepth 16384

noncomputable section

namespace Cert.Kernel2Ideal.Mla

open Cert.Kernel2Ideal Cert.Kernel2Ideal.Gen Idealize.ShloMosaic Idealize.ShloMosaic.TcCoe Idealize.ShloMosaic.Tactic
open Idealize.ShloMosaic.Pipeline (Dat)
open Cert.Gqa (attn at4 at3)
open Cert.Mla

variable (m : (ℓ : Loc nD τ sig) → Buf (Elt Ideal) ℓ) (c : Dev nD) (t : Fin cfg0.N)
variable (q k : S2x16640x8x96.Idx → ℝ) (hq : ∀ i, argQ m c i = (q i : EReal)) (hk : ∀ i, argK m c i = (k i : EReal))

theorem log2_pos : 0 < Real.log 2 := Real.log_pos (by norm_num)

include hq in
theorem query_real (b : Fin 2) (u : Fin 16640) (h : Fin 8) (x : Fin 96) : query m c b u h x = ((q (ix4 b u h x) * scale / Real.log 2 : ℝ) : EReal) := by
  unfold query
  rw [hq, ← scale_coe, bits_two, Ideal.log_coe, if_neg (by norm_num), Online.div_coe _ _ log2_pos.ne', ← EReal.coe_mul, ← EReal.coe_mul]
  exact congrArg _ (div_eq_mul_inv _ _).symm

/-- The batch, the head and the query of a point's block. -/
def bat : Fin 2 := ⟨t.val / 256, by have := t_lt t; omega⟩
@[inherit_doc bat] def hd (j : Fin 2) : Fin 8 := ⟨2 * (t.val / 64 % 4) + j.val, by omega⟩
@[inherit_doc bat] def pos (p : Fin 256) : Fin 16384 := ⟨256 * (t.val % 64) + p.val, by omega⟩
@[inherit_doc bat] def row (p : Fin 16384) : Fin 16640 := ⟨256 + p.val, by omega⟩

include hq hk in
theorem score_eq (j : Fin 2) (p : Fin 256) (u : ℕ) :
    score (iblk m c 0 t) (iblk m c 1 t) j p u = ((qk q k (bat t) (hd t j) (row (pos t p)) u / Real.log 2 : ℝ) : EReal) := by
  unfold score
  obtain ⟨f, hf⟩ : ∃ f : ℕ → EReal, f = fun y : ℕ => ((k (ix4 (bat t) ⟨u % 16640, Nat.mod_lt _ (by decide)⟩ (hd t j) ⟨y % 96, Nat.mod_lt _ (by decide)⟩)
      * q (ix4 (bat t) (row (pos t p)) (hd t j) ⟨y % 96, Nat.mod_lt _ (by decide)⟩) * scale / Real.log 2 : ℝ) : EReal) := ⟨_, rfl⟩
  have hj := j.isLt
  have term : ∀ x : Fin 128, HMul.hMul (α := EReal) (β := EReal) (γ := EReal) (iblk m c 1 t (ix3 0 ⟨u % 16640, Nat.mod_lt _ (by decide)⟩ ⟨(128 * j.val + x.val) % 256, Nat.mod_lt _ (by decide)⟩))
      (iblk m c 0 t (ix3 0 ⟨(128 * j.val + x.val) % 256, Nat.mod_lt _ (by decide)⟩ p))
      = if x.val < 96 then f x.val else 0 := by
    intro x
    have hx := x.isLt
    have hU : t.val / 64 % 4 < 4 := Nat.mod_lt _ (by decide)
    have r0 : (128 * j.val + x.val) % 256 = 128 * j.val + x.val := Nat.mod_eq_of_lt (by omega)
    have r1 : (256 * (t.val / 64 % 4) + (128 * j.val + x.val) % 256) % 128 = x.val := by
      rw [r0]; generalize t.val / 64 % 4 = U at hU ⊢; omega
    have r2 : (256 * (t.val / 64 % 4) + (128 * j.val + x.val) % 256) / 128 = 2 * (t.val / 64 % 4) + j.val := by
      rw [r0]; generalize t.val / 64 % 4 = U at hU ⊢; omega
    rw [iblk0_apply, iblk1_apply]
    by_cases e : x.val < 96
    · rw [if_pos e, q_on _ _ _ _ _ (lt_of_eq_of_lt r1 e), k_on _ _ _ _ _ (lt_of_eq_of_lt r1 e), hk, query_real m c q hq, ← EReal.coe_mul, hf]
      refine congrArg _ ?_
      rw [mul_div_assoc, mul_div_assoc, ← mul_assoc]
      refine congrArg₂ _ (congrArg₂ _ (at4 k rfl rfl ?_ ?_) (at4 q rfl ?_ ?_ ?_)) rfl
      · exact r2
      · exact r1.trans (Nat.mod_eq_of_lt e).symm
      · simp only [row, pos]; omega
      · exact r2
      · exact r1.trans (Nat.mod_eq_of_lt e).symm
    · rw [if_neg e, q_off _ _ _ _ _ (fun a => e (lt_of_eq_of_lt r1.symm a))]
      exact mul_zero _
  rw [Finset.sum_congr rfl fun x _ => term x, padded f, hf, ← Online.coe_sum]
  refine congrArg _ ?_
  unfold qk
  rw [Finset.sum_mul, Finset.sum_div]
  refine Finset.sum_congr rfl fun x _ => ?_
  have e : (⟨x.val % 96, Nat.mod_lt _ (by decide)⟩ : Fin 96) = x := Fin.ext (Nat.mod_eq_of_lt x.isLt)
  rw [e]

theorem val_eq (j : Fin 2) (d : Fin 64) (u : ℕ) (hu : u < 16640) :
    val (iblk m c 2 t) j ⟨d.val, by omega⟩ u = vals (argV m c) (bat t) (hd t j) d u := by
  unfold val vals
  have hj := j.isLt
  have hd' := d.isLt
  have hU : t.val / 64 % 4 < 4 := Nat.mod_lt _ (by decide)
  rw [iblk2_apply, v_val _ _ _ _ _ _ (by simp only; omega)]
  refine at4 _ rfl ?_ ?_ ?_
  · simp only; omega
  · simp only [hd]; omega
  · simp only; omega

theorem val_one (j : Fin 2) (u : ℕ) : val (iblk m c 2 t) j 64 u = 1 := by
  unfold val
  have e : ((64 : Fin 80)).val = 64 := rfl
  rw [iblk2_apply, v_one _ _ _ _ _ _ (by simp only [e]; omega)]

include hq hk in
/-- What a point leaves in its block of the result. -/
theorem block_attn (p : Fin 256) (j : Fin 2) (d : Fin 64) (M : ℝ) :
    Eq (α := EReal) (outsAt0 m c t (ix3 0 p ⟨64 * j.val + d.val, by omega⟩))
      (attn 16640 (qk q k (bat t) (hd t j) (row (pos t p))) (vals (argV m c) (bat t) (hd t j) d) M) := by
  rw [after_apply, head (iblk m c 0 t) (iblk m c 1 t) (iblk m c 2 t) j p (fun u => qk q k (bat t) (hd t j) (row (pos t p)) u / Real.log 2)
    (fun u _ => score_eq m c t q k hq hk j p u) (fun u _ => val_one m c t j u) (qk q k (bat t) (hd t j) (row (pos t p)))
    (fun u _ => (div_mul_cancel₀ _ log2_pos.ne').symm) M d]
  unfold attn
  refine Finset.sum_congr rfl fun u hu => ?_
  rw [val_eq m c t j d u (Finset.mem_range.mp hu)]

set_option maxHeartbeats 4000000 in
include hq hk in
/-- The array the kernel leaves is any array that is the attention at each position. -/
theorem arr_eq (G : S2x16384x512.Idx → EReal)
    (hG : ∀ (b : Fin 2) (p : Fin 16384) (h : Fin 8) (d : Fin 64), ∃ M : ℝ, G (ix3 b p ⟨64 * h.val + d.val, by omega⟩) = attn 16640 (qk q k b h (row p)) (vals (argV m c) b h d) M) :
    (dats m 0 c).arrAt 3 cfg0.N = G := by
  refine (dats m 0 c).arrAt_eq_of_covers 3 _ (by decide +kernel) fun t _ y => ?_
  rw [after0_3]
  obtain ⟨z, p, w, rfl⟩ : ∃ (z : Fin 1) (p : Fin 256) (w : Fin 128), y = ix3 z p w := ⟨y 0, y 1, y 2, by funext a; fin_cases a <;> rfl⟩
  obtain rfl : z = 0 := Subsingleton.elim _ _
  have hw := w.isLt
  let j : Fin 2 := ⟨w.val / 64, by omega⟩
  let d : Fin 64 := ⟨w.val % 64, by omega⟩
  obtain ⟨M, hM⟩ := hG (bat t) (pos t p) (hd t j) d
  have e : w = ⟨64 * j.val + d.val, by omega⟩ := Fin.ext (by simp only [j, d]; omega)
  have hr := read3 t G p w
  refine Eq.trans ?_ hr.symm
  have l := block_attn m c t q k hq hk p j d M
  rw [← hM] at l
  refine Eq.trans (Eq.trans (congrArg (fun w => (outsAt0 m c t (ix3 0 p w) : EReal)) e) l) (at3 G rfl rfl ?_)
  simp only [hd, j, d]; omega

end Cert.Kernel2Ideal.Mla
end
-- ==== Proof.RefSide.lean ====
module

public import proofs.«01_k».proof.Proof.Gen.ReferenceIdeal.Run
public import Idealize.ShloMosaic.Lib.Pointwise

@[expose] public section

set_option maxRecDepth 16384

noncomputable section

namespace Cert.ReferenceIdeal.Gqa

open Cert.ReferenceIdeal Cert.ReferenceIdeal.Gen Idealize.ShloMosaic Idealize.ShloMosaic.TcCoe Idealize.ShloMosaic.Tactic

variable {F : FTy → Type} [FloatOps F]

/-- The scores of the context's queries over the context's keys. -/
def ctxScore (Q : Vec F S2x16640x12x64 .f32) (K : Vec F S2x16640x4x64 .f32) : Vec F S2x4x3x256x256 .f32 :=
  mulf (transpose S2x4x3x256x256 [0, 1, 4, 3, 2] (Host.dotGeneral dot_S2x256x4x64_S2x256x4x3x64_S2x4x256x256x3_3_4_1_13_02_02 none (extractStridedSlice S2x256x4x64 ![0, 0, 0, 0] K slices_S2x16640x4x64_S2x256x4x64_0_0_0_0) (shapeCast _ (extractStridedSlice S2x256x12x64 ![0, 0, 0, 0] Q slices_S2x16640x12x64_S2x256x12x64_0_0_0_0) shapeCasts_S2x256x12x64_S2x256x4x3x64)) transposes_S2x4x256x256x3_S2x4x3x256x256_0_1_4_3_2) (broadcastInDim S2x4x3x256x256 ![] bcast_S_S2x4x3x256x256 (constant S_ .f32 0x3E000000#32))

/-- The largest score of each query. -/
def ctxTop (S : Vec F S2x4x3x256x256 .f32) : Vec F S2x4x3x256 .f32 :=
  maximumf (broadcastInDim S2x4x3x256 ![] bcast_S_S2x4x3x256 (constant S_ .f32 0xFF800000#32)) (Host.reduce FloatOps.maximumf S (constant S_ .f32 0xFF800000#32) reducesTo_S2x4x3x256x256_S2x4x3x256_d4 h_S_)

/-- The exponentials before they are divided by their sum. -/
def ctxExp (S : Vec F S2x4x3x256x256 .f32) (T : Vec F S2x4x3x256 .f32) : Vec F S2x4x3x256x256 .f32 :=
  Host.exp (subf S (broadcastInDim S2x4x3x256x256 ![0, 1, 2, 3, 4] bcast_S2x4x3x256x1_S2x4x3x256x256_0_1_2_3_4 (broadcastInDim S2x4x3x256x1 ![0, 1, 2, 3] bcast_S2x4x3x256_S2x4x3x256x1_0_1_2_3 T)))

/-- The exponentials divided by their sum. -/
def ctxProb (E : Vec F S2x4x3x256x256 .f32) : Vec F S2x4x3x256x256 .f32 :=
  Host.divf E (broadcastInDim S2x4x3x256x256 ![0, 1, 2, 3, 4] bcast_S2x4x3x256x1_S2x4x3x256x256_0_1_2_3_4 (broadcastInDim S2x4x3x256x1 ![0, 1, 2, 3] bcast_S2x4x3x256_S2x4x3x256x1_0_1_2_3 (Host.reduceAdd E (constant S_ .f32 0x00000000#32) reducesTo_S2x4x3x256x256_S2x4x3x256_d4 h_S_)))

/-- The weighted values. -/
def ctxOut (V : Vec F S2x16640x4x64 .f32) (P : Vec F S2x4x3x256x256 .f32) : Vec F S2x256x768 .f32 :=
  shapeCast _ (transpose S2x256x4x3x64 [0, 4, 1, 3, 2] (Host.dotGeneral dot_S2x256x4x64_S2x4x3x256x256_S2x4x64x3x256_1_4_3_23_02_01 none (extractStridedSlice S2x256x4x64 ![0, 0, 0, 0] V slices_S2x16640x4x64_S2x256x4x64_0_0_0_0) P) transposes_S2x4x64x3x256_S2x256x4x3x64_0_4_1_3_2) shapeCasts_S2x256x4x3x64_S2x256x768

/-- The scores of the other queries over all keys. -/
def latScore (Q : Vec F S2x16640x12x64 .f32) (K : Vec F S2x16640x4x64 .f32) : Vec F S2x4x3x16384x16640 .f32 :=
  mulf (transpose S2x4x3x16384x16640 [0, 1, 4, 3, 2] (Host.dotGeneral dot_S2x16640x4x64_S2x16384x4x3x64_S2x4x16640x16384x3_3_4_1_13_02_02 none K (shapeCast _ (extractStridedSlice S2x16384x12x64 ![0, 256, 0, 0] Q slices_S2x16640x12x64_S2x16384x12x64_0_256_0_0) shapeCasts_S2x16384x12x64_S2x16384x4x3x64)) transposes_S2x4x16640x16384x3_S2x4x3x16384x16640_0_1_4_3_2) (broadcastInDim S2x4x3x16384x16640 ![] bcast_S_S2x4x3x16384x16640 (constant S_ .f32 0x3E000000#32))

@[inherit_doc ctxTop]
def latTop (S : Vec F S2x4x3x16384x16640 .f32) : Vec F S2x4x3x16384 .f32 :=
  maximumf (broadcastInDim S2x4x3x16384 ![] bcast_S_S2x4x3x16384 (constant S_ .f32 0xFF800000#32)) (Host.reduce FloatOps.maximumf S (constant S_ .f32 0xFF800000#32) reducesTo_S2x4x3x16384x16640_S2x4x3x16384_d4 h_S_)

@[inherit_doc ctxExp]
def latExp (S : Vec F S2x4x3x16384x16640 .f32) (T : Vec F S2x4x3x16384 .f32) : Vec F S2x4x3x16384x16640 .f32 :=
  Host.exp (subf S (broadcastInDim S2x4x3x16384x16640 ![0, 1, 2, 3, 4] bcast_S2x4x3x16384x1_S2x4x3x16384x16640_0_1_2_3_4 (broadcastInDim S2x4x3x16384x1 ![0, 1, 2, 3] bcast_S2x4x3x16384_S2x4x3x16384x1_0_1_2_3 T)))

@[inherit_doc ctxProb]
def latProb (E : Vec F S2x4x3x16384x16640 .f32) : Vec F S2x4x3x16384x16640 .f32 :=
  Host.divf E (broadcastInDim S2x4x3x16384x16640 ![0, 1, 2, 3, 4] bcast_S2x4x3x16384x1_S2x4x3x16384x16640_0_1_2_3_4 (broadcastInDim S2x4x3x16384x1 ![0, 1, 2, 3] bcast_S2x4x3x16384_S2x4x3x16384x1_0_1_2_3 (Host.reduceAdd E (constant S_ .f32 0x00000000#32) reducesTo_S2x4x3x16384x16640_S2x4x3x16384_d4 h_S_)))

@[inherit_doc ctxOut]
def latOut (V : Vec F S2x16640x4x64 .f32) (P : Vec F S2x4x3x16384x16640 .f32) : Vec F S2x16384x768 .f32 :=
  shapeCast _ (transpose S2x16384x4x3x64 [0, 4, 1, 3, 2] (Host.dotGeneral dot_S2x16640x4x64_S2x4x3x16384x16640_S2x4x64x3x16384_1_4_3_23_02_01 none V P) transposes_S2x4x64x3x16384_S2x16384x4x3x64_0_4_1_3_2) shapeCasts_S2x16384x4x3x64_S2x16384x768

/-- The two parts one after the other. -/
def joined (A : Vec F S2x256x768 .f32) (B : Vec F S2x16384x768 .f32) : Vec F S2x16640x768 .bf16 :=
  truncf .bf16 (concatenate S2x16640x768 1 [⟨S2x256x768, A⟩, ⟨S2x16384x768, B⟩] concatenates_S2x256x768_S2x16384x768_S2x16640x768_d1) bitsLt_bf16_f32

theorem res_eq (m : (ℓ : Loc nD τ sig) → Buf (Elt F) ℓ) (c : Dev nD) : Value.res_out0 m c
    = joined (ctxOut (m ((c.tc : Thread nD τ).loc main_arg2)) (ctxProb (ctxExp (ctxScore (m ((c.tc : Thread nD τ).loc main_arg0)) (m ((c.tc : Thread nD τ).loc main_arg1))) (ctxTop (ctxScore (m ((c.tc : Thread nD τ).loc main_arg0)) (m ((c.tc : Thread nD τ).loc main_arg1)))))))
      (latOut (m ((c.tc : Thread nD τ).loc main_arg2)) (latProb (latExp (latScore (m ((c.tc : Thread nD τ).loc main_arg0)) (m ((c.tc : Thread nD τ).loc main_arg1))) (latTop (latScore (m ((c.tc : Thread nD τ).loc main_arg0)) (m ((c.tc : Thread nD τ).loc main_arg1))))))) := rfl

theorem top_gen {n k : ℕ} (S : Vec Ideal ⟨5, ![2, 4, 3, n, k]⟩ .f32) (hr : (⟨5, ![2, 4, 3, n, k]⟩ : Shape).ReducesTo [4] ⟨4, ![2, 4, 3, n]⟩) (hu : 0 < S_.numel)
    (hb : S_.BroadcastsInDim ⟨4, ![2, 4, 3, n]⟩ (![] : Fin 0 → Fin 4)) (b : Fin 2) (g : Fin 4) (h : Fin 3) (x : Fin n) :
    Eq (α := EReal) (maximumf (F := Ideal) (φ := .f32) (broadcastInDim ⟨4, ![2, 4, 3, n]⟩ ![] hb (constant (F := Ideal) S_ .f32 0xFF800000#32))
      (Host.reduce (FloatOps.maximumf (F := Ideal) (φ := .f32)) S (constant (F := Ideal) S_ .f32 0xFF800000#32) hr hu) (ix4 b g h x))
    (max (Ideal.ofBits .f32 0xFF800000#32) ((Finset.univ : Finset (Fin k)).fold max (Ideal.ofBits .f32 0xFF800000#32) fun y => S (ix5 b g h x y))) := by
  pointwise []

section ctx
variable (Q : Vec Ideal S2x16640x12x64 .f32) (K V : Vec Ideal S2x16640x4x64 .f32) (S : Vec Ideal S2x4x3x256x256 .f32) (T : Vec Ideal S2x4x3x256 .f32)
variable (b : Fin 2) (g : Fin 4) (h : Fin 3) (x : Fin 256) (y : Fin 256)

theorem ctxScore_apply : Eq (α := EReal) (ctxScore Q K (ix5 b g h x y))
    ((∑ z : Fin 64, K (ix4 b ⟨y.val, by omega⟩ g z) * Q (ix4 b ⟨x.val, by omega⟩ ⟨g.val * 3 + h.val, by omega⟩ z)) * Ideal.ofBits .f32 0x3E000000#32) := by
  pointwise [ctxScore]

theorem ctxTop_apply : Eq (α := EReal) (ctxTop S (ix4 b g h x))
    (max (Ideal.ofBits .f32 0xFF800000#32) ((Finset.univ : Finset (Fin 256)).fold max (Ideal.ofBits .f32 0xFF800000#32) fun y => S (ix5 b g h x y))) := by
  unfold ctxTop
  exact top_gen S _ _ _ b g h x

theorem ctxExp_apply : Eq (α := EReal) (ctxExp S T (ix5 b g h x y)) (Ideal.exp (S (ix5 b g h x y) - T (ix4 b g h x))) := by
  pointwise [ctxExp]

theorem ctxProb_apply : Eq (α := EReal) (ctxProb S (ix5 b g h x y)) (Ideal.div (S (ix5 b g h x y)) (∑ y : Fin 256, (S (ix5 b g h x y) : EReal))) := by
  pointwise [ctxProb]

theorem ctxOut_apply (w : Fin 768) : Eq (α := EReal) (ctxOut V S (ix3 b x w))
    (∑ y : Fin 256, V (ix4 b ⟨y.val, by omega⟩ ⟨w.val / 192, by omega⟩ ⟨w.val % 64, by omega⟩) * S (ix5 b ⟨w.val / 192, by omega⟩ ⟨w.val / 64 % 3, by omega⟩ x y)) := by
  pointwise [ctxOut]

end ctx

section lat
variable (Q : Vec Ideal S2x16640x12x64 .f32) (K V : Vec Ideal S2x16640x4x64 .f32) (S : Vec Ideal S2x4x3x16384x16640 .f32) (T : Vec Ideal S2x4x3x16384 .f32)
variable (b : Fin 2) (g : Fin 4) (h : Fin 3) (x : Fin 16384) (y : Fin 16640)

theorem latScore_apply : Eq (α := EReal) (latScore Q K (ix5 b g h x y))
    ((∑ z : Fin 64, K (ix4 b y g z) * Q (ix4 b ⟨256 + x.val, by omega⟩ ⟨g.val * 3 + h.val, by omega⟩ z)) * Ideal.ofBits .f32 0x3E000000#32) := by
  pointwise [latScore]

theorem latTop_apply : Eq (α := EReal) (latTop S (ix4 b g h x))
    (max (Ideal.ofBits .f32 0xFF800000#32) ((Finset.univ : Finset (Fin 16640)).fold max (Ideal.ofBits .f32 0xFF800000#32) fun y => S (ix5 b g h x y))) := by
  unfold latTop
  exact top_gen S _ _ _ b g h x

theorem latExp_apply : Eq (α := EReal) (latExp S T (ix5 b g h x y)) (Ideal.exp (S (ix5 b g h x y) - T (ix4 b g h x))) := by
  pointwise [latExp]

theorem latProb_apply : Eq (α := EReal) (latProb S (ix5 b g h x y)) (Ideal.div (S (ix5 b g h x y)) (∑ y : Fin 16640, (S (ix5 b g h x y) : EReal))) := by
  pointwise [latProb]

theorem latOut_apply (w : Fin 768) : Eq (α := EReal) (latOut V S (ix3 b x w))
    (∑ y : Fin 16640, V (ix4 b y ⟨w.val / 192, by omega⟩ ⟨w.val % 64, by omega⟩) * S (ix5 b ⟨w.val / 192, by omega⟩ ⟨w.val / 64 % 3, by omega⟩ x y)) := by
  pointwise [latOut]

end lat

theorem joined_apply (A : Vec Ideal S2x256x768 .f32) (B : Vec Ideal S2x16384x768 .f32) (b : Fin 2) (p : Fin 16640) (w : Fin 768) : Eq (α := EReal) (joined A B (ix3 b p w))
    (if h : p.val < 256 then A (ix3 b ⟨p.val, h⟩ w) else B (ix3 b ⟨p.val - 256, by omega⟩ w)) := by
  pointwise [joined]

end Cert.ReferenceIdeal.Gqa
end
-- ==== Proof.RefOut.lean ====
module

public import proofs.«01_k».proof.Proof.RefSide
public import proofs.«01_k».proof.Proof.Spec

@[expose] public section

set_option maxRecDepth 16384

noncomputable section

namespace Cert.ReferenceIdeal.Gqa

open Cert.ReferenceIdeal Cert.ReferenceIdeal.Gen Idealize.ShloMosaic Idealize.ShloMosaic.TcCoe Idealize.ShloMosaic.Tactic
open Cert.Gqa

theorem bits_bot : Ideal.ofBits .f32 0xFF800000#32 = (⊥ : EReal) := by
  simp [Ideal.ofBits, Ideal.ieee]
theorem bits_eighth : Ideal.ofBits .f32 0x3E000000#32 = ((1 / 8 : ℝ) : EReal) := by
  simp [Ideal.ofBits, Ideal.ieee, -EReal.coe_mul]; norm_num

variable (Q : Vec Ideal S2x16640x12x64 .f32) (K V : Vec Ideal S2x16640x4x64 .f32)
variable (q : S2x16640x12x64.Idx → ℝ) (k : S2x16640x4x64.Idx → ℝ) (hq : ∀ i, Eq (α := EReal) (Q i) (q i : EReal)) (hk : ∀ i, Eq (α := EReal) (K i) (k i : EReal))

include hq hk in
theorem dot_real (b : Fin 2) (u p : Fin 16640) (g : Fin 4) (h : Fin 12) (hg : g.val = h.val / 3) :
    Eq (α := EReal) ((∑ z : Fin 64, (K (ix4 b u g z) : EReal) * Q (ix4 b p h z)) * Ideal.ofBits .f32 0x3E000000#32) (qk q k b h p u.val : EReal) := by
  unfold qk
  rw [bits_eighth, EReal.coe_mul, Online.coe_sum]
  refine congrArg (· * ((1 / 8 : ℝ) : EReal)) (Finset.sum_congr rfl fun z _ => ?_)
  rw [hq, hk, ← EReal.coe_mul]
  refine congrArg _ (congrArg₂ _ (at4 k rfl ?_ hg rfl) rfl)
  exact (Nat.mod_eq_of_lt u.isLt).symm

/-- A row of exponentials divided by their sum, against the values, is the attention. -/
theorem row (N : ℕ) (σ : ℕ → ℝ) (v : ℕ → EReal) (M : ℝ) (s w : Fin N → EReal) (T : EReal) (hs : ∀ y, s y = (σ y.val : EReal)) (hw : ∀ y, w y = v y.val) (hT : T = (M : EReal)) :
    ∑ y : Fin N, w y * Ideal.div (Ideal.exp (s y - T)) (∑ y : Fin N, Ideal.exp (s y - T)) = attn N σ v M := by
  unfold attn
  rw [Finset.sum_range, Finset.sum_range]
  simp only [hs, hw, hT]

theorem top_real {n : ℕ} (hn : 0 < n) (s : Fin n → EReal) (σ : ℕ → ℝ) (hs : ∀ y, s y = (σ y.val : EReal)) :
    ∃ M : ℝ, max (Ideal.ofBits .f32 0xFF800000#32) ((Finset.univ : Finset (Fin n)).fold max (Ideal.ofBits .f32 0xFF800000#32) s) = (M : EReal) := by
  obtain ⟨r, hr⟩ := Online.fold_max_real hn fun y => σ y.val
  refine ⟨r, ?_⟩
  rw [bits_bot, max_eq_right bot_le, ← hr]
  exact congrArg (fun f => (Finset.univ : Finset (Fin n)).fold max ⊥ f) (funext hs)

include hq hk in
theorem ctx_attn (b : Fin 2) (p : Fin 256) (h : Fin 12) (d : Fin 64) : ∃ M : ℝ,
    Eq (α := EReal) (ctxOut V (ctxProb (ctxExp (ctxScore Q K) (ctxTop (ctxScore Q K)))) (ix3 b p ⟨64 * h.val + d.val, by omega⟩))
      (attn 256 (qk q k b h ⟨p.val, by omega⟩) (vals V b h d) M) := by
  have hh := h.isLt
  have hd := d.isLt
  have s : ∀ y : Fin 256, Eq (α := EReal) (ctxScore Q K (ix5 b ⟨(64 * h.val + d.val) / 192, by omega⟩ ⟨(64 * h.val + d.val) / 64 % 3, by omega⟩ p y)) (qk q k b h ⟨p.val, by omega⟩ y.val : EReal) := fun y => by
    rw [ctxScore_apply]
    refine Eq.trans ?_ (dot_real Q K q k hq hk b ⟨y.val, by omega⟩ ⟨p.val, by omega⟩ ⟨(64 * h.val + d.val) / 192, by omega⟩ h (by simp only; omega))
    refine congrArg (· * (Ideal.ofBits .f32 0x3E000000#32 : EReal)) (Finset.sum_congr rfl fun z _ => congrArg₂ (fun a b : EReal => a * b) rfl (at4 Q rfl rfl ?_ rfl))
    simp only; omega
  obtain ⟨M, hM⟩ := top_real (n := 256) (by decide) _ _ s
  refine ⟨M, ?_⟩
  rw [ctxOut_apply]
  simp only [ctxProb_apply, ctxExp_apply]
  refine row 256 _ _ M _ _ _ s (fun y => at4 V rfl ?_ ?_ ?_) ((ctxTop_apply ..).trans hM)
  · exact (Nat.mod_eq_of_lt (by have := y.isLt; omega)).symm
  · simp only; omega
  · simp only; omega

include hq hk in
theorem lat_attn (b : Fin 2) (p : Fin 16384) (h : Fin 12) (d : Fin 64) : ∃ M : ℝ,
    Eq (α := EReal) (latOut V (latProb (latExp (latScore Q K) (latTop (latScore Q K)))) (ix3 b p ⟨64 * h.val + d.val, by omega⟩))
      (attn 16640 (qk q k b h ⟨256 + p.val, by omega⟩) (vals V b h d) M) := by
  have hh := h.isLt
  have hd := d.isLt
  have s : ∀ y : Fin 16640, Eq (α := EReal) (latScore Q K (ix5 b ⟨(64 * h.val + d.val) / 192, by omega⟩ ⟨(64 * h.val + d.val) / 64 % 3, by omega⟩ p y)) (qk q k b h ⟨256 + p.val, by omega⟩ y.val : EReal) := fun y => by
    rw [latScore_apply]
    refine Eq.trans ?_ (dot_real Q K q k hq hk b y ⟨256 + p.val, by omega⟩ ⟨(64 * h.val + d.val) / 192, by omega⟩ h (by simp only; omega))
    refine congrArg (· * (Ideal.ofBits .f32 0x3E000000#32 : EReal)) (Finset.sum_congr rfl fun z _ => congrArg₂ (fun a b : EReal => a * b) rfl (at4 Q rfl rfl ?_ rfl))
    simp only; omega
  obtain ⟨M, hM⟩ := top_real (n := 16640) (by decide) _ _ s
  refine ⟨M, ?_⟩
  rw [latOut_apply]
  simp only [latProb_apply, latExp_apply]
  refine row 16640 _ _ M _ _ _ s (fun y => at4 V rfl ?_ ?_ ?_) ((latTop_apply ..).trans hM)
  · exact (Nat.mod_eq_of_lt (by have := y.isLt; omega)).symm
  · simp only; omega
  · simp only; omega

end Cert.ReferenceIdeal.Gqa
end
-- ==== Proof.LatRef.lean ====
module

public import proofs.«01_k».proof.Proof.Gen.Reference2Ideal.Run
public import proofs.«01_k».proof.Proof.RefOut
public import proofs.«01_k».proof.Proof.LatSpec
public import Idealize.ShloMosaic.Lib.Pointwise

@[expose] public section

set_option maxRecDepth 16384

noncomputable section

namespace Cert.Reference2Ideal.Mla

open Cert.Reference2Ideal Cert.Reference2Ideal.Gen Idealize.ShloMosaic Idealize.ShloMosaic.TcCoe Idealize.ShloMosaic.Tactic

variable {F : FTy → Type} [FloatOps F]

/-- The scores. -/
def score (Q : Vec F S2x16640x8x96 .f32) (K : Vec F S2x16640x8x96 .f32) : Vec F S2x8x16384x16640 .f32 :=
  mulf (Host.dotGeneral dot_S2x16384x8x96_S2x16640x8x96_S2x8x16384x16640_3_3_1_1_02_02 none (extractStridedSlice S2x16384x8x96 ![0, 256, 0, 0] Q slices_S2x16640x8x96_S2x16384x8x96_0_256_0_0) K) (broadcastInDim S2x8x16384x16640 ![] bcast_S_S2x8x16384x16640 (constant S_ .f32 0x3DD105EC#32))

/-- The largest score of each query. -/
def top (S : Vec F S2x8x16384x16640 .f32) : Vec F S2x8x16384 .f32 :=
  maximumf (broadcastInDim S2x8x16384 ![] bcast_S_S2x8x16384 (constant S_ .f32 0xFF800000#32)) (Host.reduce FloatOps.maximumf S (constant S_ .f32 0xFF800000#32) reducesTo_S2x8x16384x16640_S2x8x16384_d3 h_S_)

/-- The exponentials before they are divided by their sum. -/
def exps (S : Vec F S2x8x16384x16640 .f32) (T : Vec F S2x8x16384 .f32) : Vec F S2x8x16384x16640 .f32 :=
  Host.exp (subf S (broadcastInDim S2x8x16384x16640 ![0, 1, 2, 3] bcast_S2x8x16384x1_S2x8x16384x16640_0_1_2_3 (broadcastInDim S2x8x16384x1 ![0, 1, 2] bcast_S2x8x16384_S2x8x16384x1_0_1_2 T)))

/-- The exponentials divided by their sum. -/
def prob (E : Vec F S2x8x16384x16640 .f32) : Vec F S2x8x16384x16640 .f32 :=
  Host.divf E (broadcastInDim S2x8x16384x16640 ![0, 1, 2, 3] bcast_S2x8x16384x1_S2x8x16384x16640_0_1_2_3 (broadcastInDim S2x8x16384x1 ![0, 1, 2] bcast_S2x8x16384_S2x8x16384x1_0_1_2 (Host.reduceAdd E (constant S_ .f32 0x00000000#32) reducesTo_S2x8x16384x16640_S2x8x16384_d3 h_S_)))

/-- The weighted values. -/
def out (V : Vec F S2x16640x8x64 .f32) (P : Vec F S2x8x16384x16640 .f32) : Vec F S2x16384x512 .bf16 :=
  truncf .bf16 (shapeCast S2x16384x512 (transpose S2x16384x8x64 [0, 3, 1, 2] (Host.dotGeneral dot_S2x16640x8x64_S2x8x16384x16640_S2x8x64x16384_1_3_3_2_02_01 none V P) transposes_S2x8x64x16384_S2x16384x8x64_0_3_1_2) shapeCasts_S2x16384x8x64_S2x16384x512) bitsLt_bf16_f32

/-- The result of the arguments. -/
def res (m : (ℓ : Loc nD τ sig) → Buf (Elt F) ℓ) (c : Dev nD) : Vec F S2x16384x512 .bf16 :=
  out (m ((c.tc : Thread nD τ).loc main_arg2)) (prob (exps (score (m ((c.tc : Thread nD τ).loc main_arg0)) (m ((c.tc : Thread nD τ).loc main_arg1))) (top (score (m ((c.tc : Thread nD τ).loc main_arg0)) (m ((c.tc : Thread nD τ).loc main_arg1))))))

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

theorem top_gen {n k : ℕ} (S : Vec Ideal ⟨4, ![2, 8, n, k]⟩ .f32) (hr : (⟨4, ![2, 8, n, k]⟩ : Shape).ReducesTo [3] ⟨3, ![2, 8, n]⟩) (hu : 0 < S_.numel)
    (hb : S_.BroadcastsInDim ⟨3, ![2, 8, n]⟩ (![] : Fin 0 → Fin 3)) (b : Fin 2) (h : Fin 8) (x : Fin n) :
    Eq (α := EReal) (maximumf (F := Ideal) (φ := .f32) (broadcastInDim ⟨3, ![2, 8, n]⟩ ![] hb (constant (F := Ideal) S_ .f32 0xFF800000#32))
      (Host.reduce (FloatOps.maximumf (F := Ideal) (φ := .f32)) S (constant (F := Ideal) S_ .f32 0xFF800000#32) hr hu) (ix3 b h x))
    (max (Ideal.ofBits .f32 0xFF800000#32) ((Finset.univ : Finset (Fin k)).fold max (Ideal.ofBits .f32 0xFF800000#32) fun y => S (ix4 b h x y))) := by
  pointwise []

section apply
variable (Q K : Vec Ideal S2x16640x8x96 .f32) (V : Vec Ideal S2x16640x8x64 .f32) (S : Vec Ideal S2x8x16384x16640 .f32) (T : Vec Ideal S2x8x16384 .f32)
variable (b : Fin 2) (h : Fin 8) (x : Fin 16384) (y : Fin 16640)

theorem score_apply : Eq (α := EReal) (score Q K (ix4 b h x y))
    ((∑ z : Fin 96, Q (ix4 b ⟨256 + x.val, by omega⟩ h z) * K (ix4 b y h z)) * Ideal.ofBits .f32 0x3DD105EC#32) := by
  pointwise [score]

theorem top_apply : Eq (α := EReal) (top S (ix3 b h x))
    (max (Ideal.ofBits .f32 0xFF800000#32) ((Finset.univ : Finset (Fin 16640)).fold max (Ideal.ofBits .f32 0xFF800000#32) fun y => S (ix4 b h x y))) := by
  unfold top
  exact top_gen S _ _ _ b h x

theorem exps_apply : Eq (α := EReal) (exps S T (ix4 b h x y)) (Ideal.exp (S (ix4 b h x y) - T (ix3 b h x))) := by
  pointwise [exps]

theorem prob_apply : Eq (α := EReal) (prob S (ix4 b h x y)) (Ideal.div (S (ix4 b h x y)) (∑ y : Fin 16640, (S (ix4 b h x y) : EReal))) := by
  pointwise [prob]

theorem out_apply (w : Fin 512) : Eq (α := EReal) (out V S (ix3 b x w))
    (∑ y : Fin 16640, V (ix4 b y ⟨w.val / 64, by omega⟩ ⟨w.val % 64, by omega⟩) * S (ix4 b ⟨w.val / 64, by omega⟩ x y)) := by
  pointwise [out]

end apply

open Cert.Gqa Cert.ReferenceIdeal.Gqa

variable (Q K : Vec Ideal S2x16640x8x96 .f32) (V : Vec Ideal S2x16640x8x64 .f32)
variable (q k : S2x16640x8x96.Idx → ℝ) (hq : ∀ i, Eq (α := EReal) (Q i) (q i : EReal)) (hk : ∀ i, Eq (α := EReal) (K i) (k i : EReal))

include hq hk in
theorem score_real (b : Fin 2) (p : Fin 16384) (h h' : Fin 8) (e : h'.val = h.val) (u : Fin 16640) :
    Eq (α := EReal) (score Q K (ix4 b h' p u)) (Cert.Mla.qk q k b h ⟨256 + p.val, by omega⟩ u.val : EReal) := by
  obtain rfl := Fin.ext e
  rw [score_apply]
  unfold Cert.Mla.qk
  rw [EReal.coe_mul, Online.coe_sum, Cert.Mla.scale_coe]
  refine congrArg (fun a : EReal => a * Ideal.ofBits .f32 0x3DD105EC#32) (Finset.sum_congr rfl fun z _ => ?_)
  rw [hq, hk, ← EReal.coe_mul]
  refine congrArg _ ((mul_comm _ _).trans (congrArg₂ _ (at4 k rfl ?_ rfl rfl) rfl))
  exact (Nat.mod_eq_of_lt u.isLt).symm

include hq hk in
/-- The reference's result is the attention. -/
theorem attn_eq (b : Fin 2) (p : Fin 16384) (h : Fin 8) (d : Fin 64) : ∃ M : ℝ,
    Eq (α := EReal) (out V (prob (exps (score Q K) (top (score Q K)))) (ix3 b p ⟨64 * h.val + d.val, by omega⟩))
      (attn 16640 (Cert.Mla.qk q k b h ⟨256 + p.val, by omega⟩) (Cert.Mla.vals V b h d) M) := by
  have hh := h.isLt
  have hd := d.isLt
  have s : ∀ y : Fin 16640, Eq (α := EReal) (score Q K (ix4 b ⟨(64 * h.val + d.val) / 64, by omega⟩ p y)) (Cert.Mla.qk q k b h ⟨256 + p.val, by omega⟩ y.val : EReal) :=
    fun y => score_real Q K q k hq hk b p h _ (by simp only; omega) y
  obtain ⟨M, hM⟩ := top_real (n := 16640) (by decide) _ _ s
  refine ⟨M, ?_⟩
  rw [out_apply]
  simp only [prob_apply, exps_apply]
  refine row 16640 _ _ M _ _ _ s (fun y => at4 V rfl ?_ ?_ ?_) ((top_apply ..).trans hM)
  · exact (Nat.mod_eq_of_lt (by have := y.isLt; omega)).symm
  · simp only; omega
  · simp only; omega

end Cert.Reference2Ideal.Mla
end
-- ==== Proof.Trip.lean ====
module

public import proofs.«01_k».proof.Proof.Gen.KernelIdeal.Frame
public import proofs.«01_k».proof.Proof.Rows

@[expose] public section

set_option maxRecDepth 16384

noncomputable section

namespace Cert.KernelIdeal.Gqa

open Cert.Rows Cert.KernelIdeal Cert.KernelIdeal.Gen Idealize.ShloMosaic Idealize.ShloMosaic.TcCoe Idealize.ShloMosaic.Tactic

variable {F : FTy → Type} [FloatOps F]

theorem inb8 (n : ℕ) : ∀ a, (![1 * (n % 6), 0] : Fin 2 → ℕ) a + (⟨2, ![1, 256]⟩ : Shape).size a ≤ (⟨2, ![8, 256]⟩ : Shape).size a := by
  intro a; fin_cases a <;> simp <;> omega

theorem inb7 (n : ℕ) : ∀ a, (![80 * (n % 6), 0] : Fin 2 → ℕ) a + (⟨2, ![80, 256]⟩ : Shape).size a ≤ (⟨2, ![480, 256]⟩ : Shape).size a := by
  intro a; fin_cases a <;> simp <;> omega

theorem inbq (n : ℕ) : ∀ a, (![0, 128 * (n % 6), 0] : Fin 3 → ℕ) a + S1x128x256.size a ≤ S1x768x256.size a := by
  intro a; fin_cases a <;> simp <;> omega

theorem inbv (i : grid0.Coords) (k : Fin k0_t1_loop.trips) (hc : k0_cond2 i = 1#1) (n : ℕ) :
    ∀ a, (if n % 6 < 3 then k0_off2 k (BitVec.ofNat 32 (n / 6 % 13)) else k0_off3 k (BitVec.ofNat 32 (n / 6 % 13))) a + S1x1x80x256.size a ≤ S1x65x160x256.size a := by
  split
  · exact facts.k0_off2_inb i k hc ⟨n / 6 % 13, Nat.mod_lt _ (by decide)⟩
  · exact facts.k0_off3_inb i k hc ⟨n / 6 % 13, Nat.mod_lt _ (by decide)⟩

section trip
variable (i : grid0.Coords) (arg3 : Memref sig .tc .vmem S1x768x256 .bf16) (arg4 : Memref sig .tc .vmem S1x16640x128 .bf16) (arg5 : Memref sig .tc .vmem S1x65x160x256 .bf16)
  (arg7 : Memref sig .tc .vmem S480x256 .f32) (arg8 : Memref sig .tc .vmem S8x256 .f32) (hc : k0_cond2 i = 1#1)
  (X3 : BufTy.Contents (Elt F) arg3.view.ty) (X4 : BufTy.Contents (Elt F) arg4.view.ty) (X5 : BufTy.Contents (Elt F) arg5.view.ty) (k : Fin k0_t1_loop.trips)
  (f7 : BufTy.Contents (Elt F) arg7.view.ty) (f8 : BufTy.Contents (Elt F) arg8.view.ty)

/-- The scores of stage `n` of a trip. -/
def tripS (n : ℕ) : FVec F S256x256 .f32 :=
  k0_pay2 (View.readAt (Elt F) arg4.view (Rect.unit (s := S1x16640x128) (k0_off1 k (BitVec.ofNat 32 (n / 6 % 13))) S1x256x128.size (facts.k0_off1_inb i k hc ⟨n / 6 % 13, Nat.mod_lt _ (by decide)⟩)).toLoadRect X4)
    (View.readAt (Elt F) arg3.view (Rect.unit (s := S1x768x256) ![0, 128 * (n % 6), 0] S1x128x256.size (inbq n)).toLoadRect X3)

/-- The block of values of stage `n` of a trip. -/
def tripV (n : ℕ) : Vec F S1x1x80x256 .bf16 :=
  View.readAt (Elt F) arg5.view (Rect.unit (s := S1x65x160x256) _ S1x1x80x256.size (inbv i k hc n)).toLoadRect X5

/-- The row of maxima stage `n` finds. -/
def tripM (n : ℕ) (L : List (View.Piece (Elt F) S8x256 .f32)) : Vec F S1x256 .f32 :=
  if n < 6 then View.readAt (Elt F) arg8.view (Rect.unit (s := S8x256) ![1 * (n % 6), 0] S1x256.size (inb8 n)).toLoadRect f8
  else arg8.view.readCov L (Rect.unit (s := S8x256) ![1 * (n % 6), 0] S1x256.size (inb8 n)).toLoadRect

/-- The band of sums stage `n` finds. -/
def tripA (n : ℕ) (L : List (View.Piece (Elt F) S480x256 .f32)) : Vec F S80x256 .f32 :=
  if n < 6 then View.readAt (Elt F) arg7.view (Rect.unit (s := S480x256) ![80 * (n % 6), 0] S80x256.size (inb7 n)).toLoadRect f7
  else arg7.view.readCov L (Rect.unit (s := S480x256) ![80 * (n % 6), 0] S80x256.size (inb7 n)).toLoadRect

/-- The writes of the maxima. -/
def list8 (S : ℕ → FVec F S256x256 .f32) (M : ℕ → List (View.Piece (Elt F) S8x256 .f32) → Vec F S1x256 .f32) (base : List (View.Piece (Elt F) S8x256 .f32)) (n : ℕ) :
    List (View.Piece (Elt F) S8x256 .f32) :=
  bands (Val := Elt F) (e := .f32) 8 256 6 1 inb8 (fun n L => k0_pay9 (S n) (M n L)) base n

/-- The writes of the sums. -/
def list7 (S : ℕ → FVec F S256x256 .f32) (V : ℕ → Vec F S1x1x80x256 .bf16) (M : ℕ → Vec F S1x256 .f32) (A : ℕ → List (View.Piece (Elt F) S480x256 .f32) → Vec F S80x256 .f32)
    (base : List (View.Piece (Elt F) S480x256 .f32)) (n : ℕ) : List (View.Piece (Elt F) S480x256 .f32) :=
  bands (Val := Elt F) (e := .f32) 480 256 6 80 inb7 (fun n L => k0_pay10 (S n) (M n) (V n) (A n L)) base n

variable (𝒱 : Variants) (c : Dev nD) (bd : Option 𝒱.V) (arg6 : Memref sig .tc .vmem S1x256x384 .bf16) (arg9 : Memref sig .tc .vmem S384x256 .f32)
  (h3 : arg3.IsWhole) (h4 : arg4.IsWhole) (h5 : arg5.IsWhole) (h6 : arg6.IsWhole) (h7 : arg7.IsWhole) (h8 : arg8.IsWhole) (h9 : arg9.IsWhole)

set_option maxHeartbeats 2000000 in
theorem trip8_eq : (tripL_k0_t1 (F := F) 𝒱 c bd i arg3 h3 arg4 h4 arg5 h5 arg6 h6 arg7 h7 arg8 h8 arg9 h9 hc X3 X4 X5 k f7 f8).2
    = list8 (tripS i arg3 arg4 hc X3 X4 k) (tripM arg8 f8) [] 78 := by
  sl_kernel_rfl

set_option maxHeartbeats 2000000 in
theorem trip7_eq : (tripL_k0_t1 (F := F) 𝒱 c bd i arg3 h3 arg4 h4 arg5 h5 arg6 h6 arg7 h7 arg8 h8 arg9 h9 hc X3 X4 X5 k f7 f8).1
    = list7 (tripS i arg3 arg4 hc X3 X4 k) (tripV i arg5 hc X5 k) (fun n => tripM arg8 f8 n (list8 (tripS i arg3 arg4 hc X3 X4 k) (tripM arg8 f8) [] n)) (tripA arg7 f7) [] 78 := by
  sl_kernel_rfl

end trip

theorem inbw : ∀ n, ∀ a, (![64 * (n % 6), 0] : Fin 2 → ℕ) a + (⟨2, ![64, 256]⟩ : Shape).size a ≤ (⟨2, ![384, 256]⟩ : Shape).size a := by
  intro n a; fin_cases a <;> simp <;> omega

theorem inb64 (n : ℕ) : ∀ a, (![80 * (n % 6), 0] : Fin 2 → ℕ) a + S64x256.size a ≤ S480x256.size a := by
  intro a; fin_cases a <;> simp <;> omega

theorem inb1 (n : ℕ) : ∀ a, (![80 * (n % 6) + 64, 0] : Fin 2 → ℕ) a + S1x256.size a ≤ S480x256.size a := by
  intro a; fin_cases a <;> simp <;> omega

section run
variable (c : Dev nD) (i : grid0.Coords) (arg3 : Memref sig .tc .vmem S1x768x256 .bf16) (arg4 : Memref sig .tc .vmem S1x16640x128 .bf16) (arg5 : Memref sig .tc .vmem S1x65x160x256 .bf16)
  (arg6 : Memref sig .tc .vmem S1x256x384 .bf16) (arg7 : Memref sig .tc .vmem S480x256 .f32) (arg8 : Memref sig .tc .vmem S8x256 .f32) (arg9 : Memref sig .tc .vmem S384x256 .f32)
  (h3 : arg3.IsWhole) (h4 : arg4.IsWhole) (h5 : arg5.IsWhole) (h6 : arg6.IsWhole) (h7 : arg7.IsWhole) (h8 : arg8.IsWhole) (h9 : arg9.IsWhole)
  (x0 : Vec F S1x768x256 .bf16) (x1 : Vec F S1x16640x128 .bf16) (x2 : Vec F S1x65x160x256 .bf16)

/-- The writes that clear the sums and reset the maxima. -/
def base7 : List (View.Piece (Elt F) S480x256 .f32) := [⟨Rect.unit (s := S480x256) ![0, 0] S480x256.size inb_S480x256_S480x256_0_0, k0_pay430⟩]
def base8 : List (View.Piece (Elt F) S8x256 .f32) := [⟨Rect.unit (s := S8x256) ![0, 0] S8x256.size inb_S8x256_S8x256_0_0, k0_pay431⟩]

/-- The quotients of the heads, from the writes of the sums. -/
def list9 (L7 : List (View.Piece (Elt F) S480x256 .f32)) : List (View.Piece (Elt F) S384x256 .f32) :=
  bands (Val := Elt F) (e := .f32) 384 256 6 64 inbw
    (fun n _ => k0_pay434 (arg7.view.readCov L7 (Rect.unit (s := S480x256) ![80 * (n % 6) + 64, 0] S1x256.size (inb1 n)).toLoadRect)
      (arg7.view.readCov L7 (Rect.unit (s := S480x256) ![80 * (n % 6), 0] S64x256.size (inb64 n)).toLoadRect)) [] 6

/-- The block written back, from the writes of the sums. -/
def outBlock (L7 : List (View.Piece (Elt F) S480x256 .f32)) : FVec F S1x256x384 .bf16 :=
  k0_pay1 (k0_pay440 (arg9.view.readCov (list9 arg7 L7) (Rect.unit (s := S384x256) ![0, 0] S384x256.size inb_S384x256_S384x256_0_0).toLoadRect))

/-- The scores, values, maxima and sums the one chunk of a context block finds. -/
def ctxS (n : ℕ) : FVec F S256x256 .f32 :=
  k0_pay2 (View.readAt (Elt F) arg4.view (Rect.unit (s := S1x16640x128) ![0, 0, 0] S1x256x128.size inb_S1x16640x128_S1x256x128_0_0_0).toLoadRect (h4.unread x1))
    (View.readAt (Elt F) arg3.view (Rect.unit (s := S1x768x256) ![0, 128 * (n % 6), 0] S1x128x256.size (inbq n)).toLoadRect (h3.unread x0))
theorem inbc (n : ℕ) : ∀ a, (![0, 0, if n % 6 < 3 then 0 else 80, 0] : Fin 4 → ℕ) a + S1x1x80x256.size a ≤ S1x65x160x256.size a := by
  intro a; fin_cases a <;> simp <;> split <;> omega
def ctxV (n : ℕ) : Vec F S1x1x80x256 .bf16 :=
  View.readAt (Elt F) arg5.view (Rect.unit (s := S1x65x160x256) ![0, 0, if n % 6 < 3 then 0 else 80, 0] S1x1x80x256.size (inbc n)).toLoadRect (h5.unread x2)
def ctxM (n : ℕ) (L : List (View.Piece (Elt F) S8x256 .f32)) : Vec F S1x256 .f32 :=
  arg8.view.readCov L (Rect.unit (s := S8x256) ![1 * (n % 6), 0] S1x256.size (inb8 n)).toLoadRect
def ctxA (n : ℕ) (L : List (View.Piece (Elt F) S480x256 .f32)) : Vec F S80x256 .f32 :=
  arg7.view.readCov L (Rect.unit (s := S480x256) ![80 * (n % 6), 0] S80x256.size (inb7 n)).toLoadRect

/-- The writes of the sums in a context block. -/
def ctx7 : List (View.Piece (Elt F) S480x256 .f32) :=
  list7 (ctxS arg3 arg4 h3 h4 x0 x1) (ctxV arg5 h5 x2) (fun n => ctxM arg8 n (list8 (ctxS arg3 arg4 h3 h4 x0 x1) (ctxM arg8) base8 n)) (ctxA arg7) base7 6

set_option maxHeartbeats 2000000 in
theorem runA_eq (hc0 : cond0_0 i) (hc1 : ¬cond0_1 i) :
    (kernelRun0_A (F := F) c i arg3 h3 arg4 h4 arg5 h5 arg6 h6 arg7 h7 arg8 h8 arg9 h9 hc0 hc1 x0 x1 x2).1
      = [⟨Rect.unit (s := S1x256x384) ![0, 0, 0] S1x256x384.size inb_S1x256x384_S1x256x384_0_0_0, outBlock arg7 arg9 (ctx7 arg3 arg4 arg5 arg7 arg8 h3 h4 h5 x0 x1 x2)⟩] := by
  sl_kernel_rfl

set_option maxHeartbeats 2000000 in
theorem runB_eq (hc0 : ¬cond0_0 i) (hc1 : cond0_1 i) :
    (kernelRun0_B (F := F) c i arg3 h3 arg4 h4 arg5 h5 arg6 h6 arg7 h7 arg8 h8 arg9 h9 hc0 hc1 x0 x1 x2).1
      = [⟨Rect.unit (s := S1x256x384) ![0, 0, 0] S1x256x384.size inb_S1x256x384_S1x256x384_0_0_0, outBlock arg7 arg9
          ((pb_k0_t1 Variants.none c none i arg3 h3 arg4 h4 arg5 h5 arg6 h6 arg7 h7 arg8 h8 arg9 h9 hc1 (h3.unread x0) (h4.unread x1) (h5.unread x2)
            (arg7.view.writes (Elt F) arg7.view.junk base7) (arg8.view.writes (Elt F) arg8.view.junk base8) (Scf.trips k0_t1_loop.lb k0_t1_loop.ub k0_t1_loop.st)).1 ++ base7)⟩] := by
  sl_kernel_rfl

end run
end Cert.KernelIdeal.Gqa
end
-- ==== Proof.State.lean ====
module

public import proofs.«01_k».proof.Proof.Trip
public import Idealize.ShloMosaic.Lib.Pointwise

@[expose] public section

set_option maxRecDepth 16384

noncomputable section

namespace Cert.KernelIdeal.Gqa

open Cert.Rows Cert.KernelIdeal Cert.KernelIdeal.Gen Idealize.ShloMosaic Idealize.ShloMosaic.TcCoe Idealize.ShloMosaic.Tactic

variable {F : FTy → Type} [FloatOps F]

section seq
variable (x0 : Vec F S1x768x256 .bf16) (x1 : Vec F S1x16640x128 .bf16) (x2 : Vec F S1x65x160x256 .bf16)

/-- Chunk `c` of the keys. -/
def kslice (c : ℕ) : Vec F S1x256x128 .bf16 := fun y =>
  x1 (ix3 0 ⟨(256 * c + (y 1).val) % 16640, Nat.mod_lt _ (by decide)⟩ ⟨(y 2).val, (y 2).isLt⟩)
/-- The queries of head `j`. -/
def qslice (j : ℕ) : Vec F S1x128x256 .bf16 := fun y =>
  x0 (ix3 0 ⟨(128 * j + (y 1).val) % 768, Nat.mod_lt _ (by decide)⟩ ⟨(y 2).val, (y 2).isLt⟩)
/-- Chunk `c` of the values head `j` reads. -/
def vslice (j c : ℕ) : Vec F S1x1x80x256 .bf16 := fun y =>
  x2 (ix4 0 ⟨c % 65, Nat.mod_lt _ (by decide)⟩ ⟨((if j < 3 then 0 else 80) + (y 2).val) % 160, Nat.mod_lt _ (by decide)⟩ ⟨(y 3).val, (y 3).isLt⟩)

/-- Head `j`'s scores in chunk `c`. -/
def sc (j c : ℕ) : FVec F S256x256 .f32 := k0_pay2 (kslice x1 c) (qslice x0 j)

/-- Head `j`'s maxima before chunk `c`. -/
def mst (j : ℕ) : ℕ → Vec F S1x256 .f32
  | 0 => fun _ => Scalar.ofBits .f32 0xF149F2CA#32
  | c + 1 => k0_pay9 (sc x0 x1 j c) (mst j c)
/-- Head `j`'s sums before chunk `c`. -/
def ast (j : ℕ) : ℕ → Vec F S80x256 .f32
  | 0 => fun _ => Scalar.ofBits .f32 0x00000000#32
  | c + 1 => k0_pay10 (sc x0 x1 j c) (mst x0 x1 j c) (vslice x2 j c) (ast j c)
end seq

theorem k0_off1_eq : ∀ (k : Fin k0_t1_loop.trips) (s : Fin 13), k0_off1 k (BitVec.ofNat 32 s.val) = ![0, 256 * (13 * k.val + s.val), 0] := by decide
theorem k0_off2_eq : ∀ (k : Fin k0_t1_loop.trips) (s : Fin 13), k0_off2 k (BitVec.ofNat 32 s.val) = ![0, 13 * k.val + s.val, 0, 0] := by decide
theorem k0_off3_eq : ∀ (k : Fin k0_t1_loop.trips) (s : Fin 13), k0_off3 k (BitVec.ofNat 32 s.val) = ![0, 13 * k.val + s.val, 80, 0] := by decide
theorem trips_eq : k0_t1_loop.trips = 5 := by decide

section trip
variable (i : grid0.Coords) (arg3 : Memref sig .tc .vmem S1x768x256 .bf16) (arg4 : Memref sig .tc .vmem S1x16640x128 .bf16) (arg5 : Memref sig .tc .vmem S1x65x160x256 .bf16)
  (arg7 : Memref sig .tc .vmem S480x256 .f32) (arg8 : Memref sig .tc .vmem S8x256 .f32) (hc : k0_cond2 i = 1#1)
  (h3 : arg3.IsWhole) (h4 : arg4.IsWhole) (h5 : arg5.IsWhole)
  (x0 : Vec F S1x768x256 .bf16) (x1 : Vec F S1x16640x128 .bf16) (x2 : Vec F S1x65x160x256 .bf16) (k : Fin k0_t1_loop.trips)

theorem read_q (n : ℕ) : View.readAt (Elt F) arg3.view (Rect.unit (s := S1x768x256) ![0, 128 * (n % 6), 0] S1x128x256.size (inbq n)).toLoadRect (h3.unread x0) = qslice x0 (n % 6) := by
  funext y
  show arg3.view.read (Elt F) (h3.unread x0) _ = _
  rw [h3.read_unread]
  refine congrArg x0 (funext fun a => Fin.ext ?_)
  have h1 : (y 1).val < 128 := (y 1).isLt
  have h0 : (y 0).val < 1 := (y 0).isLt
  have := Nat.mod_lt n (show 0 < 6 by decide)
  match a with
  | ⟨0, _⟩ => show 0 + 1 * (y 0).val = 0; omega
  | ⟨1, _⟩ => show 128 * (n % 6) + 1 * (y 1).val = (128 * (n % 6) + (y 1).val) % 768; omega
  | ⟨2, _⟩ => show 0 + 1 * (y 2).val = (y 2).val; omega

theorem read_k (off : Fin 3 → ℕ) (inb : ∀ a, off a + S1x256x128.size a ≤ S1x16640x128.size a) (c : ℕ) (hc : c < 65) (ho : off = ![0, 256 * c, 0]) :
    View.readAt (Elt F) arg4.view (Rect.unit (s := S1x16640x128) off S1x256x128.size inb).toLoadRect (h4.unread x1) = kslice x1 c := by
  subst ho
  funext y
  show arg4.view.read (Elt F) (h4.unread x1) _ = _
  rw [h4.read_unread]
  refine congrArg x1 (funext fun a => Fin.ext ?_)
  have h1 : (y 1).val < 256 := (y 1).isLt
  have h0 : (y 0).val < 1 := (y 0).isLt
  match a with
  | ⟨0, _⟩ => show 0 + 1 * (y 0).val = 0; omega
  | ⟨1, _⟩ => show 256 * c + 1 * (y 1).val = (256 * c + (y 1).val) % 16640; omega
  | ⟨2, _⟩ => show 0 + 1 * (y 2).val = (y 2).val; omega

theorem read_v (off : Fin 4 → ℕ) (inb : ∀ a, off a + S1x1x80x256.size a ≤ S1x65x160x256.size a) (j c : ℕ) (hc : c < 65) (ho : off = ![0, c, if j < 3 then 0 else 80, 0]) :
    View.readAt (Elt F) arg5.view (Rect.unit (s := S1x65x160x256) off S1x1x80x256.size inb).toLoadRect (h5.unread x2) = vslice x2 j c := by
  subst ho
  funext y
  show arg5.view.read (Elt F) (h5.unread x2) _ = _
  rw [h5.read_unread]
  refine congrArg x2 (funext fun a => Fin.ext ?_)
  have h2 : (y 2).val < 80 := (y 2).isLt
  have h1 : (y 1).val < 1 := (y 1).isLt
  have h0 : (y 0).val < 1 := (y 0).isLt
  match a with
  | ⟨0, _⟩ => show 0 + 1 * (y 0).val = 0; omega
  | ⟨1, _⟩ => show c + 1 * (y 1).val = c % 65; omega
  | ⟨2, _⟩ => show (if j < 3 then 0 else 80) + 1 * (y 2).val = ((if j < 3 then 0 else 80) + (y 2).val) % 160; split <;> omega
  | ⟨3, _⟩ => show 0 + 1 * (y 3).val = (y 3).val; omega

theorem tripS_eq (j c : ℕ) (hj : j < 6) (hlt : 6 * c + j < 78) :
    tripS i arg3 arg4 hc (h3.unread x0) (h4.unread x1) k (6 * c + j) = sc x0 x1 j (13 * k.val + c) := by
  have hk : k.val < 5 := lt_of_lt_of_eq k.isLt trips_eq
  unfold tripS sc
  rw [read_q, read_k arg4 h4 x1 _ _ (13 * k.val + c) (by omega), show (6 * c + j) % 6 = j by omega]
  have := k0_off1_eq k ⟨(6 * c + j) / 6 % 13, Nat.mod_lt _ (by decide)⟩
  rw [this]
  show ![0, 256 * (13 * k.val + (6 * c + j) / 6 % 13), 0] = _
  rw [show (6 * c + j) / 6 % 13 = c by omega]

theorem tripV_eq (j c : ℕ) (hj : j < 6) (hlt : 6 * c + j < 78) :
    tripV i arg5 hc (h5.unread x2) k (6 * c + j) = vslice x2 j (13 * k.val + c) := by
  have hk : k.val < 5 := lt_of_lt_of_eq k.isLt trips_eq
  unfold tripV
  refine read_v arg5 h5 x2 _ _ j (13 * k.val + c) (by omega) ?_
  have h2 := k0_off2_eq k ⟨(6 * c + j) / 6 % 13, Nat.mod_lt _ (by decide)⟩
  have h3 := k0_off3_eq k ⟨(6 * c + j) / 6 % 13, Nat.mod_lt _ (by decide)⟩
  simp only [] at h2 h3
  rw [h2, h3, show (6 * c + j) / 6 % 13 = c by omega, show (6 * c + j) % 6 = j by omega]
  split <;> rfl

end trip

/-- The reset buffers. -/
theorem band8_base (arg8 : Memref sig .tc .vmem S8x256 .f32) (f) (j : ℕ) :
    bandAt (Val := Elt F) arg8.view inb8 (arg8.view.writes (Elt F) f base8) j = fun _ => Scalar.ofBits .f32 0xF149F2CA#32 := by
  funext x
  exact View.read_writes_cons_unit_of_mem arg8.view f _ k0_pay431 [] _ _ rfl (fun a => by match a with | ⟨0, _⟩ => exact (Nat.zero_add _).symm | ⟨1, _⟩ => exact (Nat.zero_add _).symm)

theorem band7_base (arg7 : Memref sig .tc .vmem S480x256 .f32) (f) (j : ℕ) :
    bandAt (Val := Elt F) arg7.view inb7 (arg7.view.writes (Elt F) f base7) j = fun _ => Scalar.ofBits .f32 0x00000000#32 := by
  funext x
  exact View.read_writes_cons_unit_of_mem arg7.view f _ k0_pay430 [] _ _ rfl (fun a => by match a with | ⟨0, _⟩ => exact (Nat.zero_add _).symm | ⟨1, _⟩ => exact (Nat.zero_add _).symm)

section run
variable (c : Dev nD) (i : grid0.Coords) (arg3 : Memref sig .tc .vmem S1x768x256 .bf16) (arg4 : Memref sig .tc .vmem S1x16640x128 .bf16) (arg5 : Memref sig .tc .vmem S1x65x160x256 .bf16)
  (arg6 : Memref sig .tc .vmem S1x256x384 .bf16) (arg7 : Memref sig .tc .vmem S480x256 .f32) (arg8 : Memref sig .tc .vmem S8x256 .f32) (arg9 : Memref sig .tc .vmem S384x256 .f32)
  (h3 : arg3.IsWhole) (h4 : arg4.IsWhole) (h5 : arg5.IsWhole) (h6 : arg6.IsWhole) (h7 : arg7.IsWhole) (h8 : arg8.IsWhole) (h9 : arg9.IsWhole)
  (x0 : Vec F S1x768x256 .bf16) (x1 : Vec F S1x16640x128 .bf16) (x2 : Vec F S1x65x160x256 .bf16)

/-- One trip carries every head over thirteen chunks. -/
theorem trip_bands (hc : k0_cond2 i = 1#1) (k : Fin k0_t1_loop.trips) (f7 : BufTy.Contents (Elt F) arg7.view.ty) (f8 : BufTy.Contents (Elt F) arg8.view.ty)
    (H8 : ∀ j, j < 6 → bandAt (Val := Elt F) arg8.view inb8 f8 j = mst x0 x1 j (13 * k.val))
    (H7 : ∀ j, j < 6 → bandAt (Val := Elt F) arg7.view inb7 f7 j = ast x0 x1 x2 j (13 * k.val)) (j : ℕ) (hj : j < 6) :
    let S := tripS i arg3 arg4 hc (h3.unread x0) (h4.unread x1) k
    bandAt (Val := Elt F) arg8.view inb8 (arg8.view.writes (Elt F) f8 (list8 S (tripM arg8 f8) [] 78)) j = mst x0 x1 j (13 * (k.val + 1)) ∧
    bandAt (Val := Elt F) arg7.view inb7 (arg7.view.writes (Elt F) f7 (list7 S (tripV i arg5 hc (h5.unread x2) k) (fun n => tripM arg8 f8 n (list8 S (tripM arg8 f8) [] n)) (tripA arg7 f7) [] 78)) j
      = ast x0 x1 x2 j (13 * (k.val + 1)) := by
  intro S
  have e8 := fun n hn => bandAt_bands (Val := Elt F) arg8.view (inb := inb8) (base := []) (P := fun n L => k0_pay9 (S n) (tripM arg8 f8 n L)) (tripM arg8 f8)
    (fun n x => k0_pay9 (S n) x) (fun _ _ => rfl) (fun j c => mst x0 x1 j (13 * k.val + c)) 78
    (fun j c hj hlt => by
      show k0_pay9 (sc x0 x1 j (13 * k.val + c)) _ = k0_pay9 (S (6 * c + j)) _
      rw [show S (6 * c + j) = _ from tripS_eq i arg3 arg4 hc h3 h4 x0 x1 k j c hj hlt]
      rfl)
    (fun n hn => (if_pos hn).trans (H8 n hn)) (fun n hn => if_neg (by omega)) n hn
  have e7 := fun n hn => bandAt_bands (Val := Elt F) arg7.view (inb := inb7) (base := [])
    (P := fun n L => k0_pay10 (S n) (tripM arg8 f8 n (list8 S (tripM arg8 f8) [] n)) (tripV i arg5 hc (h5.unread x2) k n) (tripA arg7 f7 n L)) (tripA arg7 f7)
    (fun n x => k0_pay10 (S n) (tripM arg8 f8 n (list8 S (tripM arg8 f8) [] n)) (tripV i arg5 hc (h5.unread x2) k n) x) (fun _ _ => rfl) (fun j c => ast x0 x1 x2 j (13 * k.val + c)) 78
    (fun j c hj hlt => by
      show k0_pay10 (sc x0 x1 j (13 * k.val + c)) (mst x0 x1 j (13 * k.val + c)) (vslice x2 j (13 * k.val + c)) _ = k0_pay10 (S (6 * c + j)) _ _ _
      rw [show S (6 * c + j) = _ from tripS_eq i arg3 arg4 hc h3 h4 x0 x1 k j c hj hlt, tripV_eq i arg5 hc h5 x2 k j c hj hlt]
      exact congrArg (fun m => k0_pay10 _ m _ _) ((e8 _ (by omega)).1 c j rfl hj).symm)
    (fun n hn => (if_pos hn).trans (H7 n hn)) (fun n hn => if_neg (by omega)) n hn
  exact ⟨((e8 78 le_rfl).2 f8 13 j 0 rfl hj (by decide) (by omega)).trans (by rw [if_neg (by omega), Nat.mul_succ]),
    ((e7 78 le_rfl).2 f7 13 j 0 rfl hj (by decide) (by omega)).trans (by rw [if_neg (by omega), Nat.mul_succ])⟩

/-- Trips in a row leave every head's state after `13 k` chunks. -/
theorem trips_bands (hc : k0_cond2 i = 1#1) (G7 : BufTy.Contents (Elt F) arg7.view.ty) (G8 : BufTy.Contents (Elt F) arg8.view.ty)
    (pb : ℕ → List (View.Piece (Elt F) S480x256 .f32) × List (View.Piece (Elt F) S8x256 .f32)) (p0 : pb 0 = ([], []))
    (ps : ∀ k : Fin k0_t1_loop.trips, pb (k.val + 1)
      = (list7 (tripS i arg3 arg4 hc (h3.unread x0) (h4.unread x1) k) (tripV i arg5 hc (h5.unread x2) k)
          (fun n => tripM arg8 (arg8.view.writes (Elt F) G8 (pb k.val).2) n
            (list8 (tripS i arg3 arg4 hc (h3.unread x0) (h4.unread x1) k) (tripM arg8 (arg8.view.writes (Elt F) G8 (pb k.val).2)) [] n))
          (tripA arg7 (arg7.view.writes (Elt F) G7 (pb k.val).1)) [] 78 ++ (pb k.val).1,
        list8 (tripS i arg3 arg4 hc (h3.unread x0) (h4.unread x1) k) (tripM arg8 (arg8.view.writes (Elt F) G8 (pb k.val).2)) [] 78 ++ (pb k.val).2))
    (b8 : ∀ j, bandAt (Val := Elt F) arg8.view inb8 G8 j = mst x0 x1 j 0) (b7 : ∀ j, bandAt (Val := Elt F) arg7.view inb7 G7 j = ast x0 x1 x2 j 0)
    (k : ℕ) (hk : k ≤ k0_t1_loop.trips) (j : ℕ) (hj : j < 6) :
    bandAt (Val := Elt F) arg8.view inb8 (arg8.view.writes (Elt F) G8 (pb k).2) j = mst x0 x1 j (13 * k) ∧
      bandAt (Val := Elt F) arg7.view inb7 (arg7.view.writes (Elt F) G7 (pb k).1) j = ast x0 x1 x2 j (13 * k) := by
  induction k generalizing j with
  | zero => rw [p0]; exact ⟨b8 j, b7 j⟩
  | succ k ih =>
    have ih := ih (by omega)
    rw [ps ⟨k, by omega⟩]
    dsimp only
    rw [View.writes_append, View.writes_append]
    exact trip_bands i arg3 arg4 arg5 arg7 arg8 h3 h4 h5 x0 x1 x2 hc ⟨k, by omega⟩ _ _ (fun j hj => (ih j hj).1) (fun j hj => (ih j hj).2) j hj

/-- The writes of a latent block leave every head's state after its sixty-five chunks. -/
theorem lat_bands (hc : k0_cond2 i = 1#1) (j : ℕ) (hj : j < 6) :
    bandAt (Val := Elt F) arg7.view inb7 (arg7.view.writes (Elt F) arg7.view.junk
      ((pb_k0_t1 Variants.none c none i arg3 h3 arg4 h4 arg5 h5 arg6 h6 arg7 h7 arg8 h8 arg9 h9 hc (h3.unread x0) (h4.unread x1) (h5.unread x2)
            (arg7.view.writes (Elt F) arg7.view.junk base7) (arg8.view.writes (Elt F) arg8.view.junk base8) (Scf.trips k0_t1_loop.lb k0_t1_loop.ub k0_t1_loop.st)).1 ++ base7)) j
      = ast x0 x1 x2 j 65 := by
  have h := trips_bands i arg3 arg4 arg5 arg7 arg8 h3 h4 h5 x0 x1 x2 hc (arg7.view.writes (Elt F) arg7.view.junk base7) (arg8.view.writes (Elt F) arg8.view.junk base8)
    (pb_k0_t1 (F := F) Variants.none c none i arg3 h3 arg4 h4 arg5 h5 arg6 h6 arg7 h7 arg8 h8 arg9 h9 hc (h3.unread x0) (h4.unread x1) (h5.unread x2)
            (arg7.view.writes (Elt F) arg7.view.junk base7) (arg8.view.writes (Elt F) arg8.view.junk base8)) rfl
    (fun k => by rw [pb_k0_t1_succ, trip8_eq, trip7_eq]) (fun j => band8_base arg8 _ j) (fun j => band7_base arg7 _ j) k0_t1_loop.trips le_rfl j hj
  rw [View.writes_append]
  exact h.2.trans (by rw [trips_eq])

/-- The writes of a context block leave every head's state after its one chunk. -/
theorem ctx_bands (j : ℕ) (hj : j < 6) :
    bandAt (Val := Elt F) arg7.view inb7 (arg7.view.writes (Elt F) arg7.view.junk (ctx7 arg3 arg4 arg5 arg7 arg8 h3 h4 h5 x0 x1 x2)) j = ast x0 x1 x2 j 1 := by
  have hS : ∀ j, j < 6 → ctxS arg3 arg4 h3 h4 x0 x1 j = sc x0 x1 j 0 := fun j hj => by
    unfold ctxS sc
    rw [read_q, read_k arg4 h4 x1 _ _ 0 (by decide) rfl, Nat.mod_eq_of_lt hj]
  have hV : ∀ j, j < 6 → ctxV arg5 h5 x2 j = vslice x2 j 0 := fun j hj => by
    unfold ctxV
    exact read_v arg5 h5 x2 _ _ j 0 (by decide) (by rw [Nat.mod_eq_of_lt hj])
  have e8 := fun n hn => bandAt_bands (Val := Elt F) arg8.view (inb := inb8) (base := base8) (P := fun n L => k0_pay9 (ctxS arg3 arg4 h3 h4 x0 x1 n) (ctxM arg8 n L)) (ctxM arg8)
    (fun n x => k0_pay9 (ctxS arg3 arg4 h3 h4 x0 x1 n) x) (fun _ _ => rfl) (fun j c => mst x0 x1 j c) 6
    (fun j c hj hlt => by
      obtain rfl : c = 0 := by omega
      show k0_pay9 (sc x0 x1 j 0) _ = k0_pay9 (ctxS arg3 arg4 h3 h4 x0 x1 (6 * 0 + j)) _
      rw [show 6 * 0 + j = j by omega, hS j hj])
    (fun n hn => (bandAt_bands_of_le (Val := Elt F) arg8.view arg8.view.junk n n hn le_rfl).trans (band8_base arg8 _ n)) (fun n hn => rfl) n hn
  have e7 := bandAt_bands (Val := Elt F) arg7.view (inb := inb7) (base := base7)
    (P := fun n L => k0_pay10 (ctxS arg3 arg4 h3 h4 x0 x1 n) (ctxM arg8 n (list8 (ctxS arg3 arg4 h3 h4 x0 x1) (ctxM arg8) base8 n)) (ctxV arg5 h5 x2 n) (ctxA arg7 n L)) (ctxA arg7)
    (fun n x => k0_pay10 (ctxS arg3 arg4 h3 h4 x0 x1 n) (ctxM arg8 n (list8 (ctxS arg3 arg4 h3 h4 x0 x1) (ctxM arg8) base8 n)) (ctxV arg5 h5 x2 n) x) (fun _ _ => rfl) (fun j c => ast x0 x1 x2 j c) 6
    (fun j c hj hlt => by
      obtain rfl : c = 0 := by omega
      show k0_pay10 (sc x0 x1 j 0) (mst x0 x1 j 0) (vslice x2 j 0) _ = k0_pay10 (ctxS arg3 arg4 h3 h4 x0 x1 (6 * 0 + j)) (ctxM arg8 (6 * 0 + j) _) (ctxV arg5 h5 x2 (6 * 0 + j)) _
      rw [show 6 * 0 + j = j by omega, hS j hj, hV j hj]
      exact congrArg (fun m => k0_pay10 _ m _ _) ((e8 _ (by omega)).1 0 j (by omega) hj).symm)
    (fun n hn => (bandAt_bands_of_le (Val := Elt F) arg7.view arg7.view.junk n n hn le_rfl).trans (band7_base arg7 _ n)) (fun n hn => rfl) 6 le_rfl
  exact (e7.2 arg7.view.junk 1 j 0 rfl hj (by decide) (by omega)).trans (by rw [if_neg (by omega)])

/-- The quotient of head `j`. -/
def quot (a : Vec F S80x256 .f32) : FVec F S64x256 .f32 :=
  k0_pay434 (fun y => a (ix2 64 ⟨(y 1).val, (y 1).isLt⟩)) (fun y => a (ix2 ⟨(y 0).val, lt_of_lt_of_le (y 0).isLt (show 64 ≤ 80 by decide)⟩ ⟨(y 1).val, (y 1).isLt⟩))

theorem list9_bands (L7 : List (View.Piece (Elt F) S480x256 .f32)) (a : ℕ → Vec F S80x256 .f32)
    (hL : ∀ j, j < 6 → bandAt (Val := Elt F) arg7.view inb7 (arg7.view.writes (Elt F) arg7.view.junk L7) j = a j) (f) (j : ℕ) (hj : j < 6) :
    bandAt (Val := Elt F) arg9.view inbw (arg9.view.writes (Elt F) f (list9 arg7 L7)) j = quot (a j) := by
  have hP : ∀ n, n < 6 → k0_pay434 (arg7.view.readCov L7 (Rect.unit (s := S480x256) ![80 * (n % 6) + 64, 0] S1x256.size (inb1 n)).toLoadRect)
      (arg7.view.readCov L7 (Rect.unit (s := S480x256) ![80 * (n % 6), 0] S64x256.size (inb64 n)).toLoadRect) = quot (a n) := by
    intro n hn
    unfold quot
    rw [← hL n hn]
    refine congrArg₂ k0_pay434 (funext fun y => ?_) (funext fun y => ?_)
    · refine congrArg (arg7.view.read (Elt F) (arg7.view.writes (Elt F) arg7.view.junk L7)) (funext fun a => Fin.ext ?_)
      have h0 : (y 0).val < 1 := (y 0).isLt
      match a with
      | ⟨0, _⟩ => show 80 * (n % 6) + 64 + 1 * (y 0).val = 80 * (n % 6) + 1 * 64; omega
      | ⟨1, _⟩ => show 0 + 1 * (y 1).val = 0 + 1 * (y 1).val; rfl
    · refine congrArg (arg7.view.read (Elt F) (arg7.view.writes (Elt F) arg7.view.junk L7)) (funext fun a => Fin.ext ?_)
      match a with
      | ⟨0, _⟩ => rfl
      | ⟨1, _⟩ => rfl
  unfold list9
  have u := fun n => bandAt_bands_succ (Val := Elt F) (e := .f32) (R := 384) (C := 256) (q := 6) (h := 64) (inb := inbw) arg9.view (base := [])
    (P := fun n _ => k0_pay434 (arg7.view.readCov L7 (Rect.unit (s := S480x256) ![80 * (n % 6) + 64, 0] S1x256.size (inb1 n)).toLoadRect)
      (arg7.view.readCov L7 (Rect.unit (s := S480x256) ![80 * (n % 6), 0] S64x256.size (inb64 n)).toLoadRect)) f n j
  have main : ∀ n, j < n → n ≤ 6 → bandAt (Val := Elt F) arg9.view inbw (arg9.view.writes (Elt F) f (bands (Val := Elt F) (e := .f32) 384 256 6 64 inbw
    (fun n _ => k0_pay434 (arg7.view.readCov L7 (Rect.unit (s := S480x256) ![80 * (n % 6) + 64, 0] S1x256.size (inb1 n)).toLoadRect)
      (arg7.view.readCov L7 (Rect.unit (s := S480x256) ![80 * (n % 6), 0] S64x256.size (inb64 n)).toLoadRect)) [] n)) j = quot (a j) := by
    intro n
    induction n with
    | zero => exact fun h => absurd h (Nat.not_lt_zero _)
    | succ n ih =>
      intro hlt hle
      rw [u n]
      split
      · obtain rfl : n = j := by omega
        exact hP n hj
      · exact ih (by omega) (by omega)
  exact main 6 hj le_rfl

/-- The block written back, entry by entry. -/
theorem outBlock_apply (L7 : List (View.Piece (Elt F) S480x256 .f32)) (a : ℕ → Vec F S80x256 .f32)
    (hL : ∀ j, j < 6 → bandAt (Val := Elt F) arg7.view inb7 (arg7.view.writes (Elt F) arg7.view.junk L7) j = a j) (p : Fin 256) (j : Fin 6) (d : Fin 64) :
    outBlock arg7 arg9 L7 (ix3 0 p ⟨64 * j.val + d.val, by omega⟩) = FloatOps.truncf .bf16 bitsLt_bf16_f32 (quot (a j.val) (ix2 d p)) := by
  have hb := congrFun (list9_bands arg7 arg9 L7 a hL arg9.view.junk j.val j.isLt) (ix2 d p)
  unfold outBlock
  pointwise [k0_pay1, k0_pay440]
  rw [← hb]
  refine congrArg _ (congrArg (arg9.view.read (Elt F) (arg9.view.writes (Elt F) arg9.view.junk (list9 arg7 L7))) (funext fun a => Fin.ext ?_))
  match a with
  | ⟨0, _⟩ => show 0 + 1 * (64 * j.val + d.val) = 64 * (j.val % 6) + 1 * d.val; omega
  | ⟨1, _⟩ => rfl

end run
end Cert.KernelIdeal.Gqa
end
-- ==== Proof.Head.lean ====
module

public import proofs.«01_k».proof.Proof.State
public import proofs.«01_k».proof.Proof.Soft

@[expose] public section

set_option maxRecDepth 16384

noncomputable section

namespace Cert.KernelIdeal.Gqa

open Cert.KernelIdeal Cert.KernelIdeal.Gen Idealize.ShloMosaic Idealize.ShloMosaic.TcCoe Idealize.ShloMosaic.Tactic

theorem bits_bot : Ideal.ofBits .f32 0xFF800000#32 = (⊥ : EReal) := by
  simp [Ideal.ofBits, Ideal.ieee]
theorem bits_top : Ideal.ofBits .f32 0x7F800000#32 = (⊤ : EReal) := by
  simp [Ideal.ofBits, Ideal.ieee]
theorem bits_low : ∃ r : ℝ, Ideal.ofBits .f32 0xF149F2CA#32 = (r : EReal) := by
  simp [Ideal.ofBits, Ideal.ieee, -EReal.coe_mul, -EReal.coe_neg]
theorem bits_eighth : Ideal.ofBits .f32 0x3E000000#32 = ((1 / 8 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num

theorem pay2_apply (a : Vec Ideal S1x256x128 .bf16) (b : Vec Ideal S1x128x256 .bf16) (t p : Fin 256) :
    k0_pay2 a b (ix2 t p) = ∑ x : Fin 128, a (ix3 0 t x) * b (ix3 0 x p) := by
  pointwise [k0_pay2]

theorem pay9_apply (s : FVec Ideal S256x256 .f32) (m : Vec Ideal S1x256 .f32) (z : Fin 1) (p : Fin 256) :
    k0_pay9 s m (ix2 z p) = max (m (ix2 0 p)) ((Finset.univ : Finset (Fin 256)).fold max ⊥ fun t => s (ix2 t p)) := by
  pointwise [k0_pay9, k0_pay8]
  rw [bits_bot, Subsingleton.elim z 0]

theorem pay10_apply (s : FVec Ideal S256x256 .f32) (m : Vec Ideal S1x256 .f32) (v : Vec Ideal S1x1x80x256 .bf16) (a : Vec Ideal S80x256 .f32) (r : Fin 80) (p : Fin 256) :
    k0_pay10 s m v a (ix2 r p) = Ideal.exp2 (m (ix2 0 p) - k0_pay9 s m (ix2 0 p)) * a (ix2 r p)
      + ∑ t : Fin 256, v (ix4 0 0 r t) * Ideal.exp2 (s (ix2 t p) - k0_pay9 s m (ix2 0 p)) := by
  pointwise [k0_pay10, k0_pay9]
  rfl

theorem quot_apply (a : Vec Ideal S80x256 .f32) (d : Fin 64) (p : Fin 256) :
    quot a (ix2 d p) = Ideal.div (a (ix2 ⟨d.val, by omega⟩ p)) (a (ix2 64 p)) := by
  pointwise [quot, k0_pay434]

section head
variable (x0 : Vec Ideal S1x768x256 .bf16) (x1 : Vec Ideal S1x16640x128 .bf16) (x2 : Vec Ideal S1x65x160x256 .bf16) (j : ℕ) (p : Fin 256)

/-- Head `j`'s score of query `p` against key `u`. -/
def score (u : ℕ) : EReal := ∑ x : Fin 128, x1 (ix3 0 ⟨u % 16640, Nat.mod_lt _ (by decide)⟩ x) * x0 (ix3 0 ⟨(128 * j + x.val) % 768, Nat.mod_lt _ (by decide)⟩ p)
/-- Row `r` of head `j`'s value of key `u`. -/
def val (r : Fin 80) (u : ℕ) : EReal := x2 (ix4 0 ⟨u / 256 % 65, Nat.mod_lt _ (by decide)⟩ ⟨((if j < 3 then 0 else 80) + r.val) % 160, Nat.mod_lt _ (by decide)⟩ ⟨u % 256, Nat.mod_lt _ (by decide)⟩)

theorem sc_apply (c : ℕ) (t : Fin 256) : sc x0 x1 j c (ix2 t p) = score x0 x1 j p (256 * c + t.val) := by
  unfold sc; rw [pay2_apply]; rfl

theorem vslice_apply (c : ℕ) (r : Fin 80) (t : Fin 256) : vslice x2 j c (ix4 0 0 r t) = val x2 j r (256 * c + t.val) := by
  unfold vslice val
  have ht := t.isLt
  refine congrArg x2 ?_
  refine (ix4_inj _ _ _ _ _ _ _ _).mpr ⟨rfl, Fin.ext ?_, Fin.ext rfl, Fin.ext ?_⟩
  · show c % 65 = (256 * c + t.val) / 256 % 65; omega
  · show t.val = (256 * c + t.val) % 256; omega

theorem mst_succ (c : ℕ) : mst x0 x1 j (c + 1) (ix2 0 p)
    = max (mst x0 x1 j c (ix2 0 p)) ((Finset.univ : Finset (Fin 256)).fold max ⊥ fun t => score x0 x1 j p (256 * c + t.val)) := by
  show k0_pay9 (sc x0 x1 j c) (mst x0 x1 j c) (ix2 0 p) = _
  rw [pay9_apply]
  simp only [sc_apply]

theorem ast_succ (c : ℕ) (r : Fin 80) : ast x0 x1 x2 j (c + 1) (ix2 r p)
    = Ideal.exp2 (mst x0 x1 j c (ix2 0 p) - mst x0 x1 j (c + 1) (ix2 0 p)) * ast x0 x1 x2 j c (ix2 r p)
      + ∑ t ∈ Finset.range 256, val x2 j r (256 * c + t) * Ideal.exp2 (score x0 x1 j p (256 * c + t) - mst x0 x1 j (c + 1) (ix2 0 p)) := by
  show k0_pay10 (sc x0 x1 j c) (mst x0 x1 j c) (vslice x2 j c) (ast x0 x1 x2 j c) (ix2 r p) = _
  rw [pay10_apply, Finset.sum_range]
  simp only [sc_apply, vslice_apply]
  rfl

/-- A head's quotient is the softmax's weighted mean of its values. -/
theorem head (n : ℕ) (hn : 0 < n) (s : ℕ → ℝ) (hs : ∀ u, u < 256 * n → score x0 x1 j p u = (s u : EReal))
    (h1 : ∀ u, u < 256 * n → val x2 j 64 u = 1) (σ : ℕ → ℝ) (hσ : ∀ u, u < 256 * n → σ u = s u * Real.log 2) (M : ℝ) (d : Fin 64) :
    quot (ast x0 x1 x2 j n) (ix2 d p) = ∑ u ∈ Finset.range (256 * n), val x2 j ⟨d.val, by omega⟩ u * Ideal.div (Ideal.exp ((σ u : EReal) - (M : EReal)))
      (∑ u ∈ Finset.range (256 * n), Ideal.exp ((σ u : EReal) - (M : EReal))) := by
  rw [quot_apply]
  have z : ∀ r, ast x0 x1 x2 j 0 (ix2 r p) = (0 : EReal) := fun r => Ideal.ofBits_zero .f32
  refine Online.online (W := 256) s (val x2 j ⟨d.val, by omega⟩) (fun c => mst x0 x1 j c (ix2 0 p)) (fun c => ast x0 x1 x2 j c (ix2 ⟨d.val, by omega⟩ p)) n (256 * n) rfl (by omega)
    (fun c => ast x0 x1 x2 j c (ix2 64 p)) ?_ (z _) (z _) ?_ ?_ σ hσ M
  · intro c
    induction c with
    | zero => exact fun _ => bits_low
    | succ c ih =>
      intro hc
      simp only [mst_succ]
      have e : (fun t : Fin 256 => score x0 x1 j p (256 * c + t.val)) = fun t : Fin 256 => (s (256 * c + t.val) : EReal) := funext fun t => hs _ (by omega)
      rw [e]
      exact Online.max_real (by decide) _ (ih (by omega)) _
  · intro c hc
    simp only [ast_succ]
    refine congrArg _ (Finset.sum_congr rfl fun t ht => ?_)
    rw [hs _ (by have := Finset.mem_range.mp ht; omega)]
  · intro c hc
    simp only [ast_succ]
    refine congrArg _ (Finset.sum_congr rfl fun t ht => ?_)
    have := Finset.mem_range.mp ht
    rw [hs _ (by omega), h1 _ (by omega)]

end head

end Cert.KernelIdeal.Gqa
end
-- ==== Proof.Block.lean ====
module

public import proofs.«01_k».proof.Proof.Head
public import proofs.«01_k».proof.Proof.Gen.KernelIdeal.Value
public import Idealize.ShloMosaic.Lib.Pipeline.ValueKit
public import Idealize.ShloMosaic.Lib.StableHlo.ReadAt

@[expose] public section

set_option maxRecDepth 16384

noncomputable section

namespace Cert.KernelIdeal.Gqa

open Cert.KernelIdeal Cert.KernelIdeal.Gen Idealize.ShloMosaic Idealize.ShloMosaic.TcCoe Idealize.ShloMosaic.Tactic
open Idealize.ShloMosaic.Pipeline (Dat)

theorem idx : ∀ t : Fin cfg0.N, win0_0.index t = ![t.val / 130, t.val / 65 % 2, t.val % 65] ∧ win0_1.index t = ![t.val / 130, 0, t.val / 65 % 2]
    ∧ win0_2.index t = ![t.val / 130, 0, t.val / 65 % 2, 0] ∧ win0_3.index t = ![t.val / 130, t.val % 65, t.val / 65 % 2] := by
  decide +kernel

theorem t_lt (t : Fin cfg0.N) : t.val < 260 := t.isLt.trans_eq N_0

variable (t : Fin cfg0.N)

theorem read0 (X : S2x1536x16640.Idx → Elt Ideal .bf16) (r : Fin 768) (p : Fin 256) : ((cfg0.win 0).blk t).view.read (Elt Ideal) X (ix3 0 r p)
    = X (ix3 ⟨t.val / 130, by have := t_lt t; omega⟩ ⟨768 * (t.val / 65 % 2) + r.val, by omega⟩ ⟨256 * (t.val % 65) + p.val, by omega⟩) := by
  obtain ⟨h0, -⟩ := idx t
  refine congrArg X ?_
  blk_ext [h0]

theorem read1 (X : S2x16640x256.Idx → Elt Ideal .bf16) (r : Fin 16640) (x : Fin 128) : ((cfg0.win 1).blk t).view.read (Elt Ideal) X (ix3 0 r x)
    = X (ix3 ⟨t.val / 130, by have := t_lt t; omega⟩ r ⟨128 * (t.val / 65 % 2) + x.val, by omega⟩) := by
  obtain ⟨-, h1, -⟩ := idx t
  refine congrArg X ?_
  blk_ext [h1]

theorem read2 (X : S2x65x320x256.Idx → Elt Ideal .bf16) (a : Fin 65) (r : Fin 160) (x : Fin 256) : ((cfg0.win 2).blk t).view.read (Elt Ideal) X (ix4 0 a r x)
    = X (ix4 ⟨t.val / 130, by have := t_lt t; omega⟩ a ⟨160 * (t.val / 65 % 2) + r.val, by omega⟩ x) := by
  obtain ⟨-, -, h2, -⟩ := idx t
  refine congrArg X ?_
  blk_ext [h2]

theorem read3 (X : S2x16640x768.Idx → Elt Ideal .bf16) (p : Fin 256) (x : Fin 384) : ((cfg0.win 3).blk t).view.read (Elt Ideal) X (ix3 0 p x)
    = X (ix3 ⟨t.val / 130, by have := t_lt t; omega⟩ ⟨256 * (t.val % 65) + p.val, by omega⟩ ⟨384 * (t.val / 65 % 2) + x.val, by omega⟩) := by
  obtain ⟨-, -, -, h3⟩ := idx t
  refine congrArg X ?_
  blk_ext [h3]

variable (m : (ℓ : Loc nD τ sig) → Buf (Elt Ideal) ℓ) (c : Dev nD)

theorem iblk0_apply (r : Fin 768) (p : Fin 256) : iblk m c 0 t (ix3 0 r p)
    = V m c main_v20 (ix3 ⟨t.val / 130, by have := t_lt t; omega⟩ ⟨768 * (t.val / 65 % 2) + r.val, by omega⟩ ⟨256 * (t.val % 65) + p.val, by omega⟩) :=
  read0 t _ r p

theorem iblk1_apply (r : Fin 16640) (x : Fin 128) : iblk m c 1 t (ix3 0 r x)
    = V m c main_v7 (ix3 ⟨t.val / 130, by have := t_lt t; omega⟩ r ⟨128 * (t.val / 65 % 2) + x.val, by omega⟩) :=
  read1 t _ r x

theorem iblk2_apply (a : Fin 65) (r : Fin 160) (x : Fin 256) : iblk m c 2 t (ix4 0 a r x)
    = V m c main_v24 (ix4 ⟨t.val / 130, by have := t_lt t; omega⟩ a ⟨160 * (t.val / 65 % 2) + r.val, by omega⟩ x) :=
  read2 t _ a r x

/-- The queries, the keys and the values as they are passed. -/
abbrev argQ : S2x16640x12x64.Idx → EReal := m ((c : Thread nD τ).loc main_arg0)
@[inherit_doc argQ] abbrev argK : S2x16640x4x64.Idx → EReal := m ((c : Thread nD τ).loc main_arg1)
@[inherit_doc argQ] abbrev argV : S2x16640x4x64.Idx → EReal := m ((c : Thread nD τ).loc main_arg2)

theorem v7_apply (b : Fin 2) (u : Fin 16640) (x : Fin 256) :
    Eq (α := EReal) (V m c main_v7 (ix3 b u x)) (argK m c (ix4 b u ⟨x.val / 64, by omega⟩ ⟨x.val % 64, by omega⟩)) := by
  unfold V
  after_reads_at

theorem v24_val (b : Fin 2) (a : Fin 65) (r : Fin 320) (x : Fin 256) (h : r.val % 80 < 64) :
    Eq (α := EReal) (V m c main_v24 (ix4 b a r x)) (argV m c (ix4 b ⟨a.val * 256 + x.val, by omega⟩ ⟨r.val / 80, by omega⟩ ⟨r.val % 80, h⟩)) := by
  unfold V
  after_reads_at
  rw [dif_pos h]
  after_reads_at

theorem v24_one (b : Fin 2) (a : Fin 65) (r : Fin 320) (x : Fin 256) (h : ¬ r.val % 80 < 64) :
    Eq (α := EReal) (V m c main_v24 (ix4 b a r x)) 1 := by
  unfold V
  after_reads_at
  rw [dif_neg h]
  after_reads_at

/-- A query's feature with the scale and the change of base. -/
def query (b : Fin 2) (u : Fin 16640) (h : Fin 12) (x : Fin 64) : EReal :=
  Ideal.div (argQ m c (ix4 b u h x) * Ideal.ofBits .f32 0x3E000000#32) (Ideal.log (Ideal.ofBits .f32 0x40000000#32))

set_option maxHeartbeats 4000000 in
theorem v20_on (b : Fin 2) (r : Fin 1536) (u : Fin 16640) (hk : r.val / 64 % 2 = r.val / 384 % 2) :
    Eq (α := EReal) (V m c main_v20 (ix3 b r u)) (query m c b u ⟨r.val / 128, by omega⟩ ⟨r.val % 64, by omega⟩) := by
  unfold V query
  after_reads_at
  by_cases h0 : r.val / 128 < 3
  · rw [dif_pos h0]
    after_reads_at
    have g : r.val % 128 < 64 := by omega
    rw [dif_pos g]
    have e : (⟨r.val % 128, by omega⟩ : Fin 64) = ⟨r.val % 64, by omega⟩ := Fin.ext (by show r.val % 128 = r.val % 64; omega)
    rw [e]
  rw [dif_neg h0]
  by_cases h1 : r.val / 128 - 3 < 3
  · rw [dif_pos h1]
    after_reads_at
    have g : ¬ r.val % 128 < 64 := by omega
    rw [dif_neg g]
    have f : (⟨3 + (r.val / 128 - 3), by omega⟩ : Fin 12) = ⟨r.val / 128, by omega⟩ := Fin.ext (by show 3 + (r.val / 128 - 3) = r.val / 128; omega)
    have e : (⟨r.val % 128 - 64, by omega⟩ : Fin 64) = ⟨r.val % 64, by omega⟩ := Fin.ext (by show r.val % 128 - 64 = r.val % 64; omega)
    rw [f, e]
  rw [dif_neg h1]
  by_cases h2 : r.val / 128 - 3 - 3 < 3
  · rw [dif_pos h2]
    after_reads_at
    have g : r.val % 128 < 64 := by omega
    rw [dif_pos g]
    have f : (⟨6 + (r.val / 128 - 3 - 3), by omega⟩ : Fin 12) = ⟨r.val / 128, by omega⟩ := Fin.ext (by show 6 + (r.val / 128 - 3 - 3) = r.val / 128; omega)
    have e : (⟨r.val % 128, by omega⟩ : Fin 64) = ⟨r.val % 64, by omega⟩ := Fin.ext (by show r.val % 128 = r.val % 64; omega)
    rw [f, e]
  rw [dif_neg h2]
  after_reads_at
  have g : ¬ r.val % 128 < 64 := by omega
  rw [dif_neg g]
  have f : (⟨9 + (r.val / 128 - 3 - 3 - 3), by omega⟩ : Fin 12) = ⟨r.val / 128, by omega⟩ := Fin.ext (by show 9 + (r.val / 128 - 3 - 3 - 3) = r.val / 128; omega)
  have e : (⟨r.val % 128 - 64, by omega⟩ : Fin 64) = ⟨r.val % 64, by omega⟩ := Fin.ext (by show r.val % 128 - 64 = r.val % 64; omega)
  rw [f, e]

set_option maxHeartbeats 4000000 in
theorem v20_off (b : Fin 2) (r : Fin 1536) (u : Fin 16640) (hk : ¬ r.val / 64 % 2 = r.val / 384 % 2) :
    Eq (α := EReal) (V m c main_v20 (ix3 b r u)) 0 := by
  unfold V
  after_reads_at
  by_cases h0 : r.val / 128 < 3
  · rw [dif_pos h0]
    after_reads_at
    have g : ¬ r.val % 128 < 64 := by omega
    rw [dif_neg g]
  rw [dif_neg h0]
  by_cases h1 : r.val / 128 - 3 < 3
  · rw [dif_pos h1]
    after_reads_at
    have g : r.val % 128 < 64 := by omega
    rw [dif_pos g]
  rw [dif_neg h1]
  by_cases h2 : r.val / 128 - 3 - 3 < 3
  · rw [dif_pos h2]
    after_reads_at
    have g : ¬ r.val % 128 < 64 := by omega
    rw [dif_neg g]
  rw [dif_neg h2]
  after_reads_at
  have g : r.val % 128 < 64 := by omega
  rw [dif_pos g]

end Cert.KernelIdeal.Gqa
end
-- ==== Proof.Flush.lean ====
module

public import proofs.«01_k».proof.Proof.Block
public import Idealize.ShloMosaic.Lib.VecWindow

@[expose] public section

set_option maxRecDepth 16384

noncomputable section

namespace Cert.KernelIdeal.Gqa

open Cert.KernelIdeal Cert.KernelIdeal.Gen Idealize.ShloMosaic Idealize.ShloMosaic.TcCoe Idealize.ShloMosaic.Tactic
open Idealize.ShloMosaic.Pipeline (Dat)

section out
variable (c : Dev nD) (i : grid0.Coords) (arg3 : Memref sig .tc .vmem S1x768x256 .bf16) (arg4 : Memref sig .tc .vmem S1x16640x128 .bf16) (arg5 : Memref sig .tc .vmem S1x65x160x256 .bf16)
  (arg6 : Memref sig .tc .vmem S1x256x384 .bf16) (arg7 : Memref sig .tc .vmem S480x256 .f32) (arg8 : Memref sig .tc .vmem S8x256 .f32) (arg9 : Memref sig .tc .vmem S384x256 .f32)
  (h3 : arg3.IsWhole) (h4 : arg4.IsWhole) (h5 : arg5.IsWhole) (h6 : arg6.IsWhole) (h7 : arg7.IsWhole) (h8 : arg8.IsWhole) (h9 : arg9.IsWhole)
  (x0 : Vec Ideal S1x768x256 .bf16) (x1 : Vec Ideal S1x16640x128 .bf16) (x2 : Vec Ideal S1x65x160x256 .bf16) (p : Fin 256) (j : Fin 6) (d : Fin 64)

/-- What the context's points leave in the output block. -/
theorem outA_apply (hc0 : cond0_0 i) (hc1 : ¬cond0_1 i) :
    Eq (α := EReal) (out0_A_3 c i arg3 h3 arg4 h4 arg5 h5 arg6 h6 arg7 h7 arg8 h8 arg9 h9 hc0 hc1 x0 x1 x2 (ix3 0 p ⟨64 * j.val + d.val, by omega⟩)) (quot (ast x0 x1 x2 j 1) (ix2 d p)) := by
  unfold out0_A_3
  rw [runA_eq, View.read_writes_full]
  exact outBlock_apply arg7 arg9 _ (fun j => ast x0 x1 x2 j 1) (fun j hj => ctx_bands arg3 arg4 arg5 arg7 arg8 h3 h4 h5 x0 x1 x2 j hj) p j d

/-- What the other points leave in the output block. -/
theorem outB_apply (hc0 : ¬cond0_0 i) (hc1 : cond0_1 i) :
    Eq (α := EReal) (out0_B_3 c i arg3 h3 arg4 h4 arg5 h5 arg6 h6 arg7 h7 arg8 h8 arg9 h9 hc0 hc1 x0 x1 x2 (ix3 0 p ⟨64 * j.val + d.val, by omega⟩)) (quot (ast x0 x1 x2 j 65) (ix2 d p)) := by
  unfold out0_B_3
  rw [runB_eq, View.read_writes_full]
  exact outBlock_apply arg7 arg9 _ (fun j => ast x0 x1 x2 j 65) (fun j hj => lat_bands c i arg3 arg4 arg5 arg6 arg7 arg8 arg9 h3 h4 h5 h6 h7 h8 h9 x0 x1 x2 hc1 j hj) p j d
end out

variable (m : (ℓ : Loc nD τ sig) → Buf (Elt Ideal) ℓ) (c : Dev nD) (t : Fin cfg0.N)

theorem after_apply (p : Fin 256) (j : Fin 6) (d : Fin 64) :
    Eq (α := EReal) (outsAt0 m c t.val t.isLt (ix3 0 p ⟨64 * j.val + d.val, by omega⟩))
      (quot (ast (iblk m c 0 t) (iblk m c 1 t) (iblk m c 2 t) j (if t.val % 65 = 0 then 1 else 65)) (ix2 d p)) := by
  by_cases h : t.val % 65 = 0
  · have h1 : ¬ 1 ≤ t.val % 65 := by omega
    rw [if_pos h, outsAt0_A m c t h h1]
    exact outA_apply ..
  · have h1 : 1 ≤ t.val % 65 := by omega
    rw [if_neg h, outsAt0_B m c t h h1]
    exact outB_apply ..

end Cert.KernelIdeal.Gqa
end
-- ==== Proof.Result.lean ====
module

public import proofs.«01_k».proof.Proof.Flush
public import proofs.«01_k».proof.Proof.Spec

@[expose] public section

set_option maxRecDepth 16384

noncomputable section

namespace Cert.KernelIdeal.Gqa

open Cert.KernelIdeal Cert.KernelIdeal.Gen Idealize.ShloMosaic Idealize.ShloMosaic.TcCoe Idealize.ShloMosaic.Tactic
open Idealize.ShloMosaic.Pipeline (Dat)
open Cert.Gqa

variable (m : (ℓ : Loc nD τ sig) → Buf (Elt Ideal) ℓ) (c : Dev nD) (t : Fin cfg0.N)
variable (q : S2x16640x12x64.Idx → ℝ) (k : S2x16640x4x64.Idx → ℝ) (hq : ∀ i, argQ m c i = (q i : EReal)) (hk : ∀ i, argK m c i = (k i : EReal))

theorem log2_pos : 0 < Real.log 2 := Real.log_pos (by norm_num)

include hq in
theorem query_real (b : Fin 2) (u : Fin 16640) (h : Fin 12) (x : Fin 64) : query m c b u h x = ((q (ix4 b u h x) * (1 / 8) / Real.log 2 : ℝ) : EReal) := by
  unfold query
  rw [hq, bits_eighth, bits_two, Ideal.log_coe, if_neg (by norm_num), Online.div_coe _ _ log2_pos.ne', ← EReal.coe_mul, ← EReal.coe_mul]
  exact congrArg _ (div_eq_mul_inv _ _).symm

/-- The batch, the head and the query of a point's block. -/
def bat : Fin 2 := ⟨t.val / 130, by have := t_lt t; omega⟩
@[inherit_doc bat] def hd (j : Fin 6) : Fin 12 := ⟨6 * (t.val / 65 % 2) + j.val, by omega⟩
@[inherit_doc bat] def pos (p : Fin 256) : Fin 16640 := ⟨256 * (t.val % 65) + p.val, by omega⟩

include hq hk in
theorem score_eq (j : Fin 6) (p : Fin 256) (u : ℕ) (hu : u < 16640) :
    score (iblk m c 0 t) (iblk m c 1 t) j p u = ((qk q k (bat t) (hd t j) (pos t p) u / Real.log 2 : ℝ) : EReal) := by
  unfold score
  obtain ⟨f, hf⟩ : ∃ f : ℕ → EReal, f = fun y : ℕ => ((k (ix4 (bat t) ⟨u % 16640, Nat.mod_lt _ (by decide)⟩ ⟨(hd t j).val / 3, by have := (hd t j).isLt; omega⟩ ⟨y % 64, Nat.mod_lt _ (by decide)⟩)
      * q (ix4 (bat t) (pos t p) (hd t j) ⟨y % 64, Nat.mod_lt _ (by decide)⟩) * (1 / 8) / Real.log 2 : ℝ) : EReal) := ⟨_, rfl⟩
  have hj := j.isLt
  have term : ∀ x : Fin 128, HMul.hMul (α := EReal) (β := EReal) (γ := EReal) (iblk m c 1 t (ix3 0 ⟨u % 16640, Nat.mod_lt _ (by decide)⟩ x)) (iblk m c 0 t (ix3 0 ⟨(128 * j.val + x.val) % 768, Nat.mod_lt _ (by decide)⟩ p))
      = if x.val / 64 = j.val / 3 then f (x.val % 64) else 0 := by
    intro x
    have hx := x.isLt
    have hU : t.val / 65 % 2 < 2 := Nat.mod_lt _ (by decide)
    have r0 : (128 * j.val + x.val) % 768 = 128 * j.val + x.val := Nat.mod_eq_of_lt (by omega)
    have r1 : (768 * (t.val / 65 % 2) + (128 * j.val + x.val) % 768) / 64 % 2 = x.val / 64 := by
      rw [r0]; generalize t.val / 65 % 2 = U at hU ⊢; omega
    have r2 : (768 * (t.val / 65 % 2) + (128 * j.val + x.val) % 768) / 384 % 2 = j.val / 3 := by
      rw [r0]; generalize t.val / 65 % 2 = U at hU ⊢; omega
    rw [iblk0_apply, iblk1_apply]
    by_cases e : x.val / 64 = j.val / 3
    · rw [if_pos e, v20_on _ _ _ _ _ (r1.trans (e.trans r2.symm)), v7_apply, hk, query_real m c q hq, ← EReal.coe_mul, hf]
      refine congrArg _ ?_
      rw [mul_div_assoc, mul_div_assoc, ← mul_assoc]
      refine congrArg₂ _ (congrArg₂ _ (at4 k rfl rfl ?_ ?_) (at4 q rfl rfl ?_ ?_)) rfl
      · simp only [hd]; omega
      · simp only; omega
      · simp only [hd, r0]; omega
      · simp only [r0]; omega
    · rw [if_neg e, v20_off _ _ _ _ _ (fun a => e (r1.symm.trans (a.trans r2)))]
      exact mul_zero _
  rw [Finset.sum_congr rfl fun x _ => term x, halves f _ (by omega), hf, ← Online.coe_sum]
  refine congrArg _ ?_
  unfold qk
  rw [Finset.sum_mul, Finset.sum_div]
  refine Finset.sum_congr rfl fun x _ => ?_
  have hx : x.val % 64 = x.val := Nat.mod_eq_of_lt x.isLt
  have e : (⟨x.val % 64, Nat.mod_lt _ (by decide)⟩ : Fin 64) = x := Fin.ext hx
  rw [e]

theorem val_eq (j : Fin 6) (d : Fin 64) (u : ℕ) (hu : u < 16640) :
    val (iblk m c 2 t) j ⟨d.val, by omega⟩ u = vals (argV m c) (bat t) (hd t j) d u := by
  unfold val vals
  have hj := j.isLt
  have hd' := d.isLt
  rw [iblk2_apply, v24_val _ _ _ _ _ _ (by simp only; split <;> omega)]
  refine at4 _ rfl ?_ ?_ ?_
  · simp only; omega
  · simp only [hd]; split <;> omega
  · simp only; split <;> omega

theorem val_one (j : Fin 6) (u : ℕ) : val (iblk m c 2 t) j 64 u = 1 := by
  unfold val
  have e : ((64 : Fin 80)).val = 64 := rfl
  rw [iblk2_apply, v24_one _ _ _ _ _ _ (by simp only [e]; split <;> omega)]

include hq hk in
/-- What a point leaves in its block of the result. -/
theorem block_attn (p : Fin 256) (j : Fin 6) (d : Fin 64) (M : ℝ) :
    Eq (α := EReal) (outsAt0 m c t.val t.isLt (ix3 0 p ⟨64 * j.val + d.val, by omega⟩))
      (attn (seen (pos t p)) (qk q k (bat t) (hd t j) (pos t p)) (vals (argV m c) (bat t) (hd t j) d) M) := by
  have hN : seen (pos t p) = 256 * (if t.val % 65 = 0 then 1 else 65) := by
    unfold seen pos
    have := p.isLt
    by_cases h : t.val % 65 = 0
    · rw [if_pos h, if_pos (by simp only; omega)]
    · rw [if_neg h, if_neg (by simp only; omega)]
  rw [after_apply, hN]
  generalize hn : (if t.val % 65 = 0 then 1 else 65) = n
  have n0 : 0 < n := by rw [← hn]; split <;> omega
  have n1 : n ≤ 65 := by rw [← hn]; split <;> omega
  rw [head (iblk m c 0 t) (iblk m c 1 t) (iblk m c 2 t) j p n n0 (fun u => qk q k (bat t) (hd t j) (pos t p) u / Real.log 2)
    (fun u hu => score_eq m c t q k hq hk j p u (by omega)) (fun u _ => val_one m c t j u) (qk q k (bat t) (hd t j) (pos t p))
    (fun u _ => (div_mul_cancel₀ _ log2_pos.ne').symm) M d]
  unfold attn
  refine Finset.sum_congr rfl fun u hu => ?_
  rw [val_eq m c t j d u (by have := Finset.mem_range.mp hu; omega)]

include hq hk in
/-- The array the kernel leaves is any array that is the attention at each position. -/
theorem arr_eq (G : S2x16640x768.Idx → EReal)
    (hG : ∀ (b : Fin 2) (p : Fin 16640) (h : Fin 12) (d : Fin 64), ∃ M : ℝ, G (ix3 b p ⟨64 * h.val + d.val, by omega⟩) = attn (seen p) (qk q k b h p) (vals (argV m c) b h d) M) :
    (dats m 0 c).arrAt 3 cfg0.N = G := by
  refine (dats m 0 c).arrAt_eq_of_covers 3 _ (by decide +kernel) fun t _ y => ?_
  rw [after0_3]
  obtain ⟨z, p, w, rfl⟩ : ∃ (z : Fin 1) (p : Fin 256) (w : Fin 384), y = ix3 z p w := ⟨y 0, y 1, y 2, by funext a; fin_cases a <;> rfl⟩
  obtain rfl : z = 0 := Subsingleton.elim _ _
  have hw := w.isLt
  let j : Fin 6 := ⟨w.val / 64, by omega⟩
  let d : Fin 64 := ⟨w.val % 64, by omega⟩
  obtain ⟨M, hM⟩ := hG (bat t) (pos t p) (hd t j) d
  have e : w = ⟨64 * j.val + d.val, by omega⟩ := Fin.ext (by simp only [j, d]; omega)
  have hr := read3 t G p w
  refine Eq.trans ?_ hr.symm
  have l := block_attn m c t q k hq hk p j d M
  rw [← hM] at l
  refine Eq.trans (Eq.trans (congrArg (fun w => (outsAt0 m c t.val t.isLt (ix3 0 p w) : EReal)) e) l) (at3 G rfl rfl ?_)
  simp only [hd, j, d]; omega

end Cert.KernelIdeal.Gqa
end
-- ==== Proof.Pre.lean ====
module

public import proofs.«01_k».proof.Pre_finite_scores
public import proofs.«01_k».proof.Pre_finite_latent
public import proofs.«01_k».proof.Proof.Spec
public import Idealize.ShloMosaic.Lib.ReduceAll

@[expose] public section

noncomputable section

namespace Cert.Gqa

open Idealize.ShloMosaic Idealize.ShloMosaic.Tactic

theorem inf_bits : Ideal.ofBits .f32 0x7F800000#32 = (⊤ : EReal) := by
  simp [Ideal.ofBits, Ideal.ieee]

/-- A reduction by `and` of "the absolute value is below infinity" that came out true says so of each element. -/
theorem finite_of {s t u : Shape} {axes : List (Fin s.rank)} [Subsingleton t.Idx] (x : FVec Ideal s .f32) (y : FVec Ideal s .f32) (hy : ∀ i, Eq (α := EReal) (y i) ⊤) (v : u.Idx → BitVec 1)
    (hr : s.ReducesTo axes t) (hu : 0 < u.numel) (j : t.Idx) (e : Host.reduce IntOp.andi (cmpf .olt (Host.absf x) y) v hr hu j = 1#1) (i : s.Idx) :
    ∃ r : ℝ, Eq (α := EReal) (x i) (r : EReal) := by
  have h := Host.reduce_andi_all _ _ _ _ _ e i
  refine real_of_abs _ ?_
  have h' : BitVec.ofBool (decide (max (x i : EReal) (-(x i : EReal)) < y i)) = 1#1 := h
  rw [hy i] at h'
  by_contra c
  rw [decide_eq_false c] at h'
  exact absurd h' (by decide)

theorem finite_scores_real [Cert.Pre_finite_scores.Facts] (q : FVec Ideal Pre_finite_scores.S2x16640x12x64 .f32) (k v : FVec Ideal Pre_finite_scores.S2x16640x4x64 .f32)
    (h : Pre_finite_scores.fn (F := Ideal) q k v = fun _ => 1#1) : (∀ i, ∃ r : ℝ, Eq (α := EReal) (q i) (r : EReal)) ∧ ∀ i, ∃ r : ℝ, Eq (α := EReal) (k i) (r : EReal) := by
  have h0 := congrFun h ix0
  obtain ⟨ha, hb⟩ := IntOp.andi_eq_one.1 h0
  exact ⟨fun i => finite_of q _ (fun _ => inf_bits) _ _ _ _ ha i, fun i => finite_of k _ (fun _ => inf_bits) _ _ _ _ hb i⟩

theorem finite_latent_real [Cert.Pre_finite_latent.Facts] (q k : FVec Ideal Pre_finite_latent.S2x16640x8x96 .f32) (v : FVec Ideal Pre_finite_latent.S2x16640x8x64 .f32)
    (h : Pre_finite_latent.fn (F := Ideal) q k v = fun _ => 1#1) : (∀ i, ∃ r : ℝ, Eq (α := EReal) (q i) (r : EReal)) ∧ ∀ i, ∃ r : ℝ, Eq (α := EReal) (k i) (r : EReal) := by
  have h0 := congrFun h ix0
  obtain ⟨ha, hb⟩ := IntOp.andi_eq_one.1 h0
  exact ⟨fun i => finite_of q _ (fun _ => inf_bits) _ _ _ _ ha i, fun i => finite_of k _ (fun _ => inf_bits) _ _ _ _ hb i⟩

end Cert.Gqa
end
-- ==== Proof.Norm.lean ====
module

public import Idealize.ShloMosaic.Lib.Pointwise

@[expose] public section

set_option maxRecDepth 16384

noncomputable section

namespace Cert.Ln

open Idealize.ShloMosaic

/-- The mean of a token's features. -/
def mean (z : Fin 1024 → EReal) : EReal := Ideal.div (∑ x, z x) (Ideal.ofBits .f32 0x44800000#32)

/-- A token's features less their mean, over their deviation, with the norm's scale and shift. -/
def ln (z : Fin 1024 → EReal) (g b : EReal) (j : Fin 1024) : EReal :=
  (z j - mean z) * Ideal.rsqrt (mean (fun i => (z i - mean z) * (z i - mean z)) + Ideal.ofBits .f32 0x358637BD#32) * g + b

/-- A feature of the gate's or the up-projection's hidden layer. -/
def mid (x sh sc : Fin 1024 → EReal) (W : (⟨2, ![1024, 2816]⟩ : Shape).Idx → EReal) (y : Fin 2816) : EReal :=
  ∑ k : Fin 1024, (x k * (Ideal.ofBits .f32 0x3F800000#32 + sc k) + sh k) * W (ix2 k y)

/-- A feature of the residual sum before its norm. -/
def ffn (x sh sc gate : Fin 1024 → EReal) (Wg Wu : (⟨2, ![1024, 2816]⟩ : Shape).Idx → EReal) (Wd : (⟨2, ![2816, 1024]⟩ : Shape).Idx → EReal) (j : Fin 1024) : EReal :=
  Ideal.ofBits .f32 0x3FB504F3#32 * x j + gate j * ∑ y : Fin 2816, mid x sh sc Wg y * Ideal.logistic (mid x sh sc Wg y) * mid x sh sc Wu y * Wd (ix2 y j)

end Cert.Ln
end
-- ==== Proof.FfnBody.lean ====
module

public import proofs.«01_k».proof.Proof.Norm
public import proofs.«01_k».proof.Proof.Gen.Kernel3Ideal.Frame

@[expose] public section

set_option maxRecDepth 16384

noncomputable section

namespace Cert.Kernel3Ideal.Ffn

open Cert.Kernel3Ideal Cert.Kernel3Ideal.Gen Idealize.ShloMosaic Idealize.ShloMosaic.TcCoe Idealize.ShloMosaic.Tactic
open Cert.Ln

section run
variable {F : FTy → Type} [FloatOps F]

/-- The modulated tokens. -/
def inp (v31 v37 : FVec F S256x1024 .f32) (v40 : Vec F S1x1x1024 .f32) : FVec F S256x1024 .bf16 :=
  truncf .bf16 (addf (mulf v31 v37) (broadcastTo S256x1024 (shapeCast S1x1024 v40 shapeCasts_S1x1x1024_S1x1024) broadcasts_S1x1024_S256x1024)) bitsLt_bf16_f32

/-- A projection of the modulated tokens. -/
def proj (u : FVec F S256x1024 .bf16) (w : Vec F S1024x2816 .bf16) : FVec F S256x2816 .f32 :=
  matmul dot_S256x1024_S1024x2816_S256x2816_1_0_0_1_n_n none u (shapeCast S1024x2816 w shapeCasts_S1024x2816_S1024x2816) (constant S256x2816 .f32 0x00000000#32)

/-- The gated hidden layer projected down. -/
def down (hg hu : FVec F S256x2816 .f32) (w : Vec F S2816x1024 .bf16) : FVec F S256x1024 .f32 :=
  matmul dot_S256x2816_S2816x1024_S256x1024_1_0_0_1_n_n none (truncf .bf16 (mulf (mulf hg (logistic hg)) hu) bitsLt_bf16_f32) (shapeCast S2816x1024 w shapeCasts_S2816x1024_S2816x1024)
    (constant S256x1024 .f32 0x00000000#32)

/-- The residual sum. -/
def pre (v31 : FVec F S256x1024 .f32) (d : FVec F S256x1024 .f32) (v59 : Vec F S1x1x1024 .f32) : FVec F S256x1024 .f32 :=
  addf (mulf (broadcast S256x1024 (Scalar.ofBits .f32 0x3FB504F3#32)) v31) (mulf (broadcastTo S256x1024 (shapeCast S1x1024 v59 shapeCasts_S1x1x1024_S1x1024) broadcasts_S1x1024_S256x1024) d)

/-- The residual sum less its mean. -/
def cent (z : FVec F S256x1024 .f32) : FVec F S256x1024 .f32 :=
  subf z (broadcastTo S256x1024 (divf (shapeCast S256x1 (multiReduction .add [1] S256 z 0x00000000#32 reduces_S256x1024_S256 (.inl rfl) rfl) shapeCasts_S256_S256x1)
    (broadcast S256x1 (Scalar.ofBits .f32 0x44800000#32))) broadcasts_S256x1_S256x1024)

/-- The block written back, from what the body reads. -/
def outBlock (x : Vec F S256x1024 .f32) (sh sc gate : Vec F S1x1x1024 .f32) (wg wu : Vec F S1024x2816 .bf16) (wd : Vec F S2816x1024 .bf16) (g b : Vec F S1x1024 .f32) : FVec F S256x1024 .f32 :=
  k0_pay1 (k0_pay4 g) (k0_pay5 b)
    (cent (pre (k0_pay2 x) (down (proj (inp (k0_pay2 x) (k0_pay3 sc) sh) wg) (proj (inp (k0_pay2 x) (k0_pay3 sc) sh) wu) wd) gate))
    (mulf (cent (pre (k0_pay2 x) (down (proj (inp (k0_pay2 x) (k0_pay3 sc) sh) wg) (proj (inp (k0_pay2 x) (k0_pay3 sc) sh) wu) wd) gate))
      (cent (pre (k0_pay2 x) (down (proj (inp (k0_pay2 x) (k0_pay3 sc) sh) wg) (proj (inp (k0_pay2 x) (k0_pay3 sc) sh) wu) wd) gate)))

variable (c : Dev nD) (i : grid0.Coords) (arg1 : Memref sig .tc .vmem S256x1024 .f32) (arg2 arg3 arg4 : Memref sig .tc .vmem S1x8x1024 .f32) (arg5 arg6 : Memref sig .tc .vmem S1024x2816 .bf16)
  (arg7 : Memref sig .tc .vmem S2816x1024 .bf16) (arg8 arg9 : Memref sig .tc .vmem S1x1024 .f32) (arg10 : Memref sig .tc .vmem S256x1024 .f32)
  (h1 : arg1.IsWhole) (h2 : arg2.IsWhole) (h3 : arg3.IsWhole) (h4 : arg4.IsWhole) (h5 : arg5.IsWhole) (h6 : arg6.IsWhole) (h7 : arg7.IsWhole) (h8 : arg8.IsWhole) (h9 : arg9.IsWhole) (h10 : arg10.IsWhole)
  (x0 : Vec F S256x1024 .f32) (x1 x2 x3 : Vec F S1x8x1024 .f32) (x4 x5 : Vec F S1024x2816 .bf16) (x6 : Vec F S2816x1024 .bf16) (x7 x8 : Vec F S1x1024 .f32)

set_option maxHeartbeats 4000000 in
theorem run_eq : (kernelRun0_A (F := F) c i arg1 h1 arg2 h2 arg3 h3 arg4 h4 arg5 h5 arg6 h6 arg7 h7 arg8 h8 arg9 h9 arg10 h10 x0 x1 x2 x3 x4 x5 x6 x7 x8).1
      = [⟨Rect.unit (s := S256x1024) ![0, 0] S256x1024.size inb_S256x1024_S256x1024_0_0, outBlock
          (View.readAt (Elt F) arg1.view (Rect.unit (s := S256x1024) ![0, 0] S256x1024.size inb_S256x1024_S256x1024_0_0).toLoadRect (h1.unread x0))
          (View.readAt (Elt F) arg2.view (Rect.unit (s := S1x8x1024) (k0_off1 i) S1x1x1024.size (k0_off1_inb i)).toLoadRect (h2.unread x1))
          (View.readAt (Elt F) arg3.view (Rect.unit (s := S1x8x1024) (k0_off1 i) S1x1x1024.size (k0_off1_inb i)).toLoadRect (h3.unread x2))
          (View.readAt (Elt F) arg4.view (Rect.unit (s := S1x8x1024) (k0_off1 i) S1x1x1024.size (k0_off1_inb i)).toLoadRect (h4.unread x3))
          (View.readAt (Elt F) arg5.view (Rect.unit (s := S1024x2816) ![0, 0] S1024x2816.size inb_S1024x2816_S1024x2816_0_0).toLoadRect (h5.unread x4))
          (View.readAt (Elt F) arg6.view (Rect.unit (s := S1024x2816) ![0, 0] S1024x2816.size inb_S1024x2816_S1024x2816_0_0).toLoadRect (h6.unread x5))
          (View.readAt (Elt F) arg7.view (Rect.unit (s := S2816x1024) ![0, 0] S2816x1024.size inb_S2816x1024_S2816x1024_0_0).toLoadRect (h7.unread x6))
          (View.readAt (Elt F) arg8.view (Rect.unit (s := S1x1024) ![0, 0] S1x1024.size inb_S1x1024_S1x1024_0_0).toLoadRect (h8.unread x7))
          (View.readAt (Elt F) arg9.view (Rect.unit (s := S1x1024) ![0, 0] S1x1024.size inb_S1x1024_S1x1024_0_0).toLoadRect (h9.unread x8))⟩] := by
  sl_kernel_rfl

end run

section apply
variable (x d z : Vec Ideal S256x1024 .f32) (sh sc gate : Vec Ideal S1x1x1024 .f32) (wg wu : Vec Ideal S1024x2816 .bf16) (wd : Vec Ideal S2816x1024 .bf16) (g b : Vec Ideal S1x1024 .f32)
variable (hg hu : FVec Ideal S256x2816 .f32) (u : FVec Ideal S256x1024 .bf16) (s : FVec Ideal S256x1024 .f32)
variable (p : Fin 256) (j : Fin 1024) (y : Fin 2816)

theorem inp_apply : Eq (α := EReal) (inp (k0_pay2 x) (k0_pay3 sc) sh (ix2 p j))
    (x (ix2 p j) * (Ideal.ofBits .f32 0x3F800000#32 + sc (ix3 0 0 j)) + sh (ix3 0 0 j)) := by
  pointwise [inp, k0_pay2, k0_pay3]

theorem proj_apply : Eq (α := EReal) (proj u wg (ix2 p y)) (∑ k : Fin 1024, u (ix2 p k) * wg (ix2 k y)) := by
  pointwise [proj]

theorem down_apply : Eq (α := EReal) (down hg hu wd (ix2 p j)) (∑ y : Fin 2816, HMul.hMul (α := EReal) (hg (ix2 p y) * Ideal.logistic (hg (ix2 p y)) * hu (ix2 p y)) (wd (ix2 y j))) := by
  pointwise [down]

theorem pre_apply : Eq (α := EReal) (pre (k0_pay2 x) d gate (ix2 p j)) (Ideal.ofBits .f32 0x3FB504F3#32 * x (ix2 p j) + gate (ix3 0 0 j) * d (ix2 p j)) := by
  pointwise [pre, k0_pay2]

theorem cent_apply : Eq (α := EReal) (cent (F := Ideal) z (ix2 p j)) (z (ix2 p j) - mean (fun i => z (ix2 p i))) := by
  unfold mean
  pointwise [cent]

theorem norm_apply : Eq (α := EReal) (k0_pay1 (k0_pay4 g) (k0_pay5 b) z s (ix2 p j))
    (z (ix2 p j) * Ideal.rsqrt (mean (fun i => s (ix2 p i)) + Ideal.ofBits .f32 0x358637BD#32) * g (ix2 0 j) + b (ix2 0 j)) := by
  unfold mean
  pointwise [k0_pay1, k0_pay4, k0_pay5]

/-- The norm of a residual sum that is known at a token. -/
theorem normed (Z : Fin 1024 → EReal) (e : ∀ k, Eq (α := EReal) (z (ix2 p k)) (Z k)) :
    Eq (α := EReal) (k0_pay1 (k0_pay4 g) (k0_pay5 b) (cent (F := Ideal) z) (mulf (cent (F := Ideal) z) (cent (F := Ideal) z)) (ix2 p j)) (ln Z (g (ix2 0 j)) (b (ix2 0 j)) j) := by
  have c : ∀ k, Eq (α := EReal) (cent (F := Ideal) z (ix2 p k)) (Z k - mean Z) := fun k =>
    (cent_apply z p k).trans (congrArg₂ (fun a b : EReal => a - b) (e k) (congrArg mean (funext e)))
  have q : ∀ k, Eq (α := EReal) (mulf (F := Ideal) (φ := .f32) (cent (F := Ideal) z) (cent (F := Ideal) z) (ix2 p k)) ((Z k - mean Z) * (Z k - mean Z)) := fun k =>
    congrArg₂ (fun a b : EReal => a * b) (c k) (c k)
  refine (norm_apply _ g b _ p j).trans ?_
  unfold ln
  rw [c]
  refine congrArg (fun a : EReal => (Z j - mean Z) * Ideal.rsqrt (a + Ideal.ofBits .f32 0x358637BD#32) * (g (ix2 0 j) : EReal) + (b (ix2 0 j) : EReal)) (congrArg mean (funext q))

/-- The block written back, at an index. -/
theorem outBlock_apply : Eq (α := EReal) (outBlock x sh sc gate wg wu wd g b (ix2 p j))
    (ln (ffn (fun k => x (ix2 p k)) (fun k => sh (ix3 0 0 k)) (fun k => sc (ix3 0 0 k)) (fun k => gate (ix3 0 0 k)) wg wu wd) (g (ix2 0 j)) (b (ix2 0 j)) j) := by
  unfold outBlock
  refine normed _ g b p j _ fun k => ?_
  have m : ∀ (w : Vec Ideal S1024x2816 .bf16) (y : Fin 2816), Eq (α := EReal) (proj (inp (k0_pay2 x) (k0_pay3 sc) sh) w (ix2 p y))
      (mid (fun k => x (ix2 p k)) (fun k => sh (ix3 0 0 k)) (fun k => sc (ix3 0 0 k)) w y) := fun w y =>
    (proj_apply _ _ _ _).trans (Finset.sum_congr rfl fun k _ => congrArg (fun a : EReal => a * (w (ix2 k y) : EReal)) (inp_apply x sh sc p k))
  refine (pre_apply x _ gate p k).trans ?_
  unfold ffn
  refine congrArg (fun a : EReal => Ideal.ofBits .f32 0x3FB504F3#32 * (x (ix2 p k) : EReal) + (gate (ix3 0 0 k) : EReal) * a) ?_
  refine (down_apply _ _ _ _ _).trans (Finset.sum_congr rfl fun y _ => ?_)
  rw [m, m]

end apply
end Cert.Kernel3Ideal.Ffn
end
-- ==== Proof.FfnBlock.lean ====
module

public import proofs.«01_k».proof.Proof.FfnBody
public import proofs.«01_k».proof.Proof.Spec
public import proofs.«01_k».proof.Proof.Gen.Kernel3Ideal.Value
public import Idealize.ShloMosaic.Lib.Pipeline.ValueKit
public import Idealize.ShloMosaic.Lib.StableHlo.ReadAt
public import Idealize.ShloMosaic.Lib.VecWindow

@[expose] public section

set_option maxRecDepth 16384

noncomputable section

namespace Cert.Kernel3Ideal.Ffn

open Cert.Kernel3Ideal Cert.Kernel3Ideal.Gen Idealize.ShloMosaic Idealize.ShloMosaic.TcCoe Idealize.ShloMosaic.Tactic
open Idealize.ShloMosaic.Pipeline (Dat)
open Cert.Ln

theorem idx : ∀ t : Fin cfg0.N, win0_0.index t = ![t.val, 0] ∧ win0_1.index t = ![0, 0, 3] ∧ win0_2.index t = ![0, 0, 4] ∧ win0_3.index t = ![0, 0, 5]
    ∧ win0_4.index t = ![0, 0] ∧ win0_5.index t = ![0, 0] ∧ win0_6.index t = ![0, 0] ∧ win0_7.index t = ![0, 0] ∧ win0_8.index t = ![0, 0] ∧ win0_9.index t = ![t.val, 0] := by
  decide +kernel

/-- The row of the modulation table a point takes: the first for a context block, else the batch element's. -/
def tab (t : ℕ) : ℕ := if t % 65 = 0 then 0 else 1 + t / 65

theorem off : ∀ t : Fin cfg0.N, k0_off1 (grid0.coords t) = ![0, tab t.val, 0] := by decide +kernel

theorem t_lt (t : Fin cfg0.N) : t.val < 130 := t.isLt.trans_eq N_0

theorem tab_lt (t : Fin cfg0.N) : tab t.val < 8 := by
  have := t_lt t
  unfold tab; split <;> omega

variable (t : Fin cfg0.N)

theorem read0 (X : S33280x1024.Idx → Elt Ideal .f32) (p : Fin 256) (j : Fin 1024) : ((cfg0.win 0).blk t).view.read (Elt Ideal) X (ix2 p j)
    = X (ix2 ⟨256 * t.val + p.val, by have := t_lt t; omega⟩ j) := by
  obtain ⟨h0, -⟩ := idx t
  refine congrArg X ?_
  blk_ext [h0]

theorem read9 (X : S33280x1024.Idx → Elt Ideal .f32) (p : Fin 256) (j : Fin 1024) : ((cfg0.win 9).blk t).view.read (Elt Ideal) X (ix2 p j)
    = X (ix2 ⟨256 * t.val + p.val, by have := t_lt t; omega⟩ j) := by
  obtain ⟨-, -, -, -, -, -, -, -, -, h⟩ := idx t
  refine congrArg X ?_
  blk_ext [h]

theorem read1 (X : S2x8x6144.Idx → Elt Ideal .f32) (r : Fin 8) (j : Fin 1024) : ((cfg0.win 1).blk t).view.read (Elt Ideal) X (ix3 0 r j)
    = X (ix3 0 r ⟨3072 + j.val, by omega⟩) := by
  obtain ⟨-, h, -⟩ := idx t
  refine congrArg X ?_
  blk_ext [h]

theorem read2 (X : S2x8x6144.Idx → Elt Ideal .f32) (r : Fin 8) (j : Fin 1024) : ((cfg0.win 2).blk t).view.read (Elt Ideal) X (ix3 0 r j)
    = X (ix3 0 r ⟨4096 + j.val, by omega⟩) := by
  obtain ⟨-, -, h, -⟩ := idx t
  refine congrArg X ?_
  blk_ext [h]

theorem read3 (X : S2x8x6144.Idx → Elt Ideal .f32) (r : Fin 8) (j : Fin 1024) : ((cfg0.win 3).blk t).view.read (Elt Ideal) X (ix3 0 r j)
    = X (ix3 0 r ⟨5120 + j.val, by omega⟩) := by
  obtain ⟨-, -, -, h, -⟩ := idx t
  refine congrArg X ?_
  blk_ext [h]

theorem read4 (X : S1024x2816.Idx → Elt Ideal .bf16) (p : Fin 1024) (j : Fin 2816) : ((cfg0.win 4).blk t).view.read (Elt Ideal) X (ix2 p j) = X (ix2 p j) := by
  obtain ⟨-, -, -, -, h, -⟩ := idx t
  refine congrArg X ?_
  blk_ext [h]

theorem read5 (X : S1024x2816.Idx → Elt Ideal .bf16) (p : Fin 1024) (j : Fin 2816) : ((cfg0.win 5).blk t).view.read (Elt Ideal) X (ix2 p j) = X (ix2 p j) := by
  obtain ⟨-, -, -, -, -, h, -⟩ := idx t
  refine congrArg X ?_
  blk_ext [h]

theorem read6 (X : S2816x1024.Idx → Elt Ideal .bf16) (p : Fin 2816) (j : Fin 1024) : ((cfg0.win 6).blk t).view.read (Elt Ideal) X (ix2 p j) = X (ix2 p j) := by
  obtain ⟨-, -, -, -, -, -, h, -⟩ := idx t
  refine congrArg X ?_
  blk_ext [h]

theorem read7 (X : S1x1024.Idx → Elt Ideal .f32) (j : Fin 1024) : ((cfg0.win 7).blk t).view.read (Elt Ideal) X (ix2 0 j) = X (ix2 0 j) := by
  obtain ⟨-, -, -, -, -, -, -, h, -⟩ := idx t
  refine congrArg X ?_
  blk_ext [h]

theorem read8 (X : S1x1024.Idx → Elt Ideal .f32) (j : Fin 1024) : ((cfg0.win 8).blk t).view.read (Elt Ideal) X (ix2 0 j) = X (ix2 0 j) := by
  obtain ⟨-, -, -, -, -, -, -, -, h, -⟩ := idx t
  refine congrArg X ?_
  blk_ext [h]

section loads
variable {F : FTy → Type} [FloatOps F]

/-- Loading a whole buffer gives its contents. -/
theorem load_all {s : Shape} {e : EltTy} (a : Memref sig .tc .vmem s e) (h : a.IsWhole) (x : Vec F s e) (o : Fin s.rank → ℕ) (ho : ∀ k, o k = 0)
    (hb : ∀ k, o k + s.size k ≤ s.size k) (y : s.Idx) : View.readAt (Elt F) a.view (Rect.unit (s := s) o s.size hb).toLoadRect (h.unread x) y = x y := by
  show a.view.read (Elt F) (h.unread x) _ = _
  rw [h.read_unread]
  refine congrArg x (funext fun k => Fin.ext ?_)
  show o k + 1 * (y k).val = (y k).val
  rw [ho]; omega

/-- Loading a row of the modulation table's block. -/
theorem load_row (a : Memref sig .tc .vmem S1x8x1024 .f32) (h : a.IsWhole) (x : Vec F S1x8x1024 .f32) (j : Fin 1024) :
    View.readAt (Elt F) a.view (Rect.unit (s := S1x8x1024) (k0_off1 (grid0.coords t)) S1x1x1024.size (k0_off1_inb (grid0.coords t))).toLoadRect (h.unread x) (ix3 0 0 j)
      = x (ix3 0 ⟨tab t.val, tab_lt t⟩ j) := by
  show a.view.read (Elt F) (h.unread x) _ = _
  rw [h.read_unread]
  refine congrArg x (funext fun k => Fin.ext ?_)
  have e := congrFun (off t)
  match k with
  | ⟨0, _⟩ => show k0_off1 (grid0.coords t) 0 + 1 * 0 = 0; rw [e]; rfl
  | ⟨1, _⟩ => show k0_off1 (grid0.coords t) 1 + 1 * 0 = tab t.val; rw [e]; rfl
  | ⟨2, _⟩ => show k0_off1 (grid0.coords t) 2 + 1 * j.val = j.val; rw [e]; show 0 + 1 * j.val = j.val; omega

end loads

variable (m : (ℓ : Loc nD τ sig) → Buf (Elt Ideal) ℓ) (c : Dev nD)

/-- The arguments as they are passed. -/
abbrev argX : S2x16384x1024.Idx → EReal := m ((c : Thread nD τ).loc main_arg0)
@[inherit_doc argX] abbrev argC : S2x256x1024.Idx → EReal := m ((c : Thread nD τ).loc main_arg1)
@[inherit_doc argX] abbrev argM : S2x2x6144.Idx → EReal := m ((c : Thread nD τ).loc main_arg2)
@[inherit_doc argX] abbrev argMc : S2x6144.Idx → EReal := m ((c : Thread nD τ).loc main_arg3)
@[inherit_doc argX] abbrev argWg : S1024x2816.Idx → EReal := m ((c : Thread nD τ).loc main_arg4)
@[inherit_doc argX] abbrev argWu : S1024x2816.Idx → EReal := m ((c : Thread nD τ).loc main_arg5)
@[inherit_doc argX] abbrev argWd : S2816x1024.Idx → EReal := m ((c : Thread nD τ).loc main_arg6)
@[inherit_doc argX] abbrev argG : S1024.Idx → EReal := m ((c : Thread nD τ).loc main_arg7)
@[inherit_doc argX] abbrev argB : S1024.Idx → EReal := m ((c : Thread nD τ).loc main_arg8)

theorem x_ctx (u : Fin 33280) (j : Fin 1024) (h : u.val % 16640 < 256) :
    Eq (α := EReal) (V m c main_v1 (ix2 u j)) (argC m c (ix3 ⟨u.val / 16640, by omega⟩ ⟨u.val % 16640, h⟩ j)) := by
  unfold V
  after_reads_at
  rw [dif_pos h]
  after_reads_at

theorem x_lat (u : Fin 33280) (j : Fin 1024) (h : ¬ u.val % 16640 < 256) :
    Eq (α := EReal) (V m c main_v1 (ix2 u j)) (argX m c (ix3 ⟨u.val / 16640, by omega⟩ ⟨u.val % 16640 - 256, by omega⟩ j)) := by
  unfold V
  after_reads_at
  rw [dif_neg h]
  after_reads_at

theorem mod_ctx (l : Fin 2) (r : Fin 8) (h : r.val < 1) (k : Fin 6144) : Eq (α := EReal) (V m c main_v4 (ix3 l r k)) (argMc m c (ix2 l k)) := by
  unfold V
  after_reads_at
  rw [dif_pos h]
  after_reads_at

theorem mod_lat (b : Fin 2) (k : Fin 6144) : Eq (α := EReal) (V m c main_v4 (ix3 0 ⟨1 + b.val, by omega⟩ k)) (argM m c (ix3 0 b k)) := by
  unfold V
  after_reads_at

theorem wg_eq (p : Fin 1024) (j : Fin 2816) : Eq (α := EReal) (V m c main_v5 (ix2 p j)) (argWg m c (ix2 p j)) := by
  unfold V
  after_reads_at

theorem wu_eq (p : Fin 1024) (j : Fin 2816) : Eq (α := EReal) (V m c main_v6 (ix2 p j)) (argWu m c (ix2 p j)) := by
  unfold V
  after_reads_at

theorem wd_eq (p : Fin 2816) (j : Fin 1024) : Eq (α := EReal) (V m c main_v7 (ix2 p j)) (argWd m c (ix2 p j)) := by
  unfold V
  after_reads_at

theorem g_eq (j : Fin 1024) : Eq (α := EReal) (V m c main_v8 (ix2 0 j)) (argG m c (ix1 j)) := by
  unfold V
  after_reads_at

theorem b_eq (j : Fin 1024) : Eq (α := EReal) (V m c main_v9 (ix2 0 j)) (argB m c (ix1 j)) := by
  unfold V
  after_reads_at

end Cert.Kernel3Ideal.Ffn
end
-- ==== Proof.FfnResult.lean ====
module

public import proofs.«01_k».proof.Proof.FfnBlock

@[expose] public section

set_option maxRecDepth 16384

noncomputable section

namespace Cert.Kernel3Ideal.Ffn

open Cert.Kernel3Ideal Cert.Kernel3Ideal.Gen Idealize.ShloMosaic Idealize.ShloMosaic.TcCoe Idealize.ShloMosaic.Tactic
open Idealize.ShloMosaic.Pipeline (Dat)
open Cert.Ln

variable (m : (ℓ : Loc nD τ sig) → Buf (Elt Ideal) ℓ) (c : Dev nD) (t : Fin cfg0.N)

/-- A feature of a token, its modulation given. -/
def feat (x sh sc gate : Fin 1024 → EReal) (j : Fin 1024) : EReal := ln (ffn x sh sc gate (argWg m c) (argWu m c) (argWd m c)) (argG m c (ix1 j)) (argB m c (ix1 j)) j

/-- The row of the result a block's row is. -/
def row (p : Fin 256) : Fin 33280 := ⟨256 * t.val + p.val, by have := t_lt t; omega⟩

theorem two (f : S1024x2816.Idx → EReal) (g : S1024x2816.Idx → EReal) (h : ∀ p j, f (ix2 p j) = g (ix2 p j)) : f = g := by
  funext y
  obtain ⟨p, j, rfl⟩ : ∃ (p : Fin 1024) (j : Fin 2816), y = ix2 p j := ⟨y 0, y 1, by funext a; fin_cases a <;> rfl⟩
  exact h p j

@[inherit_doc two] theorem two' (f : S2816x1024.Idx → EReal) (g : S2816x1024.Idx → EReal) (h : ∀ p j, f (ix2 p j) = g (ix2 p j)) : f = g := by
  funext y
  obtain ⟨p, j, rfl⟩ : ∃ (p : Fin 2816) (j : Fin 1024), y = ix2 p j := ⟨y 0, y 1, by funext a; fin_cases a <;> rfl⟩
  exact h p j

/-- What a point leaves in its block of the result. -/
theorem after_apply (p : Fin 256) (j : Fin 1024) :
    Eq (α := EReal) (outsAt0 m c t (ix2 p j))
      (feat m c (fun k => V m c main_v1 (ix2 (row t p) k)) (fun k => V m c main_v4 (ix3 0 ⟨tab t.val, tab_lt t⟩ ⟨3072 + k.val, by omega⟩))
        (fun k => V m c main_v4 (ix3 0 ⟨tab t.val, tab_lt t⟩ ⟨4096 + k.val, by omega⟩)) (fun k => V m c main_v4 (ix3 0 ⟨tab t.val, tab_lt t⟩ ⟨5120 + k.val, by omega⟩)) j) := by
  unfold outsAt0 out0_A_9
  rw [run_eq, View.read_writes_full]
  refine (outBlock_apply ..).trans ?_
  unfold feat
  refine congrFun (congr (congr (congrArg ln ?_) ?_) ?_) j
  · refine congr (congr (congr (congr (congr (congr (congrArg ffn ?_) ?_) ?_) ?_) ?_) ?_) ?_
    · funext k; exact (load_all _ _ _ _ (by decide) _ _).trans (read0 t _ p k)
    · funext k; exact (load_row t _ _ _ _).trans (read1 t _ _ _)
    · funext k; exact (load_row t _ _ _ _).trans (read2 t _ _ _)
    · funext k; exact (load_row t _ _ _ _).trans (read3 t _ _ _)
    · exact two _ _ fun p j => (load_all _ _ _ _ (by decide) _ _).trans ((read4 t _ _ _).trans (wg_eq ..))
    · exact two _ _ fun p j => (load_all _ _ _ _ (by decide) _ _).trans ((read5 t _ _ _).trans (wu_eq ..))
    · exact two' _ _ fun p j => (load_all _ _ _ _ (by decide) _ _).trans ((read6 t _ _ _).trans (wd_eq ..))
  · exact (load_all _ _ _ _ (by decide) _ _).trans ((read7 t _ _).trans (g_eq ..))
  · exact (load_all _ _ _ _ (by decide) _ _).trans ((read8 t _ _).trans (b_eq ..))

/-- A feature of a context's token and of a latent token. -/
def featC (b : Fin 2) (p : Fin 256) (j : Fin 1024) : EReal :=
  feat m c (fun k => argC m c (ix3 b p k)) (fun k => argMc m c (ix2 0 ⟨3072 + k.val, by omega⟩)) (fun k => argMc m c (ix2 0 ⟨4096 + k.val, by omega⟩))
    (fun k => argMc m c (ix2 0 ⟨5120 + k.val, by omega⟩)) j
@[inherit_doc featC] def featL (b : Fin 2) (p : Fin 16384) (j : Fin 1024) : EReal :=
  feat m c (fun k => argX m c (ix3 b p k)) (fun k => argM m c (ix3 0 b ⟨3072 + k.val, by omega⟩)) (fun k => argM m c (ix3 0 b ⟨4096 + k.val, by omega⟩))
    (fun k => argM m c (ix3 0 b ⟨5120 + k.val, by omega⟩)) j

theorem after_ctx (p : Fin 256) (j : Fin 1024) (h : (row t p).val % 16640 < 256) :
    Eq (α := EReal) (outsAt0 m c t (ix2 p j)) (featC m c ⟨(row t p).val / 16640, by omega⟩ ⟨(row t p).val % 16640, h⟩ j) := by
  have ht := t_lt t
  have hp := p.isLt
  have e : t.val % 65 = 0 := by simp only [row] at h; omega
  have hr : tab t.val < 1 := by unfold tab; rw [if_pos e]; omega
  rw [after_apply]
  unfold featC
  simp only [x_ctx m c _ _ h, mod_ctx m c 0 ⟨tab t.val, tab_lt t⟩ hr]

theorem after_lat (p : Fin 256) (j : Fin 1024) (h : ¬ (row t p).val % 16640 < 256) :
    Eq (α := EReal) (outsAt0 m c t (ix2 p j)) (featL m c ⟨(row t p).val / 16640, by omega⟩ ⟨(row t p).val % 16640 - 256, by omega⟩ j) := by
  have ht := t_lt t
  have hp := p.isLt
  have e : ¬ t.val % 65 = 0 := by simp only [row] at h; omega
  have hb : (row t p).val / 16640 < 2 := by omega
  have hr : (⟨tab t.val, tab_lt t⟩ : Fin 8) = ⟨1 + (⟨(row t p).val / 16640, by omega⟩ : Fin 2).val, by simp only; omega⟩ := by
    refine Fin.ext ?_
    show tab t.val = 1 + (row t p).val / 16640
    unfold tab; rw [if_neg e]; simp only [row]; omega
  rw [after_apply]
  unfold featL
  have hm : ∀ k, Eq (α := EReal) (V m c main_v4 (ix3 0 ⟨tab t.val, tab_lt t⟩ k)) (argM m c (ix3 0 ⟨(row t p).val / 16640, hb⟩ k)) := fun k => by
    rw [hr]
    exact mod_lat m c ⟨(row t p).val / 16640, hb⟩ k
  simp only [x_lat m c _ _ h, hm]

theorem block_eq (G : S33280x1024.Idx → EReal)
    (hc : ∀ (u : Fin 33280) (j : Fin 1024) (h : u.val % 16640 < 256), G (ix2 u j) = featC m c ⟨u.val / 16640, by omega⟩ ⟨u.val % 16640, h⟩ j)
    (hl : ∀ (u : Fin 33280) (j : Fin 1024) (_ : ¬ u.val % 16640 < 256), G (ix2 u j) = featL m c ⟨u.val / 16640, by omega⟩ ⟨u.val % 16640 - 256, by omega⟩ j)
    (p : Fin 256) (j : Fin 1024) : Eq (α := EReal) (outsAt0 m c t (ix2 p j)) (G (ix2 (row t p) j)) := by
  by_cases h : (row t p).val % 16640 < 256
  · exact (after_ctx m c t p j h).trans (hc (row t p) j h).symm
  · exact (after_lat m c t p j h).trans (hl (row t p) j h).symm

set_option maxHeartbeats 4000000 in
/-- The array the kernel leaves. -/
theorem arr_eq (G : S33280x1024.Idx → EReal)
    (hc : ∀ (u : Fin 33280) (j : Fin 1024) (h : u.val % 16640 < 256), G (ix2 u j) = featC m c ⟨u.val / 16640, by omega⟩ ⟨u.val % 16640, h⟩ j)
    (hl : ∀ (u : Fin 33280) (j : Fin 1024) (_ : ¬ u.val % 16640 < 256), G (ix2 u j) = featL m c ⟨u.val / 16640, by omega⟩ ⟨u.val % 16640 - 256, by omega⟩ j) :
    (dats m 0 c).arrAt 9 cfg0.N = G := by
  refine (dats m 0 c).arrAt_eq_of_covers 9 _ (by decide +kernel) fun t _ y => ?_
  rw [after0_9]
  obtain ⟨p, j, rfl⟩ : ∃ (p : Fin 256) (j : Fin 1024), y = ix2 p j := ⟨y 0, y 1, by funext a; fin_cases a <;> rfl⟩
  exact (block_eq m c t G hc hl p j).trans (read9 t G p j).symm

end Cert.Kernel3Ideal.Ffn
end
-- ==== Proof.HostNorm.lean ====
module

public import proofs.«01_k».proof.Proof.Norm
public import proofs.«01_k».proof.Reference3Ideal

@[expose] public section

set_option maxRecDepth 16384

noncomputable section

namespace Cert.HostLn

open Idealize.ShloMosaic
open Cert.Ln
open Cert.Reference3Ideal (S_)

section defs
variable {F : FTy → Type} [FloatOps F] {n : ℕ}

/-- The residual sum, its scale and its gate given at every token. -/
def pre (hs : S_.BroadcastsInDim ⟨3, ![2, n, 1024]⟩ (![] : Fin 0 → Fin 3)) (X Gate D : FVec F ⟨3, ![2, n, 1024]⟩ .f32) : FVec F ⟨3, ![2, n, 1024]⟩ .f32 :=
  addf (mulf (broadcastInDim ⟨3, ![2, n, 1024]⟩ ![] hs (constant S_ .f32 0x3FB504F3#32)) X) (mulf Gate D)

/-- The mean of each token's features. -/
def mean (hr : (⟨3, ![2, n, 1024]⟩ : Shape).ReducesTo [2] ⟨2, ![2, n]⟩) (hu : 0 < S_.numel)
    (h1 : (⟨2, ![2, n]⟩ : Shape).BroadcastsInDim ⟨3, ![2, n, 1]⟩ (![0, 1] : Fin 2 → Fin 3)) (h0 : S_.BroadcastsInDim ⟨3, ![2, n, 1]⟩ (![] : Fin 0 → Fin 3))
    (Z : FVec F ⟨3, ![2, n, 1024]⟩ .f32) : FVec F ⟨3, ![2, n, 1]⟩ .f32 :=
  Host.divf (broadcastInDim ⟨3, ![2, n, 1]⟩ ![0, 1] h1 (Host.reduceAdd Z (constant S_ .f32 0x00000000#32) hr hu)) (broadcastInDim ⟨3, ![2, n, 1]⟩ ![] h0 (constant S_ .f32 0x44800000#32))

/-- Each token's features less their mean. -/
def cent (hr : (⟨3, ![2, n, 1024]⟩ : Shape).ReducesTo [2] ⟨2, ![2, n]⟩) (hu : 0 < S_.numel)
    (h1 : (⟨2, ![2, n]⟩ : Shape).BroadcastsInDim ⟨3, ![2, n, 1]⟩ (![0, 1] : Fin 2 → Fin 3)) (h0 : S_.BroadcastsInDim ⟨3, ![2, n, 1]⟩ (![] : Fin 0 → Fin 3))
    (hb : (⟨3, ![2, n, 1]⟩ : Shape).BroadcastsInDim ⟨3, ![2, n, 1024]⟩ (![0, 1, 2] : Fin 3 → Fin 3)) (Z : FVec F ⟨3, ![2, n, 1024]⟩ .f32) : FVec F ⟨3, ![2, n, 1024]⟩ .f32 :=
  subf Z (broadcastInDim ⟨3, ![2, n, 1024]⟩ ![0, 1, 2] hb (mean hr hu h1 h0 Z))

/-- The norm of the residual sum. -/
def norm (hr : (⟨3, ![2, n, 1024]⟩ : Shape).ReducesTo [2] ⟨2, ![2, n]⟩) (hu : 0 < S_.numel)
    (h1 : (⟨2, ![2, n]⟩ : Shape).BroadcastsInDim ⟨3, ![2, n, 1]⟩ (![0, 1] : Fin 2 → Fin 3)) (h0 : S_.BroadcastsInDim ⟨3, ![2, n, 1]⟩ (![] : Fin 0 → Fin 3))
    (hb : (⟨3, ![2, n, 1]⟩ : Shape).BroadcastsInDim ⟨3, ![2, n, 1024]⟩ (![0, 1, 2] : Fin 3 → Fin 3)) (Z G B : FVec F ⟨3, ![2, n, 1024]⟩ .f32) : FVec F ⟨3, ![2, n, 1024]⟩ .f32 :=
  addf (mulf (mulf (cent hr hu h1 h0 hb Z) (broadcastInDim ⟨3, ![2, n, 1024]⟩ ![0, 1, 2] hb (Host.rsqrt (addf (mean hr hu h1 h0 (mulf (cent hr hu h1 h0 hb Z) (cent hr hu h1 h0 hb Z)))
    (broadcastInDim ⟨3, ![2, n, 1]⟩ ![] h0 (constant S_ .f32 0x358637BD#32)))))) G) B

/-- The hidden layer of the gate's and the up-projection's outputs. -/
def hidden (hs : S_.BroadcastsInDim ⟨3, ![2, n, 2816]⟩ (![] : Fin 0 → Fin 3)) (Hg Hu : FVec F ⟨3, ![2, n, 2816]⟩ .f32) : FVec F ⟨3, ![2, n, 2816]⟩ .f32 :=
  mulf (mulf Hg (Host.divf (broadcastInDim ⟨3, ![2, n, 2816]⟩ ![] hs (constant S_ .f32 0x3F800000#32))
    (addf (broadcastInDim ⟨3, ![2, n, 2816]⟩ ![] hs (constant S_ .f32 0x3F800000#32)) (Host.exp (Host.negf Hg))))) Hu

end defs

variable {n : ℕ} (hs : S_.BroadcastsInDim ⟨3, ![2, n, 1024]⟩ (![] : Fin 0 → Fin 3)) (hr : (⟨3, ![2, n, 1024]⟩ : Shape).ReducesTo [2] ⟨2, ![2, n]⟩) (hu : 0 < S_.numel)
    (h1 : (⟨2, ![2, n]⟩ : Shape).BroadcastsInDim ⟨3, ![2, n, 1]⟩ (![0, 1] : Fin 2 → Fin 3)) (h0 : S_.BroadcastsInDim ⟨3, ![2, n, 1]⟩ (![] : Fin 0 → Fin 3))
    (hb : (⟨3, ![2, n, 1]⟩ : Shape).BroadcastsInDim ⟨3, ![2, n, 1024]⟩ (![0, 1, 2] : Fin 3 → Fin 3)) (X Gate D Z G B : FVec Ideal ⟨3, ![2, n, 1024]⟩ .f32)
    (b : Fin 2) (p : Fin n) (j : Fin 1024)

theorem pre_apply : Eq (α := EReal) (pre (F := Ideal) hs X Gate D (ix3 b p j)) (Ideal.ofBits .f32 0x3FB504F3#32 * X (ix3 b p j) + Gate (ix3 b p j) * D (ix3 b p j)) := by
  pointwise [pre]

theorem sum_apply : Eq (α := EReal) (Host.reduceAdd (F := Ideal) (φ := .f32) Z (constant S_ .f32 0x00000000#32) hr hu (ix2 b p)) (∑ i : Fin 1024, Z (ix3 b p i)) := by
  pointwise []

/-- A coordinate of an axis that is repeated if its size is one. -/
theorem pick (h0 : n = 1 → 0 < n) (h1 : ¬ n = 1 → p.val < n) : (if h : n = 1 then (⟨0, h0 h⟩ : Fin n) else ⟨p.val, h1 h⟩).val = p.val := by
  have hp := p.isLt
  split
  · simp only; omega
  · rfl

theorem col_apply (V : FVec Ideal ⟨2, ![2, n]⟩ .f32) : broadcastInDim ⟨3, ![2, n, 1]⟩ ![0, 1] h1 V (ix3 b p 0) = V (ix2 b p) := by
  refine congrArg V (funext fun a => Fin.ext ?_)
  match a with
  | ⟨0, _⟩ => rfl
  | ⟨1, _⟩ => exact pick p _ _

theorem row_apply (V : FVec Ideal ⟨3, ![2, n, 1]⟩ .f32) : broadcastInDim ⟨3, ![2, n, 1024]⟩ ![0, 1, 2] hb V (ix3 b p j) = V (ix3 b p 0) := by
  refine congrArg V (funext fun a => Fin.ext ?_)
  match a with
  | ⟨0, _⟩ => rfl
  | ⟨1, _⟩ => exact pick p _ _
  | ⟨2, _⟩ => rfl

theorem mean_apply : Eq (α := EReal) (mean (F := Ideal) hr hu h1 h0 Z (ix3 b p 0)) (Ln.mean fun i => Z (ix3 b p i)) :=
  congrArg (fun a : EReal => Ideal.div a (Ideal.ofBits .f32 0x44800000#32)) ((col_apply h1 b p _).trans (sum_apply hr hu Z b p))

theorem cent_apply : Eq (α := EReal) (cent (F := Ideal) hr hu h1 h0 hb Z (ix3 b p j)) (Z (ix3 b p j) - Ln.mean fun i => Z (ix3 b p i)) :=
  congrArg (fun a : EReal => (Z (ix3 b p j) : EReal) - a) ((row_apply hb b p j _).trans (mean_apply hr hu h1 h0 Z b p))

theorem norm_step (C M : FVec Ideal ⟨3, ![2, n, 1024]⟩ .f32) : Eq (α := EReal)
    (addf (F := Ideal) (φ := .f32) (mulf (mulf C (broadcastInDim ⟨3, ![2, n, 1024]⟩ ![0, 1, 2] hb (Host.rsqrt (addf (mean (F := Ideal) hr hu h1 h0 M)
      (broadcastInDim ⟨3, ![2, n, 1]⟩ ![] h0 (constant S_ .f32 0x358637BD#32)))))) G) B (ix3 b p j))
    (C (ix3 b p j) * Ideal.rsqrt ((Ln.mean fun i => M (ix3 b p i)) + Ideal.ofBits .f32 0x358637BD#32) * G (ix3 b p j) + B (ix3 b p j)) :=
  congrArg (fun a : EReal => (C (ix3 b p j) : EReal) * a * (G (ix3 b p j) : EReal) + (B (ix3 b p j) : EReal)) ((row_apply hb b p j _).trans
    (congrArg (fun a : EReal => Ideal.rsqrt (a + Ideal.ofBits .f32 0x358637BD#32)) (mean_apply hr hu h1 h0 M b p)))

/-- The norm of a residual sum that is known at a token. -/
theorem norm_apply (z : Fin 1024 → EReal) (e : ∀ k, Eq (α := EReal) (Z (ix3 b p k)) (z k)) :
    Eq (α := EReal) (norm (F := Ideal) hr hu h1 h0 hb Z G B (ix3 b p j)) (ln z (G (ix3 b p j)) (B (ix3 b p j)) j) := by
  have c : ∀ k, Eq (α := EReal) (cent (F := Ideal) hr hu h1 h0 hb Z (ix3 b p k)) (z k - Ln.mean z) := fun k =>
    (cent_apply hr hu h1 h0 hb Z b p k).trans (congrArg₂ (fun a b : EReal => a - b) (e k) (congrArg Ln.mean (funext e)))
  have q : ∀ k, Eq (α := EReal) (mulf (F := Ideal) (φ := .f32) (cent (F := Ideal) hr hu h1 h0 hb Z) (cent (F := Ideal) hr hu h1 h0 hb Z) (ix3 b p k))
      ((z k - Ln.mean z) * (z k - Ln.mean z)) := fun k => congrArg₂ (fun a b : EReal => a * b) (c k) (c k)
  refine (norm_step hr hu h1 h0 hb G B b p j _ _).trans ?_
  unfold ln
  rw [c]
  exact congrArg (fun a : EReal => (z j - Ln.mean z) * Ideal.rsqrt (a + Ideal.ofBits .f32 0x358637BD#32) * (G (ix3 b p j) : EReal) + (B (ix3 b p j) : EReal)) (congrArg Ln.mean (funext q))

theorem bits_one : Ideal.ofBits .f32 0x3F800000#32 = 1 := by
  rw [← EReal.coe_one]
  simp [Ideal.ofBits, Ideal.ieee, -EReal.coe_mul, -EReal.coe_one]; norm_num

theorem hidden_apply (hs : S_.BroadcastsInDim ⟨3, ![2, n, 2816]⟩ (![] : Fin 0 → Fin 3)) (Hg Hu : FVec Ideal ⟨3, ![2, n, 2816]⟩ .f32) (y : Fin 2816) :
    Eq (α := EReal) (hidden (F := Ideal) hs Hg Hu (ix3 b p y)) (Hg (ix3 b p y) * Ideal.logistic (Hg (ix3 b p y)) * Hu (ix3 b p y)) := by
  unfold Ideal.logistic
  rw [← bits_one]
  pointwise [hidden]

/-- The residual sum of the feed-forward layer. -/
theorem pre_ffn (hs' : S_.BroadcastsInDim ⟨3, ![2, n, 2816]⟩ (![] : Fin 0 → Fin 3)) (U : FVec Ideal ⟨3, ![2, n, 1024]⟩ .f32) (Hg Hu : FVec Ideal ⟨3, ![2, n, 2816]⟩ .f32)
    (x sh sc gate : Fin 1024 → EReal) (Wg Wu : (⟨2, ![1024, 2816]⟩ : Shape).Idx → EReal) (Wd : (⟨2, ![2816, 1024]⟩ : Shape).Idx → EReal)
    (hX : ∀ k, Eq (α := EReal) (X (ix3 b p k)) (x k)) (hG : ∀ k, Eq (α := EReal) (Gate (ix3 b p k)) (gate k))
    (hU : ∀ k, Eq (α := EReal) (U (ix3 b p k)) (x k * (Ideal.ofBits .f32 0x3F800000#32 + sc k) + sh k))
    (hg : ∀ y, Eq (α := EReal) (Hg (ix3 b p y)) (∑ k : Fin 1024, U (ix3 b p k) * Wg (ix2 k y)))
    (hu : ∀ y, Eq (α := EReal) (Hu (ix3 b p y)) (∑ k : Fin 1024, U (ix3 b p k) * Wu (ix2 k y)))
    (hD : ∀ k, Eq (α := EReal) (D (ix3 b p k)) (∑ y : Fin 2816, hidden (F := Ideal) hs' Hg Hu (ix3 b p y) * Wd (ix2 y k))) :
    Eq (α := EReal) (pre (F := Ideal) hs X Gate D (ix3 b p j)) (ffn x sh sc gate Wg Wu Wd j) := by
  have m : ∀ (W : (⟨2, ![1024, 2816]⟩ : Shape).Idx → EReal) (y : Fin 2816), Eq (α := EReal) (∑ k : Fin 1024, U (ix3 b p k) * W (ix2 k y)) (mid x sh sc W y) := fun W y =>
    Finset.sum_congr rfl fun k _ => congrArg (fun a : EReal => a * W (ix2 k y)) (hU k)
  rw [pre_apply, hX, hG, hD]
  unfold ffn
  refine congrArg (fun a : EReal => Ideal.ofBits .f32 0x3FB504F3#32 * x j + gate j * a) (Finset.sum_congr rfl fun y _ => ?_)
  rw [hidden_apply, hg, hu, m, m]

end Cert.HostLn
end
-- ==== Proof.FfnRef.lean ====
module

public import proofs.«01_k».proof.Proof.HostNorm
public import proofs.«01_k».proof.Proof.Gen.Reference3Ideal.Run

@[expose] public section

set_option maxRecDepth 16384

noncomputable section

namespace Cert.Reference3Ideal.Ffn

open Cert.Reference3Ideal Cert.Reference3Ideal.Gen Idealize.ShloMosaic Idealize.ShloMosaic.TcCoe Idealize.ShloMosaic.Tactic
open Cert.Ln

section defs
variable {F : FTy → Type} [FloatOps F]

/-- The modulation of the even layer, of the context and of the latents. -/
def modC (M : Vec F S2x6144 .f32) : Vec F S1x1x6144 .f32 :=
  broadcastInDim S1x1x6144 ![2] bcast_S6144_S1x1x6144_2 (shapeCast S6144 (extractStridedSlice S1x6144 ![0, 0] M slices_S2x6144_S1x6144_0_0) shapeCasts_S1x6144_S6144)
@[inherit_doc modC] def modL (M : Vec F S2x2x6144 .f32) : Vec F S2x1x6144 .f32 :=
  broadcastInDim S2x1x6144 ![0, 2] bcast_S2x6144_S2x1x6144_0_2 (shapeCast S2x6144 (extractStridedSlice S1x2x6144 ![0, 0, 0] M slices_S2x2x6144_S1x2x6144_0_0_0) shapeCasts_S1x2x6144_S2x6144)

/-- The modulated tokens of the context and the latents. -/
def inpC (X : Vec F S2x256x1024 .f32) (M : Vec F S1x1x6144 .f32) : FVec F S2x256x1024 .f32 :=
  addf (mulf X (broadcastInDim S2x256x1024 ![0, 1, 2] bcast_S1x1x1024_S2x256x1024_0_1_2
      (addf (broadcastInDim S1x1x1024 ![] bcast_S_S1x1x1024 (constant S_ .f32 0x3F800000#32)) (extractStridedSlice S1x1x1024 ![0, 0, 4096] M slices_S1x1x6144_S1x1x1024_0_0_4096))))
    (broadcastInDim S2x256x1024 ![0, 1, 2] bcast_S1x1x1024_S2x256x1024_0_1_2 (extractStridedSlice S1x1x1024 ![0, 0, 3072] M slices_S1x1x6144_S1x1x1024_0_0_3072))
@[inherit_doc inpC] def inpL (X : Vec F S2x16384x1024 .f32) (M : Vec F S2x1x6144 .f32) : FVec F S2x16384x1024 .f32 :=
  addf (mulf X (broadcastInDim S2x16384x1024 ![0, 1, 2] bcast_S2x1x1024_S2x16384x1024_0_1_2
      (addf (broadcastInDim S2x1x1024 ![] bcast_S_S2x1x1024 (constant S_ .f32 0x3F800000#32)) (extractStridedSlice S2x1x1024 ![0, 0, 4096] M slices_S2x1x6144_S2x1x1024_0_0_4096))))
    (broadcastInDim S2x16384x1024 ![0, 1, 2] bcast_S2x1x1024_S2x16384x1024_0_1_2 (extractStridedSlice S2x1x1024 ![0, 0, 3072] M slices_S2x1x6144_S2x1x1024_0_0_3072))

/-- A projection of them. -/
def projC (U : Vec F S2x256x1024 .f32) (W : Vec F S1024x2816 .f32) : FVec F S2x256x2816 .f32 := Host.dotGeneral dot_S2x256x1024_S1024x2816_S2x256x2816_2_0_01_1_n_n none U W
@[inherit_doc projC] def projL (U : Vec F S2x16384x1024 .f32) (W : Vec F S1024x2816 .f32) : FVec F S2x16384x2816 .f32 :=
  Host.dotGeneral dot_S2x16384x1024_S1024x2816_S2x16384x2816_2_0_01_1_n_n none U W

/-- The hidden layer projected down. -/
def downC (H : FVec F S2x256x2816 .f32) (W : Vec F S2816x1024 .f32) : FVec F S2x256x1024 .f32 := Host.dotGeneral dot_S2x256x2816_S2816x1024_S2x256x1024_2_0_01_1_n_n none H W
@[inherit_doc downC] def downL (H : FVec F S2x16384x2816 .f32) (W : Vec F S2816x1024 .f32) : FVec F S2x16384x1024 .f32 :=
  Host.dotGeneral dot_S2x16384x2816_S2816x1024_S2x16384x1024_2_0_01_1_n_n none H W

/-- The gate, and a feature's scale or shift in the norm, at every token. -/
def gateC (M : Vec F S1x1x6144 .f32) : FVec F S2x256x1024 .f32 :=
  broadcastInDim S2x256x1024 ![0, 1, 2] bcast_S1x1x1024_S2x256x1024_0_1_2 (extractStridedSlice S1x1x1024 ![0, 0, 5120] M slices_S1x1x6144_S1x1x1024_0_0_5120)
@[inherit_doc gateC] def gateL (M : Vec F S2x1x6144 .f32) : FVec F S2x16384x1024 .f32 :=
  broadcastInDim S2x16384x1024 ![0, 1, 2] bcast_S2x1x1024_S2x16384x1024_0_1_2 (extractStridedSlice S2x1x1024 ![0, 0, 5120] M slices_S2x1x6144_S2x1x1024_0_0_5120)
@[inherit_doc gateC] def allC (g : Vec F S1024 .f32) : FVec F S2x256x1024 .f32 :=
  broadcastInDim S2x256x1024 ![0, 1, 2] bcast_S1x1x1024_S2x256x1024_0_1_2 (broadcastInDim S1x1x1024 ![2] bcast_S1024_S1x1x1024_2 g)
@[inherit_doc gateC] def allL (g : Vec F S1024 .f32) : FVec F S2x16384x1024 .f32 :=
  broadcastInDim S2x16384x1024 ![0, 1, 2] bcast_S1x1x1024_S2x16384x1024_0_1_2 (broadcastInDim S1x1x1024 ![2] bcast_S1024_S1x1x1024_2 g)

/-- The residual sums. -/
def preC (X : Vec F S2x256x1024 .f32) (M : Vec F S1x1x6144 .f32) (Wg Wu : Vec F S1024x2816 .f32) (Wd : Vec F S2816x1024 .f32) : FVec F S2x256x1024 .f32 :=
  HostLn.pre bcast_S_S2x256x1024 X (gateC M) (downC (HostLn.hidden bcast_S_S2x256x2816 (projC (inpC X M) Wg) (projC (inpC X M) Wu)) Wd)
@[inherit_doc preC] def preL (X : Vec F S2x16384x1024 .f32) (M : Vec F S2x1x6144 .f32) (Wg Wu : Vec F S1024x2816 .f32) (Wd : Vec F S2816x1024 .f32) : FVec F S2x16384x1024 .f32 :=
  HostLn.pre bcast_S_S2x16384x1024 X (gateL M) (downL (HostLn.hidden bcast_S_S2x16384x2816 (projL (inpL X M) Wg) (projL (inpL X M) Wu)) Wd)

/-- Their norms. -/
def outC (Z : FVec F S2x256x1024 .f32) (g b : Vec F S1024 .f32) : FVec F S2x256x1024 .f32 :=
  HostLn.norm reducesTo_S2x256x1024_S2x256_d2 h_S_ bcast_S2x256_S2x256x1_0_1 bcast_S_S2x256x1 bcast_S2x256x1_S2x256x1024_0_1_2 Z (allC g) (allC b)
@[inherit_doc outC] def outL (Z : FVec F S2x16384x1024 .f32) (g b : Vec F S1024 .f32) : FVec F S2x16384x1024 .f32 :=
  HostLn.norm reducesTo_S2x16384x1024_S2x16384_d2 h_S_ bcast_S2x16384_S2x16384x1_0_1 bcast_S_S2x16384x1 bcast_S2x16384x1_S2x16384x1024_0_1_2 Z (allL g) (allL b)

/-- The context's tokens and the latents', joined. -/
def joined (C : FVec F S2x256x1024 .f32) (L : FVec F S2x16384x1024 .f32) : FVec F S33280x1024 .f32 :=
  shapeCast S33280x1024 (concatenate S2x16640x1024 1 [⟨S2x256x1024, C⟩, ⟨S2x16384x1024, L⟩] concatenates_S2x256x1024_S2x16384x1024_S2x16640x1024_d1) shapeCasts_S2x16640x1024_S33280x1024

/-- The result of the arguments. -/
def res (m : (ℓ : Loc nD τ sig) → Buf (Elt F) ℓ) (c : Dev nD) : Vec F S33280x1024 .f32 :=
  joined
    (outC (preC (m ((c.tc : Thread nD τ).loc main_arg1)) (modC (m ((c.tc : Thread nD τ).loc main_arg3))) (m ((c.tc : Thread nD τ).loc main_arg4)) (m ((c.tc : Thread nD τ).loc main_arg5))
      (m ((c.tc : Thread nD τ).loc main_arg6))) (m ((c.tc : Thread nD τ).loc main_arg7)) (m ((c.tc : Thread nD τ).loc main_arg8)))
    (outL (preL (m ((c.tc : Thread nD τ).loc main_arg0)) (modL (m ((c.tc : Thread nD τ).loc main_arg2))) (m ((c.tc : Thread nD τ).loc main_arg4)) (m ((c.tc : Thread nD τ).loc main_arg5))
      (m ((c.tc : Thread nD τ).loc main_arg6))) (m ((c.tc : Thread nD τ).loc main_arg7)) (m ((c.tc : Thread nD τ).loc main_arg8)))

theorem res_eq (m : (ℓ : Loc nD τ sig) → Buf (Elt F) ℓ) (c : Dev nD) : Value.res_out0 m c = res m c := rfl

end defs

section apply
variable (X : Vec Ideal S2x256x1024 .f32) (Y : Vec Ideal S2x16384x1024 .f32) (C : Vec Ideal S2x6144 .f32) (M : Vec Ideal S2x2x6144 .f32)
variable (MC : Vec Ideal S1x1x6144 .f32) (ML : Vec Ideal S2x1x6144 .f32) (W Wg Wu : Vec Ideal S1024x2816 .f32) (Wd : Vec Ideal S2816x1024 .f32) (g : Vec Ideal S1024 .f32)
variable (HC : FVec Ideal S2x256x2816 .f32) (HL : FVec Ideal S2x16384x2816 .f32) (UC : Vec Ideal S2x256x1024 .f32) (UL : Vec Ideal S2x16384x1024 .f32)
variable (b : Fin 2) (p : Fin 256) (q : Fin 16384) (j : Fin 1024) (y : Fin 2816) (k : Fin 6144)

theorem modC_apply : Eq (α := EReal) (modC C (ix3 0 0 k)) (C (ix2 0 k)) := by
  pointwise [modC]

theorem modL_apply : Eq (α := EReal) (modL M (ix3 b 0 k)) (M (ix3 0 b k)) := by
  pointwise [modL]

theorem inpC_apply : Eq (α := EReal) (inpC X MC (ix3 b p j))
    (X (ix3 b p j) * (Ideal.ofBits .f32 0x3F800000#32 + MC (ix3 0 0 ⟨4096 + j.val, by omega⟩)) + MC (ix3 0 0 ⟨3072 + j.val, by omega⟩)) := by
  pointwise [inpC]

theorem inpL_apply : Eq (α := EReal) (inpL Y ML (ix3 b q j))
    (Y (ix3 b q j) * (Ideal.ofBits .f32 0x3F800000#32 + ML (ix3 b 0 ⟨4096 + j.val, by omega⟩)) + ML (ix3 b 0 ⟨3072 + j.val, by omega⟩)) := by
  pointwise [inpL]

theorem projC_apply : Eq (α := EReal) (projC UC W (ix3 b p y)) (∑ k : Fin 1024, UC (ix3 b p k) * W (ix2 k y)) := by
  pointwise [projC]

theorem projL_apply : Eq (α := EReal) (projL UL W (ix3 b q y)) (∑ k : Fin 1024, UL (ix3 b q k) * W (ix2 k y)) := by
  pointwise [projL]

theorem downC_apply : Eq (α := EReal) (downC HC Wd (ix3 b p j)) (∑ y : Fin 2816, HMul.hMul (α := EReal) (HC (ix3 b p y)) (Wd (ix2 y j))) := by
  pointwise [downC]

theorem downL_apply : Eq (α := EReal) (downL HL Wd (ix3 b q j)) (∑ y : Fin 2816, HMul.hMul (α := EReal) (HL (ix3 b q y)) (Wd (ix2 y j))) := by
  pointwise [downL]

theorem gateC_apply : Eq (α := EReal) (gateC MC (ix3 b p j)) (MC (ix3 0 0 ⟨5120 + j.val, by omega⟩)) := by
  pointwise [gateC]

theorem gateL_apply : Eq (α := EReal) (gateL ML (ix3 b q j)) (ML (ix3 b 0 ⟨5120 + j.val, by omega⟩)) := by
  pointwise [gateL]

theorem allC_apply : Eq (α := EReal) (allC g (ix3 b p j)) (g (ix1 j)) := by
  pointwise [allC]

theorem allL_apply : Eq (α := EReal) (allL g (ix3 b q j)) (g (ix1 j)) := by
  pointwise [allL]

theorem joined_ctx (C : FVec Ideal S2x256x1024 .f32) (L : FVec Ideal S2x16384x1024 .f32) (u : Fin 33280) (h : u.val % 16640 < 256) :
    Eq (α := EReal) (joined C L (ix2 u j)) (C (ix3 ⟨u.val / 16640, by omega⟩ ⟨u.val % 16640, h⟩ j)) := by
  pointwise [joined]
  rw [dif_pos h]

theorem joined_lat (C : FVec Ideal S2x256x1024 .f32) (L : FVec Ideal S2x16384x1024 .f32) (u : Fin 33280) (h : ¬ u.val % 16640 < 256) :
    Eq (α := EReal) (joined C L (ix2 u j)) (L (ix3 ⟨u.val / 16640, by omega⟩ ⟨u.val % 16640 - 256, by omega⟩ j)) := by
  pointwise [joined]
  rw [dif_neg h]

/-- A feature of the context's tokens and of the latents'. -/
theorem outC_apply (B : Vec Ideal S1024 .f32) : Eq (α := EReal) (outC (preC X (modC C) Wg Wu Wd) g B (ix3 b p j))
    (ln (ffn (fun k => X (ix3 b p k)) (fun k => C (ix2 0 ⟨3072 + k.val, by omega⟩)) (fun k => C (ix2 0 ⟨4096 + k.val, by omega⟩)) (fun k => C (ix2 0 ⟨5120 + k.val, by omega⟩)) Wg Wu Wd)
      (g (ix1 j)) (B (ix1 j)) j) := by
  unfold outC
  rw [← allC_apply g b p j, ← allC_apply B b p j]
  refine HostLn.norm_apply _ _ _ _ _ _ _ _ b p j _ fun k => ?_
  refine HostLn.pre_ffn _ X _ _ b p k _ _ _ _ _ _ _ _ Wg Wu Wd (fun k => rfl) (fun k => (gateC_apply ..).trans (modC_apply ..))
    (fun k => ?_) (fun y => projC_apply ..) (fun y => projC_apply ..) (fun k => downC_apply ..)
  rw [inpC_apply, modC_apply, modC_apply]

@[inherit_doc outC_apply] theorem outL_apply (B : Vec Ideal S1024 .f32) : Eq (α := EReal) (outL (preL Y (modL M) Wg Wu Wd) g B (ix3 b q j))
    (ln (ffn (fun k => Y (ix3 b q k)) (fun k => M (ix3 0 b ⟨3072 + k.val, by omega⟩)) (fun k => M (ix3 0 b ⟨4096 + k.val, by omega⟩)) (fun k => M (ix3 0 b ⟨5120 + k.val, by omega⟩)) Wg Wu Wd)
      (g (ix1 j)) (B (ix1 j)) j) := by
  unfold outL
  rw [← allL_apply g b q j, ← allL_apply B b q j]
  refine HostLn.norm_apply _ _ _ _ _ _ _ _ b q j _ fun k => ?_
  refine HostLn.pre_ffn _ Y _ _ b q k _ _ _ _ _ _ _ _ Wg Wu Wd (fun k => rfl) (fun k => (gateL_apply ..).trans (modL_apply ..))
    (fun k => ?_) (fun y => projL_apply ..) (fun y => projL_apply ..) (fun k => downL_apply ..)
  rw [inpL_apply, modL_apply, modL_apply]

end apply
end Cert.Reference3Ideal.Ffn
end
-- ==== Proof.CombBody.lean ====
module

public import proofs.«01_k».proof.Proof.FfnBody
public import proofs.«01_k».proof.Proof.Spec
public import proofs.«01_k».proof.Proof.Gen.Kernel4Ideal.Value
public import Idealize.ShloMosaic.Lib.Pipeline.ValueKit
public import Idealize.ShloMosaic.Lib.StableHlo.ReadAt
public import Idealize.ShloMosaic.Lib.VecWindow

@[expose] public section

set_option maxRecDepth 16384

noncomputable section

namespace Cert.Kernel4Ideal.Comb

open Cert.Kernel4Ideal Cert.Kernel4Ideal.Gen Idealize.ShloMosaic Idealize.ShloMosaic.TcCoe Idealize.ShloMosaic.Tactic
open Idealize.ShloMosaic.Pipeline (Dat)
open Cert.Ln
open Cert.Kernel3Ideal.Ffn (cent pre normed pre_apply)

/-- A feature of a token's residual sum, from its two experts' outputs and their gates. -/
def comb (x gate y0 y1 : Fin 1024 → EReal) (g0 g1 : EReal) (j : Fin 1024) : EReal := Ideal.ofBits .f32 0x3FB504F3#32 * x j + gate j * (g0 * y0 j + g1 * y1 j)

section run
variable {F : FTy → Type} [FloatOps F]

/-- The experts' outputs, gated and added. -/
def mix (rt : Vec F S256x128 .f32) (y0 y1 : Vec F S256x1024 .f32) : FVec F S256x1024 .f32 :=
  addf (mulf (broadcastTo S256x1024 (extractStridedSlice S256x1 ![0, 2] (shapeCast S256x128 rt shapeCasts_S256x128_S256x128) slices_S256x128_o0_2_S256x1) broadcasts_S256x1_S256x1024)
      (shapeCast S256x1024 y0 shapeCasts_S256x1024_S256x1024))
    (mulf (broadcastTo S256x1024 (extractStridedSlice S256x1 ![0, 3] (shapeCast S256x128 rt shapeCasts_S256x128_S256x128) slices_S256x128_o0_3_S256x1) broadcasts_S256x1_S256x1024)
      (shapeCast S256x1024 y1 shapeCasts_S256x1024_S256x1024))

/-- The block written back, from what the body reads. -/
def outBlock (y0 y1 x : Vec F S256x1024 .f32) (rt : Vec F S256x128 .f32) (gate : Vec F S1x1x1024 .f32) (g b : Vec F S1x1024 .f32) : FVec F S256x1024 .f32 :=
  Cert.Kernel3Ideal.Gen.k0_pay1 (Cert.Kernel3Ideal.Gen.k0_pay4 g) (Cert.Kernel3Ideal.Gen.k0_pay5 b)
    (cent (pre (Cert.Kernel3Ideal.Gen.k0_pay2 x) (mix rt y0 y1) gate))
    (mulf (cent (pre (Cert.Kernel3Ideal.Gen.k0_pay2 x) (mix rt y0 y1) gate)) (cent (pre (Cert.Kernel3Ideal.Gen.k0_pay2 x) (mix rt y0 y1) gate)))

theorem outBlock_eq (y0 y1 x : Vec F S256x1024 .f32) (rt : Vec F S256x128 .f32) (gate : Vec F S1x1x1024 .f32) (g b : Vec F S1x1024 .f32) :
    k0_pay1 (k0_pay2 x) (k0_pay3 rt y0 y1 gate) g b = outBlock y0 y1 x rt gate g b := rfl

variable (c : Dev nD) (i : grid0.Coords) (arg1 arg2 arg3 : Memref sig .tc .vmem S256x1024 .f32) (arg4 : Memref sig .tc .vmem S256x128 .f32) (arg5 : Memref sig .tc .vmem S1x8x1024 .f32)
  (arg6 arg7 : Memref sig .tc .vmem S1x1024 .f32) (arg8 : Memref sig .tc .vmem S256x1024 .f32)
  (h1 : arg1.IsWhole) (h2 : arg2.IsWhole) (h3 : arg3.IsWhole) (h4 : arg4.IsWhole) (h5 : arg5.IsWhole) (h6 : arg6.IsWhole) (h7 : arg7.IsWhole) (h8 : arg8.IsWhole)
  (x0 x1 x2 : Vec F S256x1024 .f32) (x3 : Vec F S256x128 .f32) (x4 : Vec F S1x8x1024 .f32) (x5 x6 : Vec F S1x1024 .f32)

set_option maxHeartbeats 4000000 in
theorem run_eq : (kernelRun0_A (F := F) c i arg1 h1 arg2 h2 arg3 h3 arg4 h4 arg5 h5 arg6 h6 arg7 h7 arg8 h8 x0 x1 x2 x3 x4 x5 x6).1
      = [⟨Rect.unit (s := S256x1024) ![0, 0] S256x1024.size inb_S256x1024_S256x1024_0_0, outBlock
          (View.readAt (Elt F) arg1.view (Rect.unit (s := S256x1024) ![0, 0] S256x1024.size inb_S256x1024_S256x1024_0_0).toLoadRect (h1.unread x0))
          (View.readAt (Elt F) arg2.view (Rect.unit (s := S256x1024) ![0, 0] S256x1024.size inb_S256x1024_S256x1024_0_0).toLoadRect (h2.unread x1))
          (View.readAt (Elt F) arg3.view (Rect.unit (s := S256x1024) ![0, 0] S256x1024.size inb_S256x1024_S256x1024_0_0).toLoadRect (h3.unread x2))
          (View.readAt (Elt F) arg4.view (Rect.unit (s := S256x128) ![0, 0] S256x128.size inb_S256x128_S256x128_0_0).toLoadRect (h4.unread x3))
          (View.readAt (Elt F) arg5.view (Rect.unit (s := S1x8x1024) (k0_off1 i) S1x1x1024.size (k0_off1_inb i)).toLoadRect (h5.unread x4))
          (View.readAt (Elt F) arg6.view (Rect.unit (s := S1x1024) ![0, 0] S1x1024.size inb_S1x1024_S1x1024_0_0).toLoadRect (h6.unread x5))
          (View.readAt (Elt F) arg7.view (Rect.unit (s := S1x1024) ![0, 0] S1x1024.size inb_S1x1024_S1x1024_0_0).toLoadRect (h7.unread x6))⟩] := by
  simp only [← outBlock_eq]
  sl_kernel_rfl

end run

section apply
variable (y0 y1 x : Vec Ideal S256x1024 .f32) (rt : Vec Ideal S256x128 .f32) (gate : Vec Ideal S1x1x1024 .f32) (g b : Vec Ideal S1x1024 .f32) (p : Fin 256) (j : Fin 1024)

theorem mix_apply : Eq (α := EReal) (mix rt y0 y1 (ix2 p j)) (rt (ix2 p 2) * y0 (ix2 p j) + rt (ix2 p 3) * y1 (ix2 p j)) := by
  pointwise [mix]

/-- The block written back, at an index. -/
theorem outBlock_apply : Eq (α := EReal) (outBlock y0 y1 x rt gate g b (ix2 p j))
    (ln (comb (fun k => x (ix2 p k)) (fun k => gate (ix3 0 0 k)) (fun k => y0 (ix2 p k)) (fun k => y1 (ix2 p k)) (rt (ix2 p 2)) (rt (ix2 p 3))) (g (ix2 0 j)) (b (ix2 0 j)) j) := by
  unfold outBlock
  refine normed _ g b p j _ fun k => ?_
  refine (pre_apply x _ gate p k).trans ?_
  unfold comb
  rw [mix_apply]

end apply

theorem idx : ∀ t : Fin cfg0.N, win0_0.index t = ![t.val, 0] ∧ win0_1.index t = ![t.val + 128, 0] ∧ win0_2.index t = ![t.val, 0] ∧ win0_3.index t = ![t.val, 0]
    ∧ win0_4.index t = ![1, 0, 5] ∧ win0_5.index t = ![0, 0] ∧ win0_6.index t = ![0, 0] ∧ win0_7.index t = ![t.val, 0] := by
  decide +kernel

theorem off : ∀ t : Fin cfg0.N, k0_off1 (grid0.coords t) = ![0, 1 + t.val / 64, 0] := by decide +kernel

theorem t_lt (t : Fin cfg0.N) : t.val < 128 := t.isLt.trans_eq N_0

variable (t : Fin cfg0.N)

/-- The row of the result a block's row is, and its batch element. -/
def row (p : Fin 256) : Fin 32768 := ⟨256 * t.val + p.val, by have := t_lt t; omega⟩
@[inherit_doc row] def bat : Fin 2 := ⟨t.val / 64, by have := t_lt t; omega⟩

theorem read0 (X : S66560x1024.Idx → Elt Ideal .f32) (p : Fin 256) (j : Fin 1024) : ((cfg0.win 0).blk t).view.read (Elt Ideal) X (ix2 p j)
    = X (ix2 ⟨256 * t.val + p.val, by have := t_lt t; omega⟩ j) := by
  obtain ⟨h, -⟩ := idx t
  refine congrArg X ?_
  blk_ext [h]

theorem read1 (X : S66560x1024.Idx → Elt Ideal .f32) (p : Fin 256) (j : Fin 1024) : ((cfg0.win 1).blk t).view.read (Elt Ideal) X (ix2 p j)
    = X (ix2 ⟨256 * (t.val + 128) + p.val, by have := t_lt t; omega⟩ j) := by
  obtain ⟨-, h, -⟩ := idx t
  refine congrArg X ?_
  blk_ext [h]

theorem read2 (X : S32768x1024.Idx → Elt Ideal .f32) (p : Fin 256) (j : Fin 1024) : ((cfg0.win 2).blk t).view.read (Elt Ideal) X (ix2 p j) = X (ix2 (row t p) j) := by
  obtain ⟨-, -, h, -⟩ := idx t
  refine congrArg X ?_
  unfold row
  blk_ext [h]

theorem read3 (X : S32768x128.Idx → Elt Ideal .f32) (p : Fin 256) (j : Fin 128) : ((cfg0.win 3).blk t).view.read (Elt Ideal) X (ix2 p j) = X (ix2 (row t p) j) := by
  obtain ⟨-, -, -, h, -⟩ := idx t
  refine congrArg X ?_
  unfold row
  blk_ext [h]

theorem read4 (X : S2x8x6144.Idx → Elt Ideal .f32) (r : Fin 8) (j : Fin 1024) : ((cfg0.win 4).blk t).view.read (Elt Ideal) X (ix3 0 r j)
    = X (ix3 1 r ⟨5120 + j.val, by omega⟩) := by
  obtain ⟨-, -, -, -, h, -⟩ := idx t
  refine congrArg X ?_
  blk_ext [h]

theorem read5 (X : S1x1024.Idx → Elt Ideal .f32) (j : Fin 1024) : ((cfg0.win 5).blk t).view.read (Elt Ideal) X (ix2 0 j) = X (ix2 0 j) := by
  obtain ⟨-, -, -, -, -, h, -⟩ := idx t
  refine congrArg X ?_
  blk_ext [h]

theorem read6 (X : S1x1024.Idx → Elt Ideal .f32) (j : Fin 1024) : ((cfg0.win 6).blk t).view.read (Elt Ideal) X (ix2 0 j) = X (ix2 0 j) := by
  obtain ⟨-, -, -, -, -, -, h, -⟩ := idx t
  refine congrArg X ?_
  blk_ext [h]

theorem read7 (X : S32768x1024.Idx → Elt Ideal .f32) (p : Fin 256) (j : Fin 1024) : ((cfg0.win 7).blk t).view.read (Elt Ideal) X (ix2 p j) = X (ix2 (row t p) j) := by
  obtain ⟨-, -, -, -, -, -, -, h⟩ := idx t
  refine congrArg X ?_
  unfold row
  blk_ext [h]

section loads
variable {F : FTy → Type} [FloatOps F]

/-- Loading a whole buffer gives its contents. -/
theorem load_all {s : Shape} {e : EltTy} (a : Memref sig .tc .vmem s e) (h : a.IsWhole) (x : Vec F s e) (o : Fin s.rank → ℕ) (ho : ∀ k, o k = 0)
    (hb : ∀ k, o k + s.size k ≤ s.size k) (y : s.Idx) : View.readAt (Elt F) a.view (Rect.unit (s := s) o s.size hb).toLoadRect (h.unread x) y = x y := by
  show a.view.read (Elt F) (h.unread x) _ = _
  rw [h.read_unread]
  refine congrArg x (funext fun k => Fin.ext ?_)
  show o k + 1 * (y k).val = (y k).val
  rw [ho]; omega

/-- Loading a row of the modulation table's block. -/
theorem load_row (a : Memref sig .tc .vmem S1x8x1024 .f32) (h : a.IsWhole) (x : Vec F S1x8x1024 .f32) (j : Fin 1024) :
    View.readAt (Elt F) a.view (Rect.unit (s := S1x8x1024) (k0_off1 (grid0.coords t)) S1x1x1024.size (k0_off1_inb (grid0.coords t))).toLoadRect (h.unread x) (ix3 0 0 j)
      = x (ix3 0 ⟨1 + (bat t).val, by omega⟩ j) := by
  show a.view.read (Elt F) (h.unread x) _ = _
  rw [h.read_unread]
  refine congrArg x (funext fun k => Fin.ext ?_)
  have e := congrFun (off t)
  match k with
  | ⟨0, _⟩ => show k0_off1 (grid0.coords t) 0 + 1 * 0 = 0; rw [e]; rfl
  | ⟨1, _⟩ => show k0_off1 (grid0.coords t) 1 + 1 * 0 = 1 + t.val / 64; rw [e]; rfl
  | ⟨2, _⟩ => show k0_off1 (grid0.coords t) 2 + 1 * j.val = j.val; rw [e]; show 0 + 1 * j.val = j.val; omega

end loads

variable (m : (ℓ : Loc nD τ sig) → Buf (Elt Ideal) ℓ) (c : Dev nD)

/-- The arguments as they are passed. -/
abbrev argX : S2x16384x1024.Idx → EReal := m ((c : Thread nD τ).loc main_arg0)
@[inherit_doc argX] abbrev argY0 : S2x16384x1024.Idx → EReal := m ((c : Thread nD τ).loc main_arg1)
@[inherit_doc argX] abbrev argY1 : S2x16384x1024.Idx → EReal := m ((c : Thread nD τ).loc main_arg2)
@[inherit_doc argX] abbrev argR : S2x16384x2.Idx → EReal := m ((c : Thread nD τ).loc main_arg3)
@[inherit_doc argX] abbrev argM : S2x2x6144.Idx → EReal := m ((c : Thread nD τ).loc main_arg4)
@[inherit_doc argX] abbrev argG : S1024.Idx → EReal := m ((c : Thread nD τ).loc main_arg6)
@[inherit_doc argX] abbrev argB : S1024.Idx → EReal := m ((c : Thread nD τ).loc main_arg7)

theorem x_eq (u : Fin 32768) (j : Fin 1024) : Eq (α := EReal) (V m c main_v11 (ix2 u j)) (argX m c (ix3 ⟨u.val / 16384, by omega⟩ ⟨u.val % 16384, by omega⟩ j)) := by
  unfold V
  after_reads_at

theorem y0_eq (u : Fin 66560) (j : Fin 1024) (h : u.val < 32768) :
    Eq (α := EReal) (V m c main_v3 (ix2 u j)) (argY0 m c (ix3 ⟨u.val / 16384, by omega⟩ ⟨u.val % 16384, by omega⟩ j)) := by
  unfold V
  after_reads_at
  rw [dif_pos h]
  after_reads_at

theorem y1_eq (u : Fin 66560) (j : Fin 1024) (h : ¬ u.val < 32768) (h' : u.val - 32768 < 32768) :
    Eq (α := EReal) (V m c main_v3 (ix2 u j)) (argY1 m c (ix3 ⟨(u.val - 32768) / 16384, by omega⟩ ⟨(u.val - 32768) % 16384, by omega⟩ j)) := by
  unfold V
  after_reads_at
  rw [dif_neg h, dif_pos h']
  after_reads_at

theorem rt_eq (u : Fin 32768) (j : Fin 128) (h : ¬ j.val < 2) (h' : j.val - 2 < 2) :
    Eq (α := EReal) (V m c main_v7 (ix2 u j)) (argR m c (ix3 ⟨u.val / 16384, by omega⟩ ⟨u.val % 16384, by omega⟩ ⟨j.val - 2, h'⟩)) := by
  unfold V
  after_reads_at
  rw [dif_neg h, dif_pos h']
  after_reads_at

theorem mod_eq (l b : Fin 2) (k : Fin 6144) : Eq (α := EReal) (V m c main_v10 (ix3 l ⟨1 + b.val, by omega⟩ k)) (argM m c (ix3 l b k)) := by
  unfold V
  after_reads_at

theorem g_eq (j : Fin 1024) : Eq (α := EReal) (V m c main_v12 (ix2 0 j)) (argG m c (ix1 j)) := by
  unfold V
  after_reads_at

theorem b_eq (j : Fin 1024) : Eq (α := EReal) (V m c main_v13 (ix2 0 j)) (argB m c (ix1 j)) := by
  unfold V
  after_reads_at

end Cert.Kernel4Ideal.Comb
end
-- ==== Proof.CombResult.lean ====
module

public import proofs.«01_k».proof.Proof.CombBody

@[expose] public section

set_option maxRecDepth 16384

noncomputable section

namespace Cert.Kernel4Ideal.Comb

open Cert.Kernel4Ideal Cert.Kernel4Ideal.Gen Idealize.ShloMosaic Idealize.ShloMosaic.TcCoe Idealize.ShloMosaic.Tactic
open Idealize.ShloMosaic.Pipeline (Dat)
open Cert.Ln

variable (m : (ℓ : Loc nD τ sig) → Buf (Elt Ideal) ℓ) (c : Dev nD) (t : Fin cfg0.N)

/-- A feature of a token. -/
def feat (b : Fin 2) (q : Fin 16384) (j : Fin 1024) : EReal :=
  ln (comb (fun k => argX m c (ix3 b q k)) (fun k => argM m c (ix3 1 b ⟨5120 + k.val, by omega⟩)) (fun k => argY0 m c (ix3 b q k)) (fun k => argY1 m c (ix3 b q k))
    (argR m c (ix3 b q 0)) (argR m c (ix3 b q 1))) (argG m c (ix1 j)) (argB m c (ix1 j)) j

/-- What a point leaves in its block of the result. -/
theorem after_apply (p : Fin 256) (j : Fin 1024) :
    Eq (α := EReal) (outsAt0 m c t (ix2 p j)) (feat m c ⟨(row t p).val / 16384, by omega⟩ ⟨(row t p).val % 16384, by omega⟩ j) := by
  have ht := t_lt t
  have hp := p.isLt
  have hv : (row t p).val = 256 * t.val + p.val := rfl
  have hb : bat t = ⟨(row t p).val / 16384, by omega⟩ := Fin.ext (by show t.val / 64 = (row t p).val / 16384; omega)
  unfold outsAt0 out0_A_7
  rw [run_eq, View.read_writes_full]
  refine (outBlock_apply ..).trans ?_
  unfold feat
  refine congrFun (congr (congr (congrArg ln ?_) ?_) ?_) j
  · refine congr (congr (congr (congr (congr (congrArg comb ?_) ?_) ?_) ?_) ?_) ?_
    · funext k; exact (load_all _ _ _ _ (by decide) _ _).trans ((read2 t _ p k).trans (x_eq ..))
    · funext k; rw [← hb]; exact (load_row t _ _ _ _).trans ((read4 t _ _ _).trans (mod_eq ..))
    · funext k; exact (load_all _ _ _ _ (by decide) _ _).trans ((read0 t _ p k).trans (y0_eq m c _ k (by show 256 * t.val + p.val < 32768; omega)))
    · funext k
      refine (load_all _ _ _ _ (by decide) _ _).trans ((read1 t _ p k).trans ((y1_eq m c _ k (by show ¬ 256 * (t.val + 128) + p.val < 32768; omega)
        (by show 256 * (t.val + 128) + p.val - 32768 < 32768; omega)).trans ?_))
      have e : 256 * (t.val + 128) + p.val - 32768 = (row t p).val := by omega
      simp only [e]
    · exact (load_all _ _ _ _ (by decide) _ _).trans ((read3 t _ p 2).trans (rt_eq m c _ 2 (by decide) (by decide)))
    · exact (load_all _ _ _ _ (by decide) _ _).trans ((read3 t _ p 3).trans (rt_eq m c _ 3 (by decide) (by decide)))
  · exact (load_all _ _ _ _ (by decide) _ _).trans ((read5 t _ _).trans (g_eq ..))
  · exact (load_all _ _ _ _ (by decide) _ _).trans ((read6 t _ _).trans (b_eq ..))

set_option maxHeartbeats 4000000 in
/-- The array the kernel leaves. -/
theorem arr_eq (G : S32768x1024.Idx → EReal)
    (hG : ∀ (u : Fin 32768) (j : Fin 1024), G (ix2 u j) = feat m c ⟨u.val / 16384, by omega⟩ ⟨u.val % 16384, by omega⟩ j) :
    (dats m 0 c).arrAt 7 cfg0.N = G := by
  refine (dats m 0 c).arrAt_eq_of_covers 7 _ (by decide +kernel) fun t _ y => ?_
  rw [after0_7]
  obtain ⟨p, j, rfl⟩ : ∃ (p : Fin 256) (j : Fin 1024), y = ix2 p j := ⟨y 0, y 1, by funext a; fin_cases a <;> rfl⟩
  exact ((after_apply m c t p j).trans (hG (row t p) j).symm).trans (read7 t G p j).symm

end Cert.Kernel4Ideal.Comb
end
-- ==== Proof.CombRef.lean ====
module

public import proofs.«01_k».proof.Proof.HostNorm
public import proofs.«01_k».proof.Proof.CombBody
public import proofs.«01_k».proof.Proof.Gen.Reference4Ideal.Run

@[expose] public section

set_option maxRecDepth 16384

noncomputable section

namespace Cert.Reference4Ideal.Comb

open Cert.Reference4Ideal Cert.Reference4Ideal.Gen Idealize.ShloMosaic Idealize.ShloMosaic.TcCoe Idealize.ShloMosaic.Tactic
open Cert.Ln
open Cert.Kernel4Ideal.Comb (comb)

section defs
variable {F : FTy → Type} [FloatOps F]

/-- The gate of the odd layer, at every token. -/
def gate (M : Vec F S2x2x6144 .f32) : FVec F S2x16384x1024 .f32 :=
  broadcastInDim S2x16384x1024 ![0, 1, 2] bcast_S2x1x1024_S2x16384x1024_0_1_2 (extractStridedSlice S2x1x1024 ![0, 0, 5120]
    (broadcastInDim S2x1x6144 ![0, 2] bcast_S2x6144_S2x1x6144_0_2 (shapeCast S2x6144 (extractStridedSlice S1x2x6144 ![1, 0, 0] M slices_S2x2x6144_S1x2x6144_1_0_0) shapeCasts_S1x2x6144_S2x6144))
    slices_S2x1x6144_S2x1x1024_0_0_5120)

/-- The experts' outputs, gated and added. -/
def mix (Y0 Y1 : Vec F S2x16384x1024 .f32) (R : Vec F S2x16384x2 .f32) : FVec F S2x16384x1024 .f32 :=
  addf (mulf Y0 (broadcastInDim S2x16384x1024 ![0, 1, 2] bcast_S2x16384x1_S2x16384x1024_0_1_2 (extractStridedSlice S2x16384x1 ![0, 0, 0] R slices_S2x16384x2_S2x16384x1_0_0_0)))
    (mulf Y1 (broadcastInDim S2x16384x1024 ![0, 1, 2] bcast_S2x16384x1_S2x16384x1024_0_1_2 (extractStridedSlice S2x16384x1 ![0, 0, 1] R slices_S2x16384x2_S2x16384x1_0_0_1)))

/-- A feature's scale or shift in the norm, at every token. -/
def all (g : Vec F S1024 .f32) : FVec F S2x16384x1024 .f32 :=
  broadcastInDim S2x16384x1024 ![0, 1, 2] bcast_S1x1x1024_S2x16384x1024_0_1_2 (broadcastInDim S1x1x1024 ![2] bcast_S1024_S1x1x1024_2 g)

/-- The residual sums' norms. -/
def out (Z : FVec F S2x16384x1024 .f32) (g b : Vec F S1024 .f32) : FVec F S2x16384x1024 .f32 :=
  HostLn.norm reducesTo_S2x16384x1024_S2x16384_d2 h_S_ bcast_S2x16384_S2x16384x1_0_1 bcast_S_S2x16384x1 bcast_S2x16384x1_S2x16384x1024_0_1_2 Z (all g) (all b)

/-- The result of the arguments. -/
def res (m : (ℓ : Loc nD τ sig) → Buf (Elt F) ℓ) (c : Dev nD) : Vec F S32768x1024 .f32 :=
  shapeCast S32768x1024 (out (HostLn.pre bcast_S_S2x16384x1024 (m ((c.tc : Thread nD τ).loc main_arg0)) (gate (m ((c.tc : Thread nD τ).loc main_arg4)))
      (mix (m ((c.tc : Thread nD τ).loc main_arg1)) (m ((c.tc : Thread nD τ).loc main_arg2)) (m ((c.tc : Thread nD τ).loc main_arg3))))
    (m ((c.tc : Thread nD τ).loc main_arg6)) (m ((c.tc : Thread nD τ).loc main_arg7))) shapeCasts_S2x16384x1024_S32768x1024

theorem res_eq (m : (ℓ : Loc nD τ sig) → Buf (Elt F) ℓ) (c : Dev nD) : Value.res_out0 m c = res m c := rfl

end defs

section apply
variable (X Y0 Y1 : Vec Ideal S2x16384x1024 .f32) (R : Vec Ideal S2x16384x2 .f32) (M : Vec Ideal S2x2x6144 .f32) (g B : Vec Ideal S1024 .f32)
variable (b : Fin 2) (q : Fin 16384) (j : Fin 1024)

theorem gate_apply : Eq (α := EReal) (gate M (ix3 b q j)) (M (ix3 1 b ⟨5120 + j.val, by omega⟩)) := by
  pointwise [gate]

theorem mix_apply : Eq (α := EReal) (mix Y0 Y1 R (ix3 b q j)) (Y0 (ix3 b q j) * R (ix3 b q 0) + Y1 (ix3 b q j) * R (ix3 b q 1)) := by
  pointwise [mix]

theorem all_apply : Eq (α := EReal) (all g (ix3 b q j)) (g (ix1 j)) := by
  pointwise [all]

theorem flat_apply (Z : FVec Ideal S2x16384x1024 .f32) (u : Fin 32768) :
    Eq (α := EReal) (shapeCast S32768x1024 Z shapeCasts_S2x16384x1024_S32768x1024 (ix2 u j)) (Z (ix3 ⟨u.val / 16384, by omega⟩ ⟨u.val % 16384, by omega⟩ j)) := by
  pointwise []

/-- A feature of a token. -/
theorem out_apply : Eq (α := EReal) (out (HostLn.pre bcast_S_S2x16384x1024 X (gate M) (mix Y0 Y1 R)) g B (ix3 b q j))
    (ln (comb (fun k => X (ix3 b q k)) (fun k => M (ix3 1 b ⟨5120 + k.val, by omega⟩)) (fun k => Y0 (ix3 b q k)) (fun k => Y1 (ix3 b q k)) (R (ix3 b q 0)) (R (ix3 b q 1)))
      (g (ix1 j)) (B (ix1 j)) j) := by
  unfold out
  rw [← all_apply g b q j, ← all_apply B b q j]
  refine HostLn.norm_apply _ _ _ _ _ _ _ _ b q j _ fun k => ?_
  refine (HostLn.pre_apply _ X (gate M) (mix Y0 Y1 R) b q k).trans ?_
  unfold comb
  rw [gate_apply, mix_apply, mul_comm (Y0 (ix3 b q k)), mul_comm (Y1 (ix3 b q k))]

end apply
end Cert.Reference4Ideal.Comb
end
-- ==== Proof.Proj.lean ====
module

public import proofs.«01_k».proof.Proof.Norm

@[expose] public section

set_option maxRecDepth 16384

noncomputable section

namespace Cert.Ln

open Idealize.ShloMosaic

/-- A feature of the output projection of a token whose features come in two parts. -/
def proj {n m : ℕ} (h : n + m = 1024) (a : Fin n → EReal) (b : Fin m → EReal) (W : (⟨2, ![1024, 1024]⟩ : Shape).Idx → EReal) (j : Fin 1024) : EReal :=
  ∑ k : Fin n, a k * W (ix2 ⟨k.val, by omega⟩ j) + ∑ k : Fin m, b k * W (ix2 ⟨n + k.val, by omega⟩ j)

/-- A feature of a token's residual sum, from what is added to it. -/
def resid (x gate d : Fin 1024 → EReal) (j : Fin 1024) : EReal := Ideal.ofBits .f32 0x3FB504F3#32 * x j + gate j * d j

/-- A sum over two parts joined is the sum of their sums. -/
theorem sum_parts {n m N : ℕ} (h : n + m = N) (f : Fin N → EReal) : ∑ k, f k = ∑ k : Fin n, f ⟨k.val, by omega⟩ + ∑ k : Fin m, f ⟨n + k.val, by omega⟩ := by
  subst h
  exact Fin.sum_univ_add f

/-- The projection of the parts joined is the sum of their projections. -/
theorem proj_joined {n m : ℕ} (h : n + m = 1024) (a : Fin n → EReal) (b : Fin m → EReal) (W : (⟨2, ![1024, 1024]⟩ : Shape).Idx → EReal) (j : Fin 1024) (f : Fin 1024 → EReal)
    (ha : ∀ (k : Fin 1024) (e : k.val < n), f k = a ⟨k.val, e⟩) (hb : ∀ (k : Fin 1024) (_ : ¬ k.val < n), f k = b ⟨k.val - n, by omega⟩) :
    ∑ k, f k * W (ix2 k j) = proj h a b W j := by
  rw [sum_parts h]
  unfold proj
  refine congr (congrArg HAdd.hAdd (Finset.sum_congr rfl fun k _ => ?_)) (Finset.sum_congr rfl fun k _ => ?_)
  · rw [ha _ k.isLt]
  · rw [hb _ (by simp only; omega)]
    simp only [Nat.add_sub_cancel_left]

end Cert.Ln
end
-- ==== Proof.EvenBody.lean ====
module

public import proofs.«01_k».proof.Proof.FfnBlock
public import proofs.«01_k».proof.Proof.Proj
public import proofs.«01_k».proof.Proof.Gen.Kernel5Ideal.Value

@[expose] public section

set_option maxRecDepth 16384

noncomputable section

namespace Cert.Kernel5Ideal.Even

open Cert.Kernel5Ideal Cert.Kernel5Ideal.Gen Idealize.ShloMosaic Idealize.ShloMosaic.TcCoe Idealize.ShloMosaic.Tactic
open Idealize.ShloMosaic.Pipeline (Dat)
open Cert.Ln
open Cert.Kernel3Ideal.Ffn (cent pre normed tab)

section run
variable {F : FTy → Type} [FloatOps F]

/-- The projections of the two mixers' outputs, added. -/
def both (a : Vec F S256x768 .bf16) (b : Vec F S256x256 .bf16) (wa : Vec F S768x1024 .bf16) (wb : Vec F S256x1024 .bf16) : FVec F S256x1024 .f32 :=
  addf (matmul dot_S256x768_S768x1024_S256x1024_1_0_0_1_n_n none (shapeCast S256x768 a shapeCasts_S256x768_S256x768) (shapeCast S768x1024 wa shapeCasts_S768x1024_S768x1024)
      (constant S256x1024 .f32 0x00000000#32))
    (matmul dot_S256x256_S256x1024_S256x1024_1_0_0_1_n_n none (shapeCast S256x256 b shapeCasts_S256x256_S256x256) (shapeCast S256x1024 wb shapeCasts_S256x1024_S256x1024)
      (constant S256x1024 .f32 0x00000000#32))

/-- The block written back, from what the body reads. -/
def outBlock (a : Vec F S256x768 .bf16) (b : Vec F S256x256 .bf16) (wa : Vec F S768x1024 .bf16) (wb : Vec F S256x1024 .bf16) (x : FVec F S256x1024 .f32) (gate : Vec F S1x1x1024 .f32)
    (g s : Vec F S1x1024 .f32) : FVec F S256x1024 .f32 :=
  Cert.Kernel3Ideal.Gen.k0_pay1 (Cert.Kernel3Ideal.Gen.k0_pay4 g) (Cert.Kernel3Ideal.Gen.k0_pay5 s)
    (cent (pre x (both a b wa wb) gate)) (mulf (cent (pre x (both a b wa wb) gate)) (cent (pre x (both a b wa wb) gate)))

theorem outBlock_eq (a : Vec F S256x768 .bf16) (b : Vec F S256x256 .bf16) (wa : Vec F S768x1024 .bf16) (wb : Vec F S256x1024 .bf16) (x : FVec F S256x1024 .f32) (gate : Vec F S1x1x1024 .f32)
    (g s : Vec F S1x1024 .f32) : k0_pay1 (k0_pay3 x gate a wa b wb) (k0_pay4 g) (k0_pay5 s) (k0_pay6 x gate a wa b wb) = outBlock a b wa wb x gate g s := rfl

variable (c : Dev nD) (i : grid0.Coords) (arg1 : Memref sig .tc .vmem S256x768 .bf16) (arg2 : Memref sig .tc .vmem S256x256 .bf16) (arg3 : Memref sig .tc .vmem S768x1024 .bf16)
  (arg4 : Memref sig .tc .vmem S256x1024 .bf16) (arg5 arg6 : Memref sig .tc .vmem S256x1024 .f32)
  (arg7 : Memref sig .tc .vmem S1x8x1024 .f32) (arg8 arg9 : Memref sig .tc .vmem S1x1024 .f32) (arg10 : Memref sig .tc .vmem S256x1024 .f32)
  (h1 : arg1.IsWhole) (h2 : arg2.IsWhole) (h3 : arg3.IsWhole) (h4 : arg4.IsWhole) (h5 : arg5.IsWhole) (h6 : arg6.IsWhole) (h7 : arg7.IsWhole) (h8 : arg8.IsWhole) (h9 : arg9.IsWhole) (h10 : arg10.IsWhole)
  (x0 : Vec F S256x768 .bf16) (x1 : Vec F S256x256 .bf16) (x2 : Vec F S768x1024 .bf16) (x3 : Vec F S256x1024 .bf16) (x4 x5 : Vec F S256x1024 .f32) (x6 : Vec F S1x8x1024 .f32)
  (x7 x8 : Vec F S1x1024 .f32)

set_option maxHeartbeats 4000000 in
theorem run_eq : (kernelRun0_A (F := F) c i arg1 h1 arg2 h2 arg3 h3 arg4 h4 arg5 h5 arg6 h6 arg7 h7 arg8 h8 arg9 h9 arg10 h10 x0 x1 x2 x3 x4 x5 x6 x7 x8).1
      = [⟨Rect.unit (s := S256x1024) ![0, 0] S256x1024.size inb_S256x1024_S256x1024_0_0, outBlock
          (View.readAt (Elt F) arg1.view (Rect.unit (s := S256x768) ![0, 0] S256x768.size inb_S256x768_S256x768_0_0).toLoadRect (h1.unread x0))
          (View.readAt (Elt F) arg2.view (Rect.unit (s := S256x256) ![0, 0] S256x256.size inb_S256x256_S256x256_0_0).toLoadRect (h2.unread x1))
          (View.readAt (Elt F) arg3.view (Rect.unit (s := S768x1024) ![0, 0] S768x1024.size inb_S768x1024_S768x1024_0_0).toLoadRect (h3.unread x2))
          (View.readAt (Elt F) arg4.view (Rect.unit (s := S256x1024) ![0, 0] S256x1024.size inb_S256x1024_S256x1024_0_0).toLoadRect (h4.unread x3))
          (k0_pay2 i (View.readAt (Elt F) arg5.view (Rect.unit (s := S256x1024) ![0, 0] S256x1024.size inb_S256x1024_S256x1024_0_0).toLoadRect (h5.unread x4))
            (View.readAt (Elt F) arg6.view (Rect.unit (s := S256x1024) ![0, 0] S256x1024.size inb_S256x1024_S256x1024_0_0).toLoadRect (h6.unread x5)))
          (View.readAt (Elt F) arg7.view (Rect.unit (s := S1x8x1024) (k0_off1 i) S1x1x1024.size (k0_off1_inb i)).toLoadRect (h7.unread x6))
          (View.readAt (Elt F) arg8.view (Rect.unit (s := S1x1024) ![0, 0] S1x1024.size inb_S1x1024_S1x1024_0_0).toLoadRect (h8.unread x7))
          (View.readAt (Elt F) arg9.view (Rect.unit (s := S1x1024) ![0, 0] S1x1024.size inb_S1x1024_S1x1024_0_0).toLoadRect (h9.unread x8))⟩] := by
  simp only [← outBlock_eq]
  sl_kernel_rfl

end run

section apply
variable (a : Vec Ideal S256x768 .bf16) (b : Vec Ideal S256x256 .bf16) (wa : Vec Ideal S768x1024 .bf16) (wb : Vec Ideal S256x1024 .bf16)
variable (x d : FVec Ideal S256x1024 .f32) (gate : Vec Ideal S1x1x1024 .f32) (g s : Vec Ideal S1x1024 .f32)
variable (p : Fin 256) (j : Fin 1024)

theorem both_apply : Eq (α := EReal) (both a b wa wb (ix2 p j))
    ((∑ k : Fin 768, HMul.hMul (α := EReal) (a (ix2 p k)) (wa (ix2 k j))) + ∑ k : Fin 256, HMul.hMul (α := EReal) (b (ix2 p k)) (wb (ix2 k j))) := by
  pointwise [both]

theorem pre_apply : Eq (α := EReal) (pre x d gate (ix2 p j)) (Ideal.ofBits .f32 0x3FB504F3#32 * x (ix2 p j) + gate (ix3 0 0 j) * d (ix2 p j)) := by
  pointwise [pre]

/-- The block written back, at an index. -/
theorem outBlock_apply (A : Fin 768 → EReal) (B : Fin 256 → EReal) (X : Fin 1024 → EReal) (W : S1024x1024.Idx → EReal)
    (ha : ∀ k, Eq (α := EReal) (a (ix2 p k)) (A k)) (hb : ∀ k, Eq (α := EReal) (b (ix2 p k)) (B k)) (hx : ∀ k, Eq (α := EReal) (x (ix2 p k)) (X k))
    (hwa : ∀ (k : Fin 768) (j : Fin 1024), Eq (α := EReal) (wa (ix2 k j)) (W (ix2 ⟨k.val, by omega⟩ j)))
    (hwb : ∀ (k : Fin 256) (j : Fin 1024), Eq (α := EReal) (wb (ix2 k j)) (W (ix2 ⟨768 + k.val, by omega⟩ j))) :
    Eq (α := EReal) (outBlock a b wa wb x gate g s (ix2 p j))
      (ln (resid X (fun k => gate (ix3 0 0 k)) (proj (n := 768) (m := 256) rfl A B W)) (g (ix2 0 j)) (s (ix2 0 j)) j) := by
  unfold outBlock
  refine normed _ g s p j _ fun k => ?_
  refine (pre_apply x _ gate p k).trans ?_
  unfold resid proj
  rw [both_apply]
  simp only [ha, hb, hx, hwa, hwb]

end apply

theorem idx : ∀ t : Fin cfg0.N, win0_0.index t = ![t.val, 0] ∧ win0_1.index t = ![t.val, 0] ∧ win0_2.index t = ![0, 0] ∧ win0_3.index t = ![0, 0]
    ∧ win0_4.index t = ![t.val / 65, 0] ∧ win0_5.index t = ![t.val / 65 * 64 + (t.val % 65 - 1), 0] ∧ win0_6.index t = ![0, 0, 2] ∧ win0_7.index t = ![0, 0]
    ∧ win0_8.index t = ![0, 0] ∧ win0_9.index t = ![t.val, 0] := by
  decide +kernel

theorem off : ∀ t : Fin cfg0.N, k0_off1 (grid0.coords t) = ![0, tab t.val, 0] := by decide +kernel

theorem t_lt (t : Fin cfg0.N) : t.val < 130 := t.isLt.trans_eq N_0

theorem tab_lt (t : Fin cfg0.N) : tab t.val < 8 := by
  have := t_lt t
  unfold tab; split <;> omega

/-- Whether a block is the context's, as the body reckons it. -/
def isCtx (i : grid0.Coords) : BitVec 1 :=
  let n : BitVec 32 := Scalar.select (Scalar.cmpi .eq 65#32 0#32) 1#32 65#32
  let r : BitVec 32 := Scalar.remsi (BitVec.ofNat 32 (i 0).val) n
  Scalar.cmpi .eq (Scalar.select (Scalar.andi (Scalar.xori (Scalar.cmpi .slt r 0#32) (Scalar.cmpi .slt n 0#32)) (Scalar.cmpi .ne r 0#32)) (Scalar.addi r n) r) 0#32

theorem isCtx_eq : ∀ t : Fin cfg0.N, isCtx (grid0.coords t) = if t.val % 65 = 0 then 1#1 else 0#1 := by decide +kernel

variable (t : Fin cfg0.N)

theorem pay2_ctx (x y : Vec Ideal S256x1024 .f32) (h : t.val % 65 = 0) (p : Fin 256) (j : Fin 1024) : k0_pay2 (grid0.coords t) x y (ix2 p j) = x (ix2 p j) := by
  have e : k0_pay2 (grid0.coords t) x y = Scalar.select (isCtx (grid0.coords t)) (Cert.Kernel3Ideal.Gen.k0_pay2 x) (Cert.Kernel3Ideal.Gen.k0_pay2 y) := rfl
  rw [e, isCtx_eq, if_pos h]
  show Cert.Kernel3Ideal.Gen.k0_pay2 x (ix2 p j) = x (ix2 p j)
  pointwise [Cert.Kernel3Ideal.Gen.k0_pay2]

theorem pay2_lat (x y : Vec Ideal S256x1024 .f32) (h : ¬ t.val % 65 = 0) (p : Fin 256) (j : Fin 1024) : k0_pay2 (grid0.coords t) x y (ix2 p j) = y (ix2 p j) := by
  have e : k0_pay2 (grid0.coords t) x y = Scalar.select (isCtx (grid0.coords t)) (Cert.Kernel3Ideal.Gen.k0_pay2 x) (Cert.Kernel3Ideal.Gen.k0_pay2 y) := rfl
  rw [e, isCtx_eq, if_neg h]
  show Cert.Kernel3Ideal.Gen.k0_pay2 y (ix2 p j) = y (ix2 p j)
  pointwise [Cert.Kernel3Ideal.Gen.k0_pay2]

/-- The row of the result a block's row is. -/
def row (p : Fin 256) : Fin 33280 := ⟨256 * t.val + p.val, by have := t_lt t; omega⟩

theorem read0 (X : S33280x768.Idx → Elt Ideal .bf16) (p : Fin 256) (k : Fin 768) : ((cfg0.win 0).blk t).view.read (Elt Ideal) X (ix2 p k) = X (ix2 (row t p) k) := by
  obtain ⟨h, -⟩ := idx t
  refine congrArg X ?_
  unfold row
  blk_ext [h]

theorem read1 (X : S33280x256.Idx → Elt Ideal .bf16) (p : Fin 256) (k : Fin 256) : ((cfg0.win 1).blk t).view.read (Elt Ideal) X (ix2 p k) = X (ix2 (row t p) k) := by
  obtain ⟨-, h, -⟩ := idx t
  refine congrArg X ?_
  unfold row
  blk_ext [h]

theorem read2 (X : S768x1024.Idx → Elt Ideal .bf16) (k : Fin 768) (j : Fin 1024) : ((cfg0.win 2).blk t).view.read (Elt Ideal) X (ix2 k j) = X (ix2 k j) := by
  obtain ⟨-, -, h, -⟩ := idx t
  refine congrArg X ?_
  blk_ext [h]

theorem read3 (X : S256x1024.Idx → Elt Ideal .bf16) (k : Fin 256) (j : Fin 1024) : ((cfg0.win 3).blk t).view.read (Elt Ideal) X (ix2 k j) = X (ix2 k j) := by
  obtain ⟨-, -, -, h, -⟩ := idx t
  refine congrArg X ?_
  blk_ext [h]

theorem read4 (X : S512x1024.Idx → Elt Ideal .f32) (p : Fin 256) (j : Fin 1024) : ((cfg0.win 4).blk t).view.read (Elt Ideal) X (ix2 p j)
    = X (ix2 ⟨256 * (t.val / 65) + p.val, by have := t_lt t; omega⟩ j) := by
  obtain ⟨-, -, -, -, h, -⟩ := idx t
  refine congrArg X ?_
  blk_ext [h]

theorem read5 (X : S32768x1024.Idx → Elt Ideal .f32) (p : Fin 256) (j : Fin 1024) : ((cfg0.win 5).blk t).view.read (Elt Ideal) X (ix2 p j)
    = X (ix2 ⟨256 * (t.val / 65 * 64 + (t.val % 65 - 1)) + p.val, by have := t_lt t; omega⟩ j) := by
  obtain ⟨-, -, -, -, -, h, -⟩ := idx t
  refine congrArg X ?_
  blk_ext [h]

theorem read6 (X : S2x8x6144.Idx → Elt Ideal .f32) (r : Fin 8) (j : Fin 1024) : ((cfg0.win 6).blk t).view.read (Elt Ideal) X (ix3 0 r j)
    = X (ix3 0 r ⟨2048 + j.val, by omega⟩) := by
  obtain ⟨-, -, -, -, -, -, h, -⟩ := idx t
  refine congrArg X ?_
  blk_ext [h]

theorem read7 (X : S1x1024.Idx → Elt Ideal .f32) (j : Fin 1024) : ((cfg0.win 7).blk t).view.read (Elt Ideal) X (ix2 0 j) = X (ix2 0 j) := by
  obtain ⟨-, -, -, -, -, -, -, h, -⟩ := idx t
  refine congrArg X ?_
  blk_ext [h]

theorem read8 (X : S1x1024.Idx → Elt Ideal .f32) (j : Fin 1024) : ((cfg0.win 8).blk t).view.read (Elt Ideal) X (ix2 0 j) = X (ix2 0 j) := by
  obtain ⟨-, -, -, -, -, -, -, -, h, -⟩ := idx t
  refine congrArg X ?_
  blk_ext [h]

theorem read9 (X : S33280x1024.Idx → Elt Ideal .f32) (p : Fin 256) (j : Fin 1024) : ((cfg0.win 9).blk t).view.read (Elt Ideal) X (ix2 p j) = X (ix2 (row t p) j) := by
  obtain ⟨-, -, -, -, -, -, -, -, -, h⟩ := idx t
  refine congrArg X ?_
  unfold row
  blk_ext [h]

section loads
variable {F : FTy → Type} [FloatOps F]

/-- Loading a whole buffer gives its contents. -/
theorem load_all {s : Shape} {e : EltTy} (a : Memref sig .tc .vmem s e) (h : a.IsWhole) (x : Vec F s e) (o : Fin s.rank → ℕ) (ho : ∀ k, o k = 0)
    (hb : ∀ k, o k + s.size k ≤ s.size k) (y : s.Idx) : View.readAt (Elt F) a.view (Rect.unit (s := s) o s.size hb).toLoadRect (h.unread x) y = x y := by
  show a.view.read (Elt F) (h.unread x) _ = _
  rw [h.read_unread]
  refine congrArg x (funext fun k => Fin.ext ?_)
  show o k + 1 * (y k).val = (y k).val
  rw [ho]; omega

/-- Loading a row of the modulation table's block. -/
theorem load_row (a : Memref sig .tc .vmem S1x8x1024 .f32) (h : a.IsWhole) (x : Vec F S1x8x1024 .f32) (j : Fin 1024) :
    View.readAt (Elt F) a.view (Rect.unit (s := S1x8x1024) (k0_off1 (grid0.coords t)) S1x1x1024.size (k0_off1_inb (grid0.coords t))).toLoadRect (h.unread x) (ix3 0 0 j)
      = x (ix3 0 ⟨tab t.val, tab_lt t⟩ j) := by
  show a.view.read (Elt F) (h.unread x) _ = _
  rw [h.read_unread]
  refine congrArg x (funext fun k => Fin.ext ?_)
  have e := congrFun (off t)
  match k with
  | ⟨0, _⟩ => show k0_off1 (grid0.coords t) 0 + 1 * 0 = 0; rw [e]; rfl
  | ⟨1, _⟩ => show k0_off1 (grid0.coords t) 1 + 1 * 0 = tab t.val; rw [e]; rfl
  | ⟨2, _⟩ => show k0_off1 (grid0.coords t) 2 + 1 * j.val = j.val; rw [e]; show 0 + 1 * j.val = j.val; omega

end loads

variable (m : (ℓ : Loc nD τ sig) → Buf (Elt Ideal) ℓ) (c : Dev nD)

/-- The arguments as they are passed. -/
abbrev argA : S2x16384x768.Idx → EReal := m ((c : Thread nD τ).loc main_arg0)
@[inherit_doc argA] abbrev argAc : S2x256x768.Idx → EReal := m ((c : Thread nD τ).loc main_arg1)
@[inherit_doc argA] abbrev argP : S2x16384x256.Idx → EReal := m ((c : Thread nD τ).loc main_arg2)
@[inherit_doc argA] abbrev argPc : S2x256x256.Idx → EReal := m ((c : Thread nD τ).loc main_arg3)
@[inherit_doc argA] abbrev argX : S2x16384x1024.Idx → EReal := m ((c : Thread nD τ).loc main_arg4)
@[inherit_doc argA] abbrev argXc : S2x256x1024.Idx → EReal := m ((c : Thread nD τ).loc main_arg5)
@[inherit_doc argA] abbrev argM : S2x2x6144.Idx → EReal := m ((c : Thread nD τ).loc main_arg6)
@[inherit_doc argA] abbrev argMc : S2x6144.Idx → EReal := m ((c : Thread nD τ).loc main_arg7)
@[inherit_doc argA] abbrev argW : S1024x1024.Idx → EReal := m ((c : Thread nD τ).loc main_arg8)
@[inherit_doc argA] abbrev argG : S1024.Idx → EReal := m ((c : Thread nD τ).loc main_arg9)
@[inherit_doc argA] abbrev argB : S1024.Idx → EReal := m ((c : Thread nD τ).loc main_arg10)

theorem a_ctx (u : Fin 33280) (k : Fin 768) (h : u.val % 16640 < 256) :
    Eq (α := EReal) (V m c main_v2 (ix2 u k)) (argAc m c (ix3 ⟨u.val / 16640, by omega⟩ ⟨u.val % 16640, h⟩ k)) := by
  unfold V
  after_reads_at
  rw [dif_pos h]
  after_reads_at

theorem a_lat (u : Fin 33280) (k : Fin 768) (h : ¬ u.val % 16640 < 256) :
    Eq (α := EReal) (V m c main_v2 (ix2 u k)) (argA m c (ix3 ⟨u.val / 16640, by omega⟩ ⟨u.val % 16640 - 256, by omega⟩ k)) := by
  unfold V
  after_reads_at
  rw [dif_neg h]
  after_reads_at

theorem p_ctx (u : Fin 33280) (k : Fin 256) (h : u.val % 16640 < 256) :
    Eq (α := EReal) (V m c main_v5 (ix2 u k)) (argPc m c (ix3 ⟨u.val / 16640, by omega⟩ ⟨u.val % 16640, h⟩ k)) := by
  unfold V
  after_reads_at
  rw [dif_pos h]
  after_reads_at

theorem p_lat (u : Fin 33280) (k : Fin 256) (h : ¬ u.val % 16640 < 256) :
    Eq (α := EReal) (V m c main_v5 (ix2 u k)) (argP m c (ix3 ⟨u.val / 16640, by omega⟩ ⟨u.val % 16640 - 256, by omega⟩ k)) := by
  unfold V
  after_reads_at
  rw [dif_neg h]
  after_reads_at

theorem wa_eq (k : Fin 768) (j : Fin 1024) : Eq (α := EReal) (V m c main_v10 (ix2 k j)) (argW m c (ix2 ⟨k.val, by omega⟩ j)) := by
  unfold V
  after_reads_at

theorem wb_eq (k : Fin 256) (j : Fin 1024) : Eq (α := EReal) (V m c main_v11 (ix2 k j)) (argW m c (ix2 ⟨768 + k.val, by omega⟩ j)) := by
  unfold V
  after_reads_at

theorem xc_eq (u : Fin 512) (j : Fin 1024) : Eq (α := EReal) (V m c main_v12 (ix2 u j)) (argXc m c (ix3 ⟨u.val / 256, by omega⟩ ⟨u.val % 256, by omega⟩ j)) := by
  unfold V
  after_reads_at

theorem x_eq (u : Fin 32768) (j : Fin 1024) : Eq (α := EReal) (V m c main_v13 (ix2 u j)) (argX m c (ix3 ⟨u.val / 16384, by omega⟩ ⟨u.val % 16384, by omega⟩ j)) := by
  unfold V
  after_reads_at

theorem mod_ctx (l : Fin 2) (r : Fin 8) (h : r.val < 1) (k : Fin 6144) : Eq (α := EReal) (V m c main_v8 (ix3 l r k)) (argMc m c (ix2 l k)) := by
  unfold V
  after_reads_at
  rw [dif_pos h]
  after_reads_at

theorem mod_lat (b : Fin 2) (k : Fin 6144) : Eq (α := EReal) (V m c main_v8 (ix3 0 ⟨1 + b.val, by omega⟩ k)) (argM m c (ix3 0 b k)) := by
  unfold V
  after_reads_at

theorem g_eq (j : Fin 1024) : Eq (α := EReal) (V m c main_v14 (ix2 0 j)) (argG m c (ix1 j)) := by
  unfold V
  after_reads_at

theorem b_eq (j : Fin 1024) : Eq (α := EReal) (V m c main_v15 (ix2 0 j)) (argB m c (ix1 j)) := by
  unfold V
  after_reads_at

end Cert.Kernel5Ideal.Even
end
-- ==== Proof.EvenResult.lean ====
module

public import proofs.«01_k».proof.Proof.EvenBody

@[expose] public section

set_option maxRecDepth 16384

noncomputable section

namespace Cert.Kernel5Ideal.Even

open Cert.Kernel5Ideal Cert.Kernel5Ideal.Gen Idealize.ShloMosaic Idealize.ShloMosaic.TcCoe Idealize.ShloMosaic.Tactic
open Idealize.ShloMosaic.Pipeline (Dat)
open Cert.Ln
open Cert.Kernel3Ideal.Ffn (tab)

variable (m : (ℓ : Loc nD τ sig) → Buf (Elt Ideal) ℓ) (c : Dev nD) (t : Fin cfg0.N)

/-- A feature of a token, its inputs given. -/
def feat (x gate : Fin 1024 → EReal) (a : Fin 768 → EReal) (b : Fin 256 → EReal) (j : Fin 1024) : EReal :=
  ln (resid x gate (proj (n := 768) (m := 256) rfl a b (argW m c))) (argG m c (ix1 j)) (argB m c (ix1 j)) j

/-- What a point leaves in its block of the result, its inputs given. -/
theorem after_apply (p : Fin 256) (j : Fin 1024) (X gate : Fin 1024 → EReal) (A : Fin 768 → EReal) (B : Fin 256 → EReal)
    (hA : ∀ k, Eq (α := EReal) (V m c main_v2 (ix2 (row t p) k)) (A k)) (hB : ∀ k, Eq (α := EReal) (V m c main_v5 (ix2 (row t p) k)) (B k))
    (hg : ∀ k : Fin 1024, Eq (α := EReal) (V m c main_v8 (ix3 0 ⟨tab t.val, tab_lt t⟩ ⟨2048 + k.val, by omega⟩)) (gate k))
    (hc : t.val % 65 = 0 → ∀ k, Eq (α := EReal) (V m c main_v12 (ix2 ⟨256 * (t.val / 65) + p.val, by have := t_lt t; omega⟩ k)) (X k))
    (hl : ¬ t.val % 65 = 0 → ∀ k, Eq (α := EReal) (V m c main_v13 (ix2 ⟨256 * (t.val / 65 * 64 + (t.val % 65 - 1)) + p.val, by have := t_lt t; omega⟩ k)) (X k)) :
    Eq (α := EReal) (outsAt0 m c t (ix2 p j)) (feat m c X gate A B j) := by
  unfold outsAt0 out0_A_9
  rw [run_eq, View.read_writes_full]
  refine (outBlock_apply _ _ _ _ _ _ _ _ p j A B X (argW m c)
    (fun k => (load_all _ _ _ _ (by decide) _ _).trans ((read0 t _ p k).trans (hA k))) (fun k => (load_all _ _ _ _ (by decide) _ _).trans ((read1 t _ p k).trans (hB k)))
    (fun k => ?_)
    (fun k j => (load_all _ _ _ _ (by decide) _ _).trans ((read2 t _ k j).trans (wa_eq ..))) (fun k j => (load_all _ _ _ _ (by decide) _ _).trans ((read3 t _ k j).trans (wb_eq ..)))).trans ?_
  · by_cases h : t.val % 65 = 0
    · exact (pay2_ctx t _ _ h p k).trans ((load_all _ _ _ _ (by decide) _ _).trans ((read4 t _ p k).trans (hc h k)))
    · exact (pay2_lat t _ _ h p k).trans ((load_all _ _ _ _ (by decide) _ _).trans ((read5 t _ p k).trans (hl h k)))
  unfold feat
  refine congrFun (congr (congr (congrArg ln ?_) ?_) ?_) j
  · refine congrFun (congrArg (resid X) ?_) _
    funext k; exact (load_row t _ _ _ _).trans ((read6 t _ _ _).trans (hg k))
  · exact (load_all _ _ _ _ (by decide) _ _).trans ((read7 t _ _).trans (g_eq ..))
  · exact (load_all _ _ _ _ (by decide) _ _).trans ((read8 t _ _).trans (b_eq ..))

/-- A feature of a context's token and of a latent token. -/
def featC (b : Fin 2) (p : Fin 256) (j : Fin 1024) : EReal :=
  feat m c (fun k => argXc m c (ix3 b p k)) (fun k => argMc m c (ix2 0 ⟨2048 + k.val, by omega⟩)) (fun k => argAc m c (ix3 b p k)) (fun k => argPc m c (ix3 b p k)) j
@[inherit_doc featC] def featL (b : Fin 2) (q : Fin 16384) (j : Fin 1024) : EReal :=
  feat m c (fun k => argX m c (ix3 b q k)) (fun k => argM m c (ix3 0 b ⟨2048 + k.val, by omega⟩)) (fun k => argA m c (ix3 b q k)) (fun k => argP m c (ix3 b q k)) j

theorem after_ctx (p : Fin 256) (j : Fin 1024) (h : (row t p).val % 16640 < 256) :
    Eq (α := EReal) (outsAt0 m c t (ix2 p j)) (featC m c ⟨(row t p).val / 16640, by omega⟩ ⟨(row t p).val % 16640, h⟩ j) := by
  have ht := t_lt t
  have hp := p.isLt
  have hv : (row t p).val = 256 * t.val + p.val := rfl
  have e : t.val % 65 = 0 := by omega
  have hr : tab t.val < 1 := by unfold tab; rw [if_pos e]; omega
  refine after_apply m c t p j _ _ _ _ (fun k => a_ctx m c _ k h) (fun k => p_ctx m c _ k h) (fun k => mod_ctx m c 0 ⟨tab t.val, tab_lt t⟩ hr _)
    (fun _ k => (xc_eq m c _ k).trans (congrArg (argXc m c) ?_)) fun n => absurd e n
  have e1 : (256 * (t.val / 65) + p.val) / 256 = (row t p).val / 16640 := by omega
  have e2 : (256 * (t.val / 65) + p.val) % 256 = (row t p).val % 16640 := by omega
  simp only [e1, e2]

theorem after_lat (p : Fin 256) (j : Fin 1024) (h : ¬ (row t p).val % 16640 < 256) :
    Eq (α := EReal) (outsAt0 m c t (ix2 p j)) (featL m c ⟨(row t p).val / 16640, by omega⟩ ⟨(row t p).val % 16640 - 256, by omega⟩ j) := by
  have ht := t_lt t
  have hp := p.isLt
  have hv : (row t p).val = 256 * t.val + p.val := rfl
  have e : ¬ t.val % 65 = 0 := by omega
  have hb : (row t p).val / 16640 < 2 := by omega
  have hr : (⟨tab t.val, tab_lt t⟩ : Fin 8) = ⟨1 + (⟨(row t p).val / 16640, hb⟩ : Fin 2).val, by simp only; omega⟩ := by
    refine Fin.ext ?_
    show tab t.val = 1 + (row t p).val / 16640
    unfold tab; rw [if_neg e]; omega
  refine after_apply m c t p j _ _ _ _ (fun k => a_lat m c _ k h) (fun k => p_lat m c _ k h) (fun k => ?_) (fun n => absurd n e)
    fun _ k => (x_eq m c _ k).trans (congrArg (argX m c) ?_)
  · rw [hr]
    exact mod_lat m c ⟨(row t p).val / 16640, hb⟩ _
  · have e1 : (256 * (t.val / 65 * 64 + (t.val % 65 - 1)) + p.val) / 16384 = (row t p).val / 16640 := by omega
    have e2 : (256 * (t.val / 65 * 64 + (t.val % 65 - 1)) + p.val) % 16384 = (row t p).val % 16640 - 256 := by omega
    simp only [e1, e2]

theorem block_eq (G : S33280x1024.Idx → EReal)
    (hc : ∀ (u : Fin 33280) (j : Fin 1024) (h : u.val % 16640 < 256), G (ix2 u j) = featC m c ⟨u.val / 16640, by omega⟩ ⟨u.val % 16640, h⟩ j)
    (hl : ∀ (u : Fin 33280) (j : Fin 1024) (_ : ¬ u.val % 16640 < 256), G (ix2 u j) = featL m c ⟨u.val / 16640, by omega⟩ ⟨u.val % 16640 - 256, by omega⟩ j)
    (p : Fin 256) (j : Fin 1024) : Eq (α := EReal) (outsAt0 m c t (ix2 p j)) (G (ix2 (row t p) j)) := by
  by_cases h : (row t p).val % 16640 < 256
  · exact (after_ctx m c t p j h).trans (hc (row t p) j h).symm
  · exact (after_lat m c t p j h).trans (hl (row t p) j h).symm

set_option maxHeartbeats 4000000 in
/-- The array the kernel leaves. -/
theorem arr_eq (G : S33280x1024.Idx → EReal)
    (hc : ∀ (u : Fin 33280) (j : Fin 1024) (h : u.val % 16640 < 256), G (ix2 u j) = featC m c ⟨u.val / 16640, by omega⟩ ⟨u.val % 16640, h⟩ j)
    (hl : ∀ (u : Fin 33280) (j : Fin 1024) (_ : ¬ u.val % 16640 < 256), G (ix2 u j) = featL m c ⟨u.val / 16640, by omega⟩ ⟨u.val % 16640 - 256, by omega⟩ j) :
    (dats m 0 c).arrAt 9 cfg0.N = G := by
  refine (dats m 0 c).arrAt_eq_of_covers 9 _ (by decide +kernel) fun t _ y => ?_
  rw [after0_9]
  obtain ⟨p, j, rfl⟩ : ∃ (p : Fin 256) (j : Fin 1024), y = ix2 p j := ⟨y 0, y 1, by funext a; fin_cases a <;> rfl⟩
  exact (block_eq m c t G hc hl p j).trans (read9 t G p j).symm

end Cert.Kernel5Ideal.Even
end
-- ==== Proof.EvenRef.lean ====
module

public import proofs.«01_k».proof.Proof.HostNorm
public import proofs.«01_k».proof.Proof.Proj
public import proofs.«01_k».proof.Proof.Gen.Reference5Ideal.Run

@[expose] public section

set_option maxRecDepth 16384

noncomputable section

namespace Cert.Reference5Ideal.Even

open Cert.Reference5Ideal Cert.Reference5Ideal.Gen Idealize.ShloMosaic Idealize.ShloMosaic.TcCoe Idealize.ShloMosaic.Tactic
open Cert.Ln

section defs
variable {F : FTy → Type} [FloatOps F]

/-- The modulation of the even layer, of the context and of the latents. -/
def modC (M : Vec F S2x6144 .f32) : Vec F S1x1x6144 .f32 :=
  broadcastInDim S1x1x6144 ![2] bcast_S6144_S1x1x6144_2 (shapeCast S6144 (extractStridedSlice S1x6144 ![0, 0] M slices_S2x6144_S1x6144_0_0) shapeCasts_S1x6144_S6144)
@[inherit_doc modC] def modL (M : Vec F S2x2x6144 .f32) : Vec F S2x1x6144 .f32 :=
  broadcastInDim S2x1x6144 ![0, 2] bcast_S2x6144_S2x1x6144_0_2 (shapeCast S2x6144 (extractStridedSlice S1x2x6144 ![0, 0, 0] M slices_S2x2x6144_S1x2x6144_0_0_0) shapeCasts_S1x2x6144_S2x6144)

/-- The two mixers' outputs joined. -/
def bothC (A : Vec F S2x256x768 .f32) (P : Vec F S2x256x256 .f32) : Vec F S2x256x1024 .f32 :=
  concatenate S2x256x1024 2 [⟨S2x256x768, A⟩, ⟨S2x256x256, P⟩] concatenates_S2x256x768_S2x256x256_S2x256x1024_d2
@[inherit_doc bothC] def bothL (A : Vec F S2x16384x768 .f32) (P : Vec F S2x16384x256 .f32) : Vec F S2x16384x1024 .f32 :=
  concatenate S2x16384x1024 2 [⟨S2x16384x768, A⟩, ⟨S2x16384x256, P⟩] concatenates_S2x16384x768_S2x16384x256_S2x16384x1024_d2

/-- Their projection. -/
def outC (Y : Vec F S2x256x1024 .f32) (W : Vec F S1024x1024 .f32) : FVec F S2x256x1024 .f32 := Host.dotGeneral dot_S2x256x1024_S1024x1024_S2x256x1024_2_0_01_1_n_n none Y W
@[inherit_doc outC] def outL (Y : Vec F S2x16384x1024 .f32) (W : Vec F S1024x1024 .f32) : FVec F S2x16384x1024 .f32 :=
  Host.dotGeneral dot_S2x16384x1024_S1024x1024_S2x16384x1024_2_0_01_1_n_n none Y W

/-- The gate, and a feature's scale or shift in the norm, at every token. -/
def gateC (M : Vec F S1x1x6144 .f32) : FVec F S2x256x1024 .f32 :=
  broadcastInDim S2x256x1024 ![0, 1, 2] bcast_S1x1x1024_S2x256x1024_0_1_2 (extractStridedSlice S1x1x1024 ![0, 0, 2048] M slices_S1x1x6144_S1x1x1024_0_0_2048)
@[inherit_doc gateC] def gateL (M : Vec F S2x1x6144 .f32) : FVec F S2x16384x1024 .f32 :=
  broadcastInDim S2x16384x1024 ![0, 1, 2] bcast_S2x1x1024_S2x16384x1024_0_1_2 (extractStridedSlice S2x1x1024 ![0, 0, 2048] M slices_S2x1x6144_S2x1x1024_0_0_2048)
@[inherit_doc gateC] def allC (g : Vec F S1024 .f32) : FVec F S2x256x1024 .f32 :=
  broadcastInDim S2x256x1024 ![0, 1, 2] bcast_S1x1x1024_S2x256x1024_0_1_2 (broadcastInDim S1x1x1024 ![2] bcast_S1024_S1x1x1024_2 g)
@[inherit_doc gateC] def allL (g : Vec F S1024 .f32) : FVec F S2x16384x1024 .f32 :=
  broadcastInDim S2x16384x1024 ![0, 1, 2] bcast_S1x1x1024_S2x16384x1024_0_1_2 (broadcastInDim S1x1x1024 ![2] bcast_S1024_S1x1x1024_2 g)

/-- The residual sums' norms. -/
def normC (Z : FVec F S2x256x1024 .f32) (g b : Vec F S1024 .f32) : FVec F S2x256x1024 .f32 :=
  HostLn.norm reducesTo_S2x256x1024_S2x256_d2 h_S_ bcast_S2x256_S2x256x1_0_1 bcast_S_S2x256x1 bcast_S2x256x1_S2x256x1024_0_1_2 Z (allC g) (allC b)
@[inherit_doc normC] def normL (Z : FVec F S2x16384x1024 .f32) (g b : Vec F S1024 .f32) : FVec F S2x16384x1024 .f32 :=
  HostLn.norm reducesTo_S2x16384x1024_S2x16384_d2 h_S_ bcast_S2x16384_S2x16384x1_0_1 bcast_S_S2x16384x1 bcast_S2x16384x1_S2x16384x1024_0_1_2 Z (allL g) (allL b)

/-- The context's tokens and the latents', joined. -/
def joined (C : FVec F S2x256x1024 .f32) (L : FVec F S2x16384x1024 .f32) : FVec F S33280x1024 .f32 :=
  shapeCast S33280x1024 (concatenate S2x16640x1024 1 [⟨S2x256x1024, C⟩, ⟨S2x16384x1024, L⟩] concatenates_S2x256x1024_S2x16384x1024_S2x16640x1024_d1) shapeCasts_S2x16640x1024_S33280x1024

/-- The result of the arguments. -/
def res (m : (ℓ : Loc nD τ sig) → Buf (Elt F) ℓ) (c : Dev nD) : Vec F S33280x1024 .f32 :=
  joined
    (normC (HostLn.pre bcast_S_S2x256x1024 (m ((c.tc : Thread nD τ).loc main_arg5)) (gateC (modC (m ((c.tc : Thread nD τ).loc main_arg7))))
      (outC (bothC (m ((c.tc : Thread nD τ).loc main_arg1)) (m ((c.tc : Thread nD τ).loc main_arg3))) (m ((c.tc : Thread nD τ).loc main_arg8))))
      (m ((c.tc : Thread nD τ).loc main_arg9)) (m ((c.tc : Thread nD τ).loc main_arg10)))
    (normL (HostLn.pre bcast_S_S2x16384x1024 (m ((c.tc : Thread nD τ).loc main_arg4)) (gateL (modL (m ((c.tc : Thread nD τ).loc main_arg6))))
      (outL (bothL (m ((c.tc : Thread nD τ).loc main_arg0)) (m ((c.tc : Thread nD τ).loc main_arg2))) (m ((c.tc : Thread nD τ).loc main_arg8))))
      (m ((c.tc : Thread nD τ).loc main_arg9)) (m ((c.tc : Thread nD τ).loc main_arg10)))

theorem res_eq (m : (ℓ : Loc nD τ sig) → Buf (Elt F) ℓ) (c : Dev nD) : Value.res_out0 m c = res m c := rfl

end defs

section apply
variable (X : Vec Ideal S2x256x1024 .f32) (Y : Vec Ideal S2x16384x1024 .f32) (C : Vec Ideal S2x6144 .f32) (M : Vec Ideal S2x2x6144 .f32)
variable (MC : Vec Ideal S1x1x6144 .f32) (ML : Vec Ideal S2x1x6144 .f32) (W : Vec Ideal S1024x1024 .f32) (g B : Vec Ideal S1024 .f32)
variable (AC : Vec Ideal S2x256x768 .f32) (PC : Vec Ideal S2x256x256 .f32) (AL : Vec Ideal S2x16384x768 .f32) (PL : Vec Ideal S2x16384x256 .f32)
variable (b : Fin 2) (p : Fin 256) (q : Fin 16384) (j : Fin 1024) (k : Fin 6144)

theorem modC_apply : Eq (α := EReal) (modC C (ix3 0 0 k)) (C (ix2 0 k)) := by
  pointwise [modC]

theorem modL_apply : Eq (α := EReal) (modL M (ix3 b 0 k)) (M (ix3 0 b k)) := by
  pointwise [modL]

theorem bothC_left (h : j.val < 768) : Eq (α := EReal) (bothC AC PC (ix3 b p j)) (AC (ix3 b p ⟨j.val, h⟩)) := by
  pointwise [bothC]
  rw [dif_pos h]

theorem bothC_right (h : ¬ j.val < 768) : Eq (α := EReal) (bothC AC PC (ix3 b p j)) (PC (ix3 b p ⟨j.val - 768, by omega⟩)) := by
  pointwise [bothC]
  rw [dif_neg h]

theorem bothL_left (h : j.val < 768) : Eq (α := EReal) (bothL AL PL (ix3 b q j)) (AL (ix3 b q ⟨j.val, h⟩)) := by
  pointwise [bothL]
  rw [dif_pos h]

theorem bothL_right (h : ¬ j.val < 768) : Eq (α := EReal) (bothL AL PL (ix3 b q j)) (PL (ix3 b q ⟨j.val - 768, by omega⟩)) := by
  pointwise [bothL]
  rw [dif_neg h]

theorem outC_apply : Eq (α := EReal) (outC X W (ix3 b p j)) (∑ k : Fin 1024, HMul.hMul (α := EReal) (X (ix3 b p k)) (W (ix2 k j))) := by
  pointwise [outC]

theorem outL_apply : Eq (α := EReal) (outL Y W (ix3 b q j)) (∑ k : Fin 1024, HMul.hMul (α := EReal) (Y (ix3 b q k)) (W (ix2 k j))) := by
  pointwise [outL]

theorem gateC_apply : Eq (α := EReal) (gateC MC (ix3 b p j)) (MC (ix3 0 0 ⟨2048 + j.val, by omega⟩)) := by
  pointwise [gateC]

theorem gateL_apply : Eq (α := EReal) (gateL ML (ix3 b q j)) (ML (ix3 b 0 ⟨2048 + j.val, by omega⟩)) := by
  pointwise [gateL]

theorem allC_apply : Eq (α := EReal) (allC g (ix3 b p j)) (g (ix1 j)) := by
  pointwise [allC]

theorem allL_apply : Eq (α := EReal) (allL g (ix3 b q j)) (g (ix1 j)) := by
  pointwise [allL]

theorem joined_ctx (C : FVec Ideal S2x256x1024 .f32) (L : FVec Ideal S2x16384x1024 .f32) (u : Fin 33280) (h : u.val % 16640 < 256) :
    Eq (α := EReal) (joined C L (ix2 u j)) (C (ix3 ⟨u.val / 16640, by omega⟩ ⟨u.val % 16640, h⟩ j)) := by
  pointwise [joined]
  rw [dif_pos h]

theorem joined_lat (C : FVec Ideal S2x256x1024 .f32) (L : FVec Ideal S2x16384x1024 .f32) (u : Fin 33280) (h : ¬ u.val % 16640 < 256) :
    Eq (α := EReal) (joined C L (ix2 u j)) (L (ix3 ⟨u.val / 16640, by omega⟩ ⟨u.val % 16640 - 256, by omega⟩ j)) := by
  pointwise [joined]
  rw [dif_neg h]

/-- A feature of the context's tokens and of the latents'. -/
theorem normC_apply : Eq (α := EReal) (normC (HostLn.pre bcast_S_S2x256x1024 X (gateC (modC C)) (outC (bothC AC PC) W)) g B (ix3 b p j))
    (ln (resid (fun k => X (ix3 b p k)) (fun k => C (ix2 0 ⟨2048 + k.val, by omega⟩)) (proj (n := 768) (m := 256) rfl (fun k => AC (ix3 b p k)) (fun k => PC (ix3 b p k)) W))
      (g (ix1 j)) (B (ix1 j)) j) := by
  unfold normC
  rw [← allC_apply g b p j, ← allC_apply B b p j]
  refine HostLn.norm_apply _ _ _ _ _ _ _ _ b p j _ fun k => ?_
  refine (HostLn.pre_apply _ X (gateC (modC C)) (outC (bothC AC PC) W) b p k).trans ?_
  unfold resid
  rw [gateC_apply, modC_apply, outC_apply]
  refine congrArg (fun a : EReal => Ideal.ofBits .f32 0x3FB504F3#32 * (X (ix3 b p k) : EReal) + (C (ix2 0 ⟨2048 + k.val, by omega⟩) : EReal) * a) ?_
  exact proj_joined (n := 768) (m := 256) rfl _ _ W k _ (fun i e => bothC_left AC PC b p i e) fun i e => bothC_right AC PC b p i e

@[inherit_doc normC_apply] theorem normL_apply : Eq (α := EReal) (normL (HostLn.pre bcast_S_S2x16384x1024 Y (gateL (modL M)) (outL (bothL AL PL) W)) g B (ix3 b q j))
    (ln (resid (fun k => Y (ix3 b q k)) (fun k => M (ix3 0 b ⟨2048 + k.val, by omega⟩)) (proj (n := 768) (m := 256) rfl (fun k => AL (ix3 b q k)) (fun k => PL (ix3 b q k)) W))
      (g (ix1 j)) (B (ix1 j)) j) := by
  unfold normL
  rw [← allL_apply g b q j, ← allL_apply B b q j]
  refine HostLn.norm_apply _ _ _ _ _ _ _ _ b q j _ fun k => ?_
  refine (HostLn.pre_apply _ Y (gateL (modL M)) (outL (bothL AL PL) W) b q k).trans ?_
  unfold resid
  rw [gateL_apply, modL_apply, outL_apply]
  refine congrArg (fun a : EReal => Ideal.ofBits .f32 0x3FB504F3#32 * (Y (ix3 b q k) : EReal) + (M (ix3 0 b ⟨2048 + k.val, by omega⟩) : EReal) * a) ?_
  exact proj_joined (n := 768) (m := 256) rfl _ _ W k _ (fun i e => bothL_left AL PL b q i e) fun i e => bothL_right AL PL b q i e

end apply
end Cert.Reference5Ideal.Even
end
-- ==== Proof.OddBody.lean ====
module

public import proofs.«01_k».proof.Proof.FfnBody
public import proofs.«01_k».proof.Proof.Proj
public import proofs.«01_k».proof.Proof.Spec
public import proofs.«01_k».proof.Proof.Gen.Kernel6Ideal.Value
public import Idealize.ShloMosaic.Lib.Pipeline.ValueKit
public import Idealize.ShloMosaic.Lib.StableHlo.ReadAt
public import Idealize.ShloMosaic.Lib.VecWindow

@[expose] public section

set_option maxRecDepth 16384

noncomputable section

namespace Cert.Kernel6Ideal.Odd

open Cert.Kernel6Ideal Cert.Kernel6Ideal.Gen Idealize.ShloMosaic Idealize.ShloMosaic.TcCoe Idealize.ShloMosaic.Tactic
open Idealize.ShloMosaic.Pipeline (Dat)
open Cert.Ln
open Cert.Kernel3Ideal.Ffn (cent pre normed pre_apply)

section run
variable {F : FTy → Type} [FloatOps F]

/-- The block written back, from what the body reads. -/
def outBlock (a b : Vec F S256x512 .bf16) (wa wb : Vec F S512x1024 .bf16) (x : Vec F S256x1024 .f32) (gate : Vec F S1x1x1024 .f32) (g s : Vec F S1x1024 .f32) : FVec F S256x1024 .f32 :=
  Cert.Kernel3Ideal.Gen.k0_pay1 (Cert.Kernel3Ideal.Gen.k0_pay4 g) (Cert.Kernel3Ideal.Gen.k0_pay5 s)
    (cent (pre (Cert.Kernel3Ideal.Gen.k0_pay2 x) (k0_pay3 a wa b wb) gate))
    (mulf (cent (pre (Cert.Kernel3Ideal.Gen.k0_pay2 x) (k0_pay3 a wa b wb) gate)) (cent (pre (Cert.Kernel3Ideal.Gen.k0_pay2 x) (k0_pay3 a wa b wb) gate)))

theorem outBlock_eq (a b : Vec F S256x512 .bf16) (wa wb : Vec F S512x1024 .bf16) (x : Vec F S256x1024 .f32) (gate : Vec F S1x1x1024 .f32) (g s : Vec F S1x1024 .f32) :
    k0_pay1 (k0_pay2 gate) (k0_pay3 a wa b wb) (k0_pay4 x) g s = outBlock a b wa wb x gate g s := rfl

variable (c : Dev nD) (i : grid0.Coords) (arg1 arg2 : Memref sig .tc .vmem S256x512 .bf16) (arg3 arg4 : Memref sig .tc .vmem S512x1024 .bf16) (arg5 : Memref sig .tc .vmem S256x1024 .f32)
  (arg6 : Memref sig .tc .vmem S1x8x1024 .f32) (arg7 arg8 : Memref sig .tc .vmem S1x1024 .f32) (arg9 : Memref sig .tc .vmem S256x1024 .f32)
  (h1 : arg1.IsWhole) (h2 : arg2.IsWhole) (h3 : arg3.IsWhole) (h4 : arg4.IsWhole) (h5 : arg5.IsWhole) (h6 : arg6.IsWhole) (h7 : arg7.IsWhole) (h8 : arg8.IsWhole) (h9 : arg9.IsWhole)
  (x0 x1 : Vec F S256x512 .bf16) (x2 x3 : Vec F S512x1024 .bf16) (x4 : Vec F S256x1024 .f32) (x5 : Vec F S1x8x1024 .f32) (x6 x7 : Vec F S1x1024 .f32)

set_option maxHeartbeats 4000000 in
theorem run_eq : (kernelRun0_A (F := F) c i arg1 h1 arg2 h2 arg3 h3 arg4 h4 arg5 h5 arg6 h6 arg7 h7 arg8 h8 arg9 h9 x0 x1 x2 x3 x4 x5 x6 x7).1
      = [⟨Rect.unit (s := S256x1024) ![0, 0] S256x1024.size inb_S256x1024_S256x1024_0_0, outBlock
          (View.readAt (Elt F) arg1.view (Rect.unit (s := S256x512) ![0, 0] S256x512.size inb_S256x512_S256x512_0_0).toLoadRect (h1.unread x0))
          (View.readAt (Elt F) arg2.view (Rect.unit (s := S256x512) ![0, 0] S256x512.size inb_S256x512_S256x512_0_0).toLoadRect (h2.unread x1))
          (View.readAt (Elt F) arg3.view (Rect.unit (s := S512x1024) ![0, 0] S512x1024.size inb_S512x1024_S512x1024_0_0).toLoadRect (h3.unread x2))
          (View.readAt (Elt F) arg4.view (Rect.unit (s := S512x1024) ![0, 0] S512x1024.size inb_S512x1024_S512x1024_0_0).toLoadRect (h4.unread x3))
          (View.readAt (Elt F) arg5.view (Rect.unit (s := S256x1024) ![0, 0] S256x1024.size inb_S256x1024_S256x1024_0_0).toLoadRect (h5.unread x4))
          (View.readAt (Elt F) arg6.view (Rect.unit (s := S1x8x1024) (k0_off1 i) S1x1x1024.size (k0_off1_inb i)).toLoadRect (h6.unread x5))
          (View.readAt (Elt F) arg7.view (Rect.unit (s := S1x1024) ![0, 0] S1x1024.size inb_S1x1024_S1x1024_0_0).toLoadRect (h7.unread x6))
          (View.readAt (Elt F) arg8.view (Rect.unit (s := S1x1024) ![0, 0] S1x1024.size inb_S1x1024_S1x1024_0_0).toLoadRect (h8.unread x7))⟩] := by
  simp only [← outBlock_eq]
  sl_kernel_rfl

end run

section apply
variable (a b : Vec Ideal S256x512 .bf16) (wa wb : Vec Ideal S512x1024 .bf16) (x : Vec Ideal S256x1024 .f32) (gate : Vec Ideal S1x1x1024 .f32) (g s : Vec Ideal S1x1024 .f32)
variable (p : Fin 256) (j : Fin 1024)

theorem pay3_apply : Eq (α := EReal) (k0_pay3 a wa b wb (ix2 p j))
    ((∑ k : Fin 512, HMul.hMul (α := EReal) (a (ix2 p k)) (wa (ix2 k j))) + ∑ k : Fin 512, HMul.hMul (α := EReal) (b (ix2 p k)) (wb (ix2 k j))) := by
  pointwise [k0_pay3]

/-- The block written back, at an index. -/
theorem outBlock_apply (A B : Fin 512 → EReal) (W : S1024x1024.Idx → EReal) (ha : ∀ k, Eq (α := EReal) (a (ix2 p k)) (A k)) (hb : ∀ k, Eq (α := EReal) (b (ix2 p k)) (B k))
    (hwa : ∀ (k : Fin 512) (j : Fin 1024), Eq (α := EReal) (wa (ix2 k j)) (W (ix2 ⟨k.val, by omega⟩ j)))
    (hwb : ∀ (k : Fin 512) (j : Fin 1024), Eq (α := EReal) (wb (ix2 k j)) (W (ix2 ⟨512 + k.val, by omega⟩ j))) :
    Eq (α := EReal) (outBlock a b wa wb x gate g s (ix2 p j))
      (ln (resid (fun k => x (ix2 p k)) (fun k => gate (ix3 0 0 k)) (proj (n := 512) (m := 512) rfl A B W)) (g (ix2 0 j)) (s (ix2 0 j)) j) := by
  unfold outBlock
  refine normed _ g s p j _ fun k => ?_
  refine (pre_apply x _ gate p k).trans ?_
  unfold resid proj
  rw [pay3_apply]
  simp only [ha, hb, hwa, hwb]

end apply

theorem idx : ∀ t : Fin cfg0.N, win0_0.index t = ![t.val, 0] ∧ win0_1.index t = ![t.val, 0] ∧ win0_2.index t = ![0, 0] ∧ win0_3.index t = ![0, 0]
    ∧ win0_4.index t = ![t.val + t.val / 64 + 1, 0] ∧ win0_5.index t = ![1, 0, 2] ∧ win0_6.index t = ![0, 0] ∧ win0_7.index t = ![0, 0] ∧ win0_8.index t = ![t.val, 0] := by
  decide +kernel

theorem off : ∀ t : Fin cfg0.N, k0_off1 (grid0.coords t) = ![0, 1 + t.val / 64, 0] := by decide +kernel

theorem t_lt (t : Fin cfg0.N) : t.val < 128 := t.isLt.trans_eq N_0

variable (t : Fin cfg0.N)

/-- The row of the result a block's row is, and its batch element. -/
def row (p : Fin 256) : Fin 32768 := ⟨256 * t.val + p.val, by have := t_lt t; omega⟩
@[inherit_doc row] def bat : Fin 2 := ⟨t.val / 64, by have := t_lt t; omega⟩

theorem read0 (X : S32768x512.Idx → Elt Ideal .bf16) (p : Fin 256) (k : Fin 512) : ((cfg0.win 0).blk t).view.read (Elt Ideal) X (ix2 p k) = X (ix2 (row t p) k) := by
  obtain ⟨h, -⟩ := idx t
  refine congrArg X ?_
  unfold row
  blk_ext [h]

theorem read1 (X : S32768x512.Idx → Elt Ideal .bf16) (p : Fin 256) (k : Fin 512) : ((cfg0.win 1).blk t).view.read (Elt Ideal) X (ix2 p k) = X (ix2 (row t p) k) := by
  obtain ⟨-, h, -⟩ := idx t
  refine congrArg X ?_
  unfold row
  blk_ext [h]

theorem read2 (X : S512x1024.Idx → Elt Ideal .bf16) (k : Fin 512) (j : Fin 1024) : ((cfg0.win 2).blk t).view.read (Elt Ideal) X (ix2 k j) = X (ix2 k j) := by
  obtain ⟨-, -, h, -⟩ := idx t
  refine congrArg X ?_
  blk_ext [h]

theorem read3 (X : S512x1024.Idx → Elt Ideal .bf16) (k : Fin 512) (j : Fin 1024) : ((cfg0.win 3).blk t).view.read (Elt Ideal) X (ix2 k j) = X (ix2 k j) := by
  obtain ⟨-, -, -, h, -⟩ := idx t
  refine congrArg X ?_
  blk_ext [h]

theorem read4 (X : S33280x1024.Idx → Elt Ideal .f32) (p : Fin 256) (j : Fin 1024) : ((cfg0.win 4).blk t).view.read (Elt Ideal) X (ix2 p j)
    = X (ix2 ⟨256 * (t.val + t.val / 64 + 1) + p.val, by have := t_lt t; omega⟩ j) := by
  obtain ⟨-, -, -, -, h, -⟩ := idx t
  refine congrArg X ?_
  blk_ext [h]

theorem read5 (X : S2x8x6144.Idx → Elt Ideal .f32) (r : Fin 8) (j : Fin 1024) : ((cfg0.win 5).blk t).view.read (Elt Ideal) X (ix3 0 r j)
    = X (ix3 1 r ⟨2048 + j.val, by omega⟩) := by
  obtain ⟨-, -, -, -, -, h, -⟩ := idx t
  refine congrArg X ?_
  blk_ext [h]

theorem read6 (X : S1x1024.Idx → Elt Ideal .f32) (j : Fin 1024) : ((cfg0.win 6).blk t).view.read (Elt Ideal) X (ix2 0 j) = X (ix2 0 j) := by
  obtain ⟨-, -, -, -, -, -, h, -⟩ := idx t
  refine congrArg X ?_
  blk_ext [h]

theorem read7 (X : S1x1024.Idx → Elt Ideal .f32) (j : Fin 1024) : ((cfg0.win 7).blk t).view.read (Elt Ideal) X (ix2 0 j) = X (ix2 0 j) := by
  obtain ⟨-, -, -, -, -, -, -, h, -⟩ := idx t
  refine congrArg X ?_
  blk_ext [h]

theorem read8 (X : S32768x1024.Idx → Elt Ideal .f32) (p : Fin 256) (j : Fin 1024) : ((cfg0.win 8).blk t).view.read (Elt Ideal) X (ix2 p j) = X (ix2 (row t p) j) := by
  obtain ⟨-, -, -, -, -, -, -, -, h⟩ := idx t
  refine congrArg X ?_
  unfold row
  blk_ext [h]

section loads
variable {F : FTy → Type} [FloatOps F]

/-- Loading a whole buffer gives its contents. -/
theorem load_all {s : Shape} {e : EltTy} (a : Memref sig .tc .vmem s e) (h : a.IsWhole) (x : Vec F s e) (o : Fin s.rank → ℕ) (ho : ∀ k, o k = 0)
    (hb : ∀ k, o k + s.size k ≤ s.size k) (y : s.Idx) : View.readAt (Elt F) a.view (Rect.unit (s := s) o s.size hb).toLoadRect (h.unread x) y = x y := by
  show a.view.read (Elt F) (h.unread x) _ = _
  rw [h.read_unread]
  refine congrArg x (funext fun k => Fin.ext ?_)
  show o k + 1 * (y k).val = (y k).val
  rw [ho]; omega

/-- Loading a row of the modulation table's block. -/
theorem load_row (a : Memref sig .tc .vmem S1x8x1024 .f32) (h : a.IsWhole) (x : Vec F S1x8x1024 .f32) (j : Fin 1024) :
    View.readAt (Elt F) a.view (Rect.unit (s := S1x8x1024) (k0_off1 (grid0.coords t)) S1x1x1024.size (k0_off1_inb (grid0.coords t))).toLoadRect (h.unread x) (ix3 0 0 j)
      = x (ix3 0 ⟨1 + (bat t).val, by omega⟩ j) := by
  show a.view.read (Elt F) (h.unread x) _ = _
  rw [h.read_unread]
  refine congrArg x (funext fun k => Fin.ext ?_)
  have e := congrFun (off t)
  match k with
  | ⟨0, _⟩ => show k0_off1 (grid0.coords t) 0 + 1 * 0 = 0; rw [e]; rfl
  | ⟨1, _⟩ => show k0_off1 (grid0.coords t) 1 + 1 * 0 = 1 + t.val / 64; rw [e]; rfl
  | ⟨2, _⟩ => show k0_off1 (grid0.coords t) 2 + 1 * j.val = j.val; rw [e]; show 0 + 1 * j.val = j.val; omega

end loads

variable (m : (ℓ : Loc nD τ sig) → Buf (Elt Ideal) ℓ) (c : Dev nD)

/-- The arguments as they are passed. -/
abbrev argL : S2x16384x512.Idx → EReal := m ((c : Thread nD τ).loc main_arg0)
@[inherit_doc argL] abbrev argN : S2x16384x512.Idx → EReal := m ((c : Thread nD τ).loc main_arg1)
@[inherit_doc argL] abbrev argX : S2x16384x1024.Idx → EReal := m ((c : Thread nD τ).loc main_arg2)
@[inherit_doc argL] abbrev argM : S2x2x6144.Idx → EReal := m ((c : Thread nD τ).loc main_arg4)
@[inherit_doc argL] abbrev argW : S1024x1024.Idx → EReal := m ((c : Thread nD τ).loc main_arg6)
@[inherit_doc argL] abbrev argG : S1024.Idx → EReal := m ((c : Thread nD τ).loc main_arg7)
@[inherit_doc argL] abbrev argB : S1024.Idx → EReal := m ((c : Thread nD τ).loc main_arg8)

theorem l_eq (u : Fin 32768) (k : Fin 512) : Eq (α := EReal) (V m c main_v7 (ix2 u k)) (argL m c (ix3 ⟨u.val / 16384, by omega⟩ ⟨u.val % 16384, by omega⟩ k)) := by
  unfold V
  after_reads_at

theorem n_eq (u : Fin 32768) (k : Fin 512) : Eq (α := EReal) (V m c main_v9 (ix2 u k)) (argN m c (ix3 ⟨u.val / 16384, by omega⟩ ⟨u.val % 16384, by omega⟩ k)) := by
  unfold V
  after_reads_at

theorem wa_eq (k : Fin 512) (j : Fin 1024) : Eq (α := EReal) (V m c main_v10 (ix2 k j)) (argW m c (ix2 ⟨k.val, by omega⟩ j)) := by
  unfold V
  after_reads_at

theorem wb_eq (k : Fin 512) (j : Fin 1024) : Eq (α := EReal) (V m c main_v11 (ix2 k j)) (argW m c (ix2 ⟨512 + k.val, by omega⟩ j)) := by
  unfold V
  after_reads_at

theorem x_eq (u : Fin 33280) (j : Fin 1024) (h : ¬ u.val % 16640 < 256) :
    Eq (α := EReal) (V m c main_v1 (ix2 u j)) (argX m c (ix3 ⟨u.val / 16640, by omega⟩ ⟨u.val % 16640 - 256, by omega⟩ j)) := by
  unfold V
  after_reads_at
  rw [dif_neg h]
  after_reads_at

theorem mod_eq (l b : Fin 2) (k : Fin 6144) : Eq (α := EReal) (V m c main_v4 (ix3 l ⟨1 + b.val, by omega⟩ k)) (argM m c (ix3 l b k)) := by
  unfold V
  after_reads_at

theorem g_eq (j : Fin 1024) : Eq (α := EReal) (V m c main_v12 (ix2 0 j)) (argG m c (ix1 j)) := by
  unfold V
  after_reads_at

theorem b_eq (j : Fin 1024) : Eq (α := EReal) (V m c main_v13 (ix2 0 j)) (argB m c (ix1 j)) := by
  unfold V
  after_reads_at

end Cert.Kernel6Ideal.Odd
end
-- ==== Proof.OddResult.lean ====
module

public import proofs.«01_k».proof.Proof.OddBody

@[expose] public section

set_option maxRecDepth 16384

noncomputable section

namespace Cert.Kernel6Ideal.Odd

open Cert.Kernel6Ideal Cert.Kernel6Ideal.Gen Idealize.ShloMosaic Idealize.ShloMosaic.TcCoe Idealize.ShloMosaic.Tactic
open Idealize.ShloMosaic.Pipeline (Dat)
open Cert.Ln

variable (m : (ℓ : Loc nD τ sig) → Buf (Elt Ideal) ℓ) (c : Dev nD) (t : Fin cfg0.N)

/-- A feature of a token. -/
def feat (b : Fin 2) (q : Fin 16384) (j : Fin 1024) : EReal :=
  ln (resid (fun k => argX m c (ix3 b q k)) (fun k => argM m c (ix3 1 b ⟨2048 + k.val, by omega⟩))
    (proj (n := 512) (m := 512) rfl (fun k => argL m c (ix3 b q k)) (fun k => argN m c (ix3 b q k)) (argW m c))) (argG m c (ix1 j)) (argB m c (ix1 j)) j

/-- What a point leaves in its block of the result. -/
theorem after_apply (p : Fin 256) (j : Fin 1024) :
    Eq (α := EReal) (outsAt0 m c t (ix2 p j)) (feat m c ⟨(row t p).val / 16384, by omega⟩ ⟨(row t p).val % 16384, by omega⟩ j) := by
  have ht := t_lt t
  have hp := p.isLt
  have hv : (row t p).val = 256 * t.val + p.val := rfl
  have hb : bat t = ⟨(row t p).val / 16384, by omega⟩ := Fin.ext (by show t.val / 64 = (row t p).val / 16384; omega)
  unfold outsAt0 out0_A_8
  rw [run_eq, View.read_writes_full]
  refine (outBlock_apply _ _ _ _ _ _ _ _ p j (fun k => argL m c (ix3 ⟨(row t p).val / 16384, by omega⟩ ⟨(row t p).val % 16384, by omega⟩ k))
    (fun k => argN m c (ix3 ⟨(row t p).val / 16384, by omega⟩ ⟨(row t p).val % 16384, by omega⟩ k)) (argW m c)
    (fun k => (load_all _ _ _ _ (by decide) _ _).trans ((read0 t _ p k).trans (l_eq ..))) (fun k => (load_all _ _ _ _ (by decide) _ _).trans ((read1 t _ p k).trans (n_eq ..)))
    (fun k j => (load_all _ _ _ _ (by decide) _ _).trans ((read2 t _ k j).trans (wa_eq ..))) (fun k j => (load_all _ _ _ _ (by decide) _ _).trans ((read3 t _ k j).trans (wb_eq ..)))).trans ?_
  unfold feat
  refine congrFun (congr (congr (congrArg ln ?_) ?_) ?_) j
  · refine congrFun (congr (congrArg resid ?_) ?_) _
    · funext k
      refine (load_all _ _ _ _ (by decide) _ _).trans ((read4 t _ p k).trans ((x_eq m c _ k (by show ¬ (256 * (t.val + t.val / 64 + 1) + p.val) % 16640 < 256; omega)).trans ?_))
      refine congrArg (argX m c) ?_
      have e1 : (256 * (t.val + t.val / 64 + 1) + p.val) / 16640 = (row t p).val / 16384 := by omega
      have e2 : (256 * (t.val + t.val / 64 + 1) + p.val) % 16640 - 256 = (row t p).val % 16384 := by omega
      simp only [e1, e2]
    · funext k; rw [← hb]; exact (load_row t _ _ _ _).trans ((read5 t _ _ _).trans (mod_eq ..))
  · exact (load_all _ _ _ _ (by decide) _ _).trans ((read6 t _ _).trans (g_eq ..))
  · exact (load_all _ _ _ _ (by decide) _ _).trans ((read7 t _ _).trans (b_eq ..))

set_option maxHeartbeats 4000000 in
/-- The array the kernel leaves. -/
theorem arr_eq (G : S32768x1024.Idx → EReal)
    (hG : ∀ (u : Fin 32768) (j : Fin 1024), G (ix2 u j) = feat m c ⟨u.val / 16384, by omega⟩ ⟨u.val % 16384, by omega⟩ j) :
    (dats m 0 c).arrAt 8 cfg0.N = G := by
  refine (dats m 0 c).arrAt_eq_of_covers 8 _ (by decide +kernel) fun t _ y => ?_
  rw [after0_8]
  obtain ⟨p, j, rfl⟩ : ∃ (p : Fin 256) (j : Fin 1024), y = ix2 p j := ⟨y 0, y 1, by funext a; fin_cases a <;> rfl⟩
  exact ((after_apply m c t p j).trans (hG (row t p) j).symm).trans (read8 t G p j).symm

end Cert.Kernel6Ideal.Odd
end
-- ==== Proof.OddRef.lean ====
module

public import proofs.«01_k».proof.Proof.HostNorm
public import proofs.«01_k».proof.Proof.Proj
public import proofs.«01_k».proof.Proof.Gen.Reference6Ideal.Run

@[expose] public section

set_option maxRecDepth 16384

noncomputable section

namespace Cert.Reference6Ideal.Odd

open Cert.Reference6Ideal Cert.Reference6Ideal.Gen Idealize.ShloMosaic Idealize.ShloMosaic.TcCoe Idealize.ShloMosaic.Tactic
open Cert.Ln

section defs
variable {F : FTy → Type} [FloatOps F]

/-- The gate of the odd layer, at every token. -/
def gate (M : Vec F S2x2x6144 .f32) : FVec F S2x16384x1024 .f32 :=
  broadcastInDim S2x16384x1024 ![0, 1, 2] bcast_S2x1x1024_S2x16384x1024_0_1_2 (extractStridedSlice S2x1x1024 ![0, 0, 2048]
    (broadcastInDim S2x1x6144 ![0, 2] bcast_S2x6144_S2x1x6144_0_2 (shapeCast S2x6144 (extractStridedSlice S1x2x6144 ![1, 0, 0] M slices_S2x2x6144_S1x2x6144_1_0_0) shapeCasts_S1x2x6144_S2x6144))
    slices_S2x1x6144_S2x1x1024_0_0_2048)

/-- The two mixers' outputs joined, and their projection. -/
def both (L N : Vec F S2x16384x512 .f32) : Vec F S2x16384x1024 .f32 :=
  concatenate S2x16384x1024 2 [⟨S2x16384x512, L⟩, ⟨S2x16384x512, N⟩] concatenates_S2x16384x512_S2x16384x512_S2x16384x1024_d2
@[inherit_doc both] def out (Y : Vec F S2x16384x1024 .f32) (W : Vec F S1024x1024 .f32) : FVec F S2x16384x1024 .f32 :=
  Host.dotGeneral dot_S2x16384x1024_S1024x1024_S2x16384x1024_2_0_01_1_n_n none Y W

/-- A feature's scale or shift in the norm, at every token. -/
def all (g : Vec F S1024 .f32) : FVec F S2x16384x1024 .f32 :=
  broadcastInDim S2x16384x1024 ![0, 1, 2] bcast_S1x1x1024_S2x16384x1024_0_1_2 (broadcastInDim S1x1x1024 ![2] bcast_S1024_S1x1x1024_2 g)

/-- The residual sums' norms. -/
def normed (Z : FVec F S2x16384x1024 .f32) (g b : Vec F S1024 .f32) : FVec F S2x16384x1024 .f32 :=
  HostLn.norm reducesTo_S2x16384x1024_S2x16384_d2 h_S_ bcast_S2x16384_S2x16384x1_0_1 bcast_S_S2x16384x1 bcast_S2x16384x1_S2x16384x1024_0_1_2 Z (all g) (all b)

/-- The result of the arguments. -/
def res (m : (ℓ : Loc nD τ sig) → Buf (Elt F) ℓ) (c : Dev nD) : Vec F S32768x1024 .f32 :=
  shapeCast S32768x1024 (normed (HostLn.pre bcast_S_S2x16384x1024 (m ((c.tc : Thread nD τ).loc main_arg2)) (gate (m ((c.tc : Thread nD τ).loc main_arg4)))
      (out (both (m ((c.tc : Thread nD τ).loc main_arg0)) (m ((c.tc : Thread nD τ).loc main_arg1))) (m ((c.tc : Thread nD τ).loc main_arg6))))
    (m ((c.tc : Thread nD τ).loc main_arg7)) (m ((c.tc : Thread nD τ).loc main_arg8))) shapeCasts_S2x16384x1024_S32768x1024

theorem res_eq (m : (ℓ : Loc nD τ sig) → Buf (Elt F) ℓ) (c : Dev nD) : Value.res_out0 m c = res m c := rfl

end defs

section apply
variable (X Y : Vec Ideal S2x16384x1024 .f32) (L N : Vec Ideal S2x16384x512 .f32) (W : Vec Ideal S1024x1024 .f32) (M : Vec Ideal S2x2x6144 .f32) (g B : Vec Ideal S1024 .f32)
variable (b : Fin 2) (q : Fin 16384) (j k : Fin 1024)

theorem gate_apply : Eq (α := EReal) (gate M (ix3 b q j)) (M (ix3 1 b ⟨2048 + j.val, by omega⟩)) := by
  pointwise [gate]

theorem both_left (h : k.val < 512) : Eq (α := EReal) (both L N (ix3 b q k)) (L (ix3 b q ⟨k.val, h⟩)) := by
  pointwise [both]
  rw [dif_pos h]

theorem both_right (h : ¬ k.val < 512) : Eq (α := EReal) (both L N (ix3 b q k)) (N (ix3 b q ⟨k.val - 512, by omega⟩)) := by
  pointwise [both]
  rw [dif_neg h]

theorem out_apply : Eq (α := EReal) (out Y W (ix3 b q j)) (∑ k : Fin 1024, HMul.hMul (α := EReal) (Y (ix3 b q k)) (W (ix2 k j))) := by
  pointwise [out]

theorem all_apply : Eq (α := EReal) (all g (ix3 b q j)) (g (ix1 j)) := by
  pointwise [all]

theorem flat_apply (Z : FVec Ideal S2x16384x1024 .f32) (u : Fin 32768) :
    Eq (α := EReal) (shapeCast S32768x1024 Z shapeCasts_S2x16384x1024_S32768x1024 (ix2 u j)) (Z (ix3 ⟨u.val / 16384, by omega⟩ ⟨u.val % 16384, by omega⟩ j)) := by
  pointwise []

/-- A feature of a token. -/
theorem normed_apply : Eq (α := EReal) (normed (HostLn.pre bcast_S_S2x16384x1024 X (gate M) (out (both L N) W)) g B (ix3 b q j))
    (ln (resid (fun k => X (ix3 b q k)) (fun k => M (ix3 1 b ⟨2048 + k.val, by omega⟩)) (proj (n := 512) (m := 512) rfl (fun k => L (ix3 b q k)) (fun k => N (ix3 b q k)) W))
      (g (ix1 j)) (B (ix1 j)) j) := by
  unfold normed
  rw [← all_apply g b q j, ← all_apply B b q j]
  refine HostLn.norm_apply _ _ _ _ _ _ _ _ b q j _ fun k => ?_
  refine (HostLn.pre_apply _ X (gate M) (out (both L N) W) b q k).trans ?_
  unfold resid
  rw [gate_apply, out_apply]
  refine congrArg (fun a : EReal => Ideal.ofBits .f32 0x3FB504F3#32 * (X (ix3 b q k) : EReal) + (M (ix3 1 b ⟨2048 + k.val, by omega⟩) : EReal) * a) ?_
  exact proj_joined (n := 512) (m := 512) rfl _ _ W k _ (fun i e => both_left L N b q i e) fun i e => both_right L N b q i e

end apply
end Cert.Reference6Ideal.Odd
end
-- ==== Proof.AdaRef.lean ====
module

public import proofs.«01_k».proof.Proof.HostNorm
public import proofs.«01_k».proof.Proof.Gen.Reference7Ideal.Run

@[expose] public section

set_option maxRecDepth 16384

noncomputable section

namespace Cert.Ada

open Idealize.ShloMosaic

/-- An entry of the modulation table, from a conditioning vector, a column of the weight and the bias. -/
def entry (s w : Fin 1024 → EReal) (b : EReal) : EReal := (∑ k : Fin 1024, s k * Ideal.logistic (s k) * w k) + b

/-- A vector of zeros leaves the bias. -/
theorem entry_zero (s w : Fin 1024 → EReal) (b : EReal) (h : ∀ k, s k = 0) : entry s w b = b := by
  unfold entry
  simp only [h, zero_mul, Finset.sum_const_zero, zero_add]

end Cert.Ada

namespace Cert.Reference7Ideal.Ada

open Cert.Reference7Ideal Cert.Reference7Ideal.Gen Idealize.ShloMosaic Idealize.ShloMosaic.TcCoe Idealize.ShloMosaic.Tactic
open Cert.Ada

section defs
variable {F : FTy → Type} [FloatOps F]

/-- The conditioning of the context and of the samples through its gate. -/
def siluC (x : Vec F S1024 .f32) : Vec F S1024 .f32 :=
  mulf x (Host.divf (broadcastInDim S1024 ![] bcast_S_S1024 (constant S_ .f32 0x3F800000#32)) (addf (broadcastInDim S1024 ![] bcast_S_S1024 (constant S_ .f32 0x3F800000#32)) (Host.exp (Host.negf x))))
@[inherit_doc siluC] def siluS (x : Vec F S2x1024 .f32) : Vec F S2x1024 .f32 :=
  mulf x (Host.divf (broadcastInDim S2x1024 ![] bcast_S_S2x1024 (constant S_ .f32 0x3F800000#32)) (addf (broadcastInDim S2x1024 ![] bcast_S_S2x1024 (constant S_ .f32 0x3F800000#32)) (Host.exp (Host.negf x))))

/-- The rows of the context, of the samples, and the spare rows. -/
def rowC (x : Vec F S1024 .f32) (W : Vec F S2x1024x6144 .f32) (b : Vec F S2x6144 .f32) : Vec F S2x1x6144 .f32 :=
  broadcastInDim S2x1x6144 ![0, 2] bcast_S2x6144_S2x1x6144_0_2 (addf (Host.dotGeneral dot_S1024_S2x1024x6144_S2x6144_0_1_n_02_n_n none x W) b)
@[inherit_doc rowC] def rowS (x : Vec F S2x1024 .f32) (W : Vec F S2x1024x6144 .f32) (b : Vec F S2x6144 .f32) : Vec F S2x2x6144 .f32 :=
  addf (transpose S2x2x6144 [0, 2, 1] (Host.dotGeneral dot_S2x1024x6144_S2x1024_S2x6144x2_1_1_02_0_n_n none W x) transposes_S2x6144x2_S2x2x6144_0_2_1)
    (broadcastInDim S2x2x6144 ![0, 1, 2] bcast_S2x1x6144_S2x2x6144_0_1_2 (broadcastInDim S2x1x6144 ![0, 2] bcast_S2x6144_S2x1x6144_0_2 b))
@[inherit_doc rowC] def spare (b : Vec F S2x6144 .f32) : Vec F S2x5x6144 .f32 :=
  broadcastInDim S2x5x6144 ![0, 1, 2] bcast_S2x1x6144_S2x5x6144_0_1_2 (broadcastInDim S2x1x6144 ![0, 2] bcast_S2x6144_S2x1x6144_0_2 b)

/-- The table. -/
def table (C : Vec F S2x1x6144 .f32) (S : Vec F S2x2x6144 .f32) (Z : Vec F S2x5x6144 .f32) : Vec F S2x8x6144 .f32 :=
  concatenate S2x8x6144 1 [⟨S2x1x6144, C⟩, ⟨S2x2x6144, S⟩, ⟨S2x5x6144, Z⟩] concatenates_S2x1x6144_S2x2x6144_S2x5x6144_S2x8x6144_d1

/-- The result of the arguments. -/
def res (m : (ℓ : Loc nD τ sig) → Buf (Elt F) ℓ) (c : Dev nD) : Vec F S2x8x6144 .f32 :=
  table (rowC (siluC (m ((c.tc : Thread nD τ).loc main_arg1))) (m ((c.tc : Thread nD τ).loc main_arg2)) (m ((c.tc : Thread nD τ).loc main_arg3)))
    (rowS (siluS (m ((c.tc : Thread nD τ).loc main_arg0))) (m ((c.tc : Thread nD τ).loc main_arg2)) (m ((c.tc : Thread nD τ).loc main_arg3)))
    (spare (m ((c.tc : Thread nD τ).loc main_arg3)))

end defs

section apply
variable (x : Vec Ideal S1024 .f32) (xs : Vec Ideal S2x1024 .f32) (W : Vec Ideal S2x1024x6144 .f32) (b : Vec Ideal S2x6144 .f32)
variable (l s : Fin 2) (j : Fin 6144) (k : Fin 1024)

theorem siluC_apply : Eq (α := EReal) (siluC x (ix1 k)) (x (ix1 k) * Ideal.logistic (x (ix1 k))) := by
  unfold Ideal.logistic
  rw [← HostLn.bits_one]
  pointwise [siluC]

theorem siluS_apply : Eq (α := EReal) (siluS xs (ix2 s k)) (xs (ix2 s k) * Ideal.logistic (xs (ix2 s k))) := by
  unfold Ideal.logistic
  rw [← HostLn.bits_one]
  pointwise [siluS]

theorem rowC_apply : Eq (α := EReal) (rowC x W b (ix3 l 0 j)) ((∑ k : Fin 1024, HMul.hMul (α := EReal) (x (ix1 k)) (W (ix3 l k j))) + b (ix2 l j)) := by
  pointwise [rowC]

theorem rowS_apply : Eq (α := EReal) (rowS xs W b (ix3 l s j)) ((∑ k : Fin 1024, HMul.hMul (α := EReal) (W (ix3 l k j)) (xs (ix2 s k))) + b (ix2 l j)) := by
  pointwise [rowS]

theorem spare_apply (r : Fin 5) : Eq (α := EReal) (spare b (ix3 l r j)) (b (ix2 l j)) := by
  pointwise [spare]

variable (C : Vec Ideal S2x1x6144 .f32) (S : Vec Ideal S2x2x6144 .f32) (Z : Vec Ideal S2x5x6144 .f32)

theorem table_ctx : Eq (α := EReal) (table C S Z (ix3 l 0 j)) (C (ix3 l 0 j)) := by
  pointwise [table]

theorem table_smp : Eq (α := EReal) (table C S Z (ix3 l ⟨1 + s.val, by omega⟩ j)) (S (ix3 l s j)) := by
  pointwise [table]

theorem table_spare (r : Fin 5) : Eq (α := EReal) (table C S Z (ix3 l ⟨3 + r.val, by omega⟩ j)) (Z (ix3 l r j)) := by
  pointwise [table]
  rw [dif_neg (by omega), dif_neg (by omega)]
  exact congrArg (fun r => Z (ix3 l r j)) (Fin.ext (by show 3 + r.val - 1 - 2 = r.val; omega))

/-- The table at the context's row, at a sample's and at a spare one. -/
theorem ctx_apply : Eq (α := EReal) (table (rowC (siluC x) W b) S Z (ix3 l 0 j)) (entry (fun k => x (ix1 k)) (fun k => W (ix3 l k j)) (b (ix2 l j))) := by
  rw [table_ctx, rowC_apply]
  unfold entry
  simp only [siluC_apply]

@[inherit_doc ctx_apply] theorem smp_apply : Eq (α := EReal) (table C (rowS (siluS xs) W b) Z (ix3 l ⟨1 + s.val, by omega⟩ j))
    (entry (fun k => xs (ix2 s k)) (fun k => W (ix3 l k j)) (b (ix2 l j))) := by
  rw [table_smp, rowS_apply]
  unfold entry
  simp only [siluS_apply, mul_comm]

@[inherit_doc ctx_apply] theorem rest_apply (r : Fin 5) : Eq (α := EReal) (table C S (spare b) (ix3 l ⟨3 + r.val, by omega⟩ j)) (b (ix2 l j)) := by
  rw [table_spare, spare_apply]

end apply

end Cert.Reference7Ideal.Ada
end
-- ==== Proof.AdaResult.lean ====
module

public import proofs.«01_k».proof.Proof.AdaRef
public import proofs.«01_k».proof.Proof.Gen.Kernel7Ideal.Value
public import Idealize.ShloMosaic.Lib.Pipeline.ValueKit
public import Idealize.ShloMosaic.Lib.StableHlo.ReadAt
public import Idealize.ShloMosaic.Lib.VecWindow

@[expose] public section

set_option maxRecDepth 16384

noncomputable section

namespace Cert.Kernel7Ideal.Ada

open Cert.Kernel7Ideal Cert.Kernel7Ideal.Gen Idealize.ShloMosaic Idealize.ShloMosaic.TcCoe Idealize.ShloMosaic.Tactic
open Idealize.ShloMosaic.Pipeline (Dat)
open Cert.Ada

/-- The block written back, at an index, from what the body reads. -/
theorem block_apply (s : Vec Ideal S8x1024 .f32) (w : Vec Ideal S1x1024x1024 .f32) (b : Vec Ideal S1x1x1024 .f32) (r : Fin 8) (j : Fin 1024) :
    Eq (α := EReal) (k0_pay1 s w b (ix3 0 r j)) (entry (fun k => s (ix2 r k)) (fun k => w (ix3 0 k j)) (b (ix3 0 0 j))) := by
  unfold entry
  pointwise [k0_pay1]

theorem idx : ∀ t : Fin cfg0.N, win0_0.index t = ![0, 0] ∧ win0_1.index t = ![t.val / 6, 0, t.val % 6] ∧ win0_2.index t = ![t.val / 6, 0, t.val % 6]
    ∧ win0_3.index t = ![t.val / 6, 0, t.val % 6] := by
  decide +kernel

theorem t_lt (t : Fin cfg0.N) : t.val < 12 := t.isLt.trans_eq N_0

variable (t : Fin cfg0.N)

/-- The layer of a block of the table, and the column of the table that a block's column is. -/
def lay : Fin 2 := ⟨t.val / 6, by have := t_lt t; omega⟩
@[inherit_doc lay] def col (j : Fin 1024) : Fin 6144 := ⟨1024 * (t.val % 6) + j.val, by omega⟩

theorem read0 (X : S8x1024.Idx → Elt Ideal .f32) (r : Fin 8) (k : Fin 1024) : ((cfg0.win 0).blk t).view.read (Elt Ideal) X (ix2 r k) = X (ix2 r k) := by
  obtain ⟨h, -⟩ := idx t
  refine congrArg X ?_
  blk_ext [h]

theorem read1 (X : S2x1024x6144.Idx → Elt Ideal .f32) (k j : Fin 1024) : ((cfg0.win 1).blk t).view.read (Elt Ideal) X (ix3 0 k j) = X (ix3 (lay t) k (col t j)) := by
  obtain ⟨-, h, -⟩ := idx t
  refine congrArg X ?_
  unfold lay col
  blk_ext [h]

theorem read2 (X : S2x1x6144.Idx → Elt Ideal .f32) (j : Fin 1024) : ((cfg0.win 2).blk t).view.read (Elt Ideal) X (ix3 0 0 j) = X (ix3 (lay t) 0 (col t j)) := by
  obtain ⟨-, -, h, -⟩ := idx t
  refine congrArg X ?_
  unfold lay col
  blk_ext [h]

theorem read3 (X : S2x8x6144.Idx → Elt Ideal .f32) (r : Fin 8) (j : Fin 1024) : ((cfg0.win 3).blk t).view.read (Elt Ideal) X (ix3 0 r j) = X (ix3 (lay t) r (col t j)) := by
  obtain ⟨-, -, -, h⟩ := idx t
  refine congrArg X ?_
  unfold lay col
  blk_ext [h]

variable (m : (ℓ : Loc nD τ sig) → Buf (Elt Ideal) ℓ) (c : Dev nD)

/-- The arguments as they are passed. -/
abbrev argS : S2x1024.Idx → EReal := m ((c : Thread nD τ).loc main_arg0)
@[inherit_doc argS] abbrev argC : S1024.Idx → EReal := m ((c : Thread nD τ).loc main_arg1)
@[inherit_doc argS] abbrev argW : S2x1024x6144.Idx → EReal := m ((c : Thread nD τ).loc main_arg2)
@[inherit_doc argS] abbrev argB : S2x6144.Idx → EReal := m ((c : Thread nD τ).loc main_arg3)

/-- The conditioning as the host lays it out: the context's, the samples', zeros. -/
theorem cond_ctx (k : Fin 1024) : Eq (α := EReal) (V m c main_v2 (ix2 0 k)) (argC m c (ix1 k)) := by
  unfold V
  after_reads_at
  rw [StableHlo.unary_result]
  after_reads_at

@[inherit_doc cond_ctx] theorem cond_smp (s : Fin 2) (k : Fin 1024) : Eq (α := EReal) (V m c main_v2 (ix2 ⟨1 + s.val, by omega⟩ k)) (argS m c (ix2 s k)) := by
  unfold V
  after_reads_at

@[inherit_doc cond_ctx] theorem cond_spare (r : Fin 5) (k : Fin 1024) : Eq (α := EReal) (V m c main_v2 (ix2 ⟨3 + r.val, by omega⟩ k)) 0 := by
  unfold V
  after_reads_at
  rw [dif_neg (by omega), dif_neg (by omega)]
  after_reads_at

theorem bias_eq (l : Fin 2) (j : Fin 6144) : Eq (α := EReal) (V m c main_v3 (ix3 l 0 j)) (argB m c (ix2 l j)) := by
  unfold V
  after_reads_at

/-- What a point leaves in its block of the table. -/
theorem after_apply (r : Fin 8) (j : Fin 1024) :
    Eq (α := EReal) (out0_3 (iblk m c 0 t) (iblk m c 1 t) (iblk m c 2 t) (ix3 0 r j))
      (entry (fun k => V m c main_v2 (ix2 r k)) (fun k => argW m c (ix3 (lay t) k (col t j))) (argB m c (ix2 (lay t) (col t j)))) := by
  unfold out0_3
  refine (congrFun (View.canon_cons_unit_lit inb_S1x8x1024_S1x8x1024_0_0_0 _ [] (by decide)) _).trans ?_
  refine (block_apply _ _ _ r j).trans ?_
  refine congr (congr (congrArg entry ?_) ?_) ?_
  · exact funext fun k => (congrFun (View.ld_unit_lit inb_S8x1024_S8x1024_0_0 _ (by decide)) _).trans (read0 t _ r k)
  · exact funext fun k => (congrFun (View.ld_unit_lit inb_S1x1024x1024_S1x1024x1024_0_0_0 _ (by decide)) _).trans ((read1 t _ k j).trans (congrFun (V_main_arg2 m c) _))
  · exact (congrFun (View.ld_unit_lit inb_S1x1x1024_S1x1x1024_0_0_0 _ (by decide)) _).trans ((read2 t _ j).trans (bias_eq ..))

/-- A row of the table of each kind: the context's, a sample's, a spare one. -/
theorem row_eq (G : S2x8x6144.Idx → EReal)
    (hC : ∀ (l : Fin 2) (j : Fin 6144), G (ix3 l 0 j) = entry (fun k => argC m c (ix1 k)) (fun k => argW m c (ix3 l k j)) (argB m c (ix2 l j)))
    (hS : ∀ (l s : Fin 2) (j : Fin 6144), G (ix3 l ⟨1 + s.val, by omega⟩ j) = entry (fun k => argS m c (ix2 s k)) (fun k => argW m c (ix3 l k j)) (argB m c (ix2 l j)))
    (hZ : ∀ (l : Fin 2) (r : Fin 5) (j : Fin 6144), G (ix3 l ⟨3 + r.val, by omega⟩ j) = argB m c (ix2 l j))
    (l : Fin 2) (r : Fin 8) (j : Fin 6144) :
    entry (fun k => V m c main_v2 (ix2 r k)) (fun k => argW m c (ix3 l k j)) (argB m c (ix2 l j)) = G (ix3 l r j) := by
  obtain ⟨r, hr⟩ := r
  by_cases h0 : r = 0
  · subst h0
    rw [show (fun k => V m c main_v2 (ix2 ⟨0, hr⟩ k) : Fin 1024 → EReal) = fun k => argC m c (ix1 k) from funext fun k => cond_ctx m c k]
    exact (hC l j).symm
  by_cases h1 : r < 3
  · obtain ⟨s, rfl⟩ : ∃ s, r = 1 + s := ⟨r - 1, by omega⟩
    rw [show (fun k => V m c main_v2 (ix2 ⟨1 + s, hr⟩ k) : Fin 1024 → EReal) = fun k => argS m c (ix2 ⟨s, by omega⟩ k) from funext fun k => cond_smp m c ⟨s, by omega⟩ k]
    exact (hS l ⟨s, by omega⟩ j).symm
  · obtain ⟨s, rfl⟩ : ∃ s, r = 3 + s := ⟨r - 3, by omega⟩
    exact (entry_zero _ _ _ fun k => cond_spare m c ⟨s, by omega⟩ k).trans (hZ l ⟨s, by omega⟩ j).symm

/-- The array the kernel leaves. -/
theorem arr_eq (G : S2x8x6144.Idx → EReal)
    (e : ∀ (l : Fin 2) (r : Fin 8) (j : Fin 6144),
      entry (fun k => V m c main_v2 (ix2 r k)) (fun k => argW m c (ix3 l k j)) (argB m c (ix2 l j)) = G (ix3 l r j)) :
    (dats m 0 c).arrAt 3 cfg0.N = G := by
  refine (dats m 0 c).arrAt_eq_of_covers 3 _ (by decide +kernel) fun t _ y => ?_
  obtain ⟨z, r, j, rfl⟩ : ∃ (z : Fin 1) (r : Fin 8) (j : Fin 1024), y = ix3 z r j := ⟨y 0, y 1, y 2, by funext a; fin_cases a <;> rfl⟩
  obtain rfl : z = 0 := Subsingleton.elim _ _
  have h1 := (after_apply t m c r j).trans (e (lay t) r (col t j))
  have h2 := (read3 t G r j).symm
  refine Eq.trans ?_ h2
  refine Eq.trans ?_ h1
  exact congrFun (after0_3 m c t) (ix3 0 r j)

end Cert.Kernel7Ideal.Ada
end
-- ==== Proof.lean ====
/- The claims of the statement: the runs and their unchanged arguments, the idealized programs' origins, and the values of the
   grouped-query attention, the latent attention, the feed-forward part, the experts' sum, the output projections and the modulation table. The mathematics of the online softmax is in Proof/Soft.lean, buffers written a
   band at a time in Proof/Rows.lean. For the grouped-query attention: the body's loop is read in Proof/Trip.lean and Proof/State.lean;
   one head of one block is Proof/Head.lean; the arrays the host prepares and the windows over them are Proof/Block.lean;
   Proof/Flush.lean and Proof/Result.lean carry it to the result array; the reference is read in Proof/RefSide.lean and
   Proof/RefOut.lean. The modules named Lat… do the same for the latent attention. The preconditions are read in Proof/Pre.lean.
   For the feed-forward part of the even layer and the sum of the experts' outputs, both with the layer norm: the mathematics is in
   Proof/Norm.lean, the norm as host code writes it in Proof/HostNorm.lean. Proof/FfnBody.lean reads the body, Proof/FfnBlock.lean the
   windows, Proof/FfnResult.lean carries it to the result array, and the reference is read in Proof/FfnRef.lean. The modules named
   Comb… do the same for the sum of the experts' outputs. For the output projections of both layers, with their norms: a projection of
   features that come in two parts is in Proof/Proj.lean; the modules named Even… and Odd… read the even layer's and the odd layer's.
   The modulation table of the conditioning: Proof/AdaRef.lean and Proof/AdaResult.lean. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.LatResult
public import proofs.«01_k».proof.Proof.LatRef
public import proofs.«01_k».proof.Proof.Result
public import proofs.«01_k».proof.Proof.RefOut
public import proofs.«01_k».proof.Proof.Pre
public import proofs.«01_k».proof.Proof.FfnResult
public import proofs.«01_k».proof.Proof.FfnRef
public import proofs.«01_k».proof.Proof.CombResult
public import proofs.«01_k».proof.Proof.CombRef
public import proofs.«01_k».proof.Proof.EvenResult
public import proofs.«01_k».proof.Proof.EvenRef
public import proofs.«01_k».proof.Proof.OddResult
public import proofs.«01_k».proof.Proof.OddRef
public import proofs.«01_k».proof.Proof.AdaResult
public import Idealize.ShloMosaic.Lib.Quiescent
public import Idealize.ShloMosaic.Adequacy
public import Idealize.ShloMosaic.Init

@[expose] public section

noncomputable section

namespace Cert.Proof

open Idealize.ShloMosaic Idealize.SL.Sem

theorem preFacts : Cert.Pre_finite_scores.Facts where
  bcast_S_S2x16640x12x64 := by decide
  reducesTo_S2x16640x12x64_S_d0_1_2_3 := by decide
  h_S_ := by decide
  bcast_S_S2x16640x4x64 := by decide
  reducesTo_S2x16640x4x64_S_d0_1_2_3 := by decide

/-- The reference runs, leaves its arguments and has no counter. -/
theorem frame_r : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run m ρ)

open Cert.Gqa in
/-- The reference's result at an index is the attention. -/
theorem ref_attn (m' : (ℓ : Loc Cert.ReferenceIdeal.nD Cert.ReferenceIdeal.τ Cert.ReferenceIdeal.sig) → Buf (Elt Ideal) ℓ) (c : Dev Cert.ReferenceIdeal.nD)
    (Q : (⟨4, ![2, 16640, 12, 64]⟩ : Shape).Idx → EReal) (K V : (⟨4, ![2, 16640, 4, 64]⟩ : Shape).Idx → EReal)
    (hQ : m' ((c.tc : Thread Cert.ReferenceIdeal.nD Cert.ReferenceIdeal.τ).loc Cert.ReferenceIdeal.main_arg0) = Q)
    (hK : m' ((c.tc : Thread Cert.ReferenceIdeal.nD Cert.ReferenceIdeal.τ).loc Cert.ReferenceIdeal.main_arg1) = K)
    (hV : m' ((c.tc : Thread Cert.ReferenceIdeal.nD Cert.ReferenceIdeal.τ).loc Cert.ReferenceIdeal.main_arg2) = V)
    (q : (⟨4, ![2, 16640, 12, 64]⟩ : Shape).Idx → ℝ) (k : (⟨4, ![2, 16640, 4, 64]⟩ : Shape).Idx → ℝ)
    (hq : ∀ i, Q i = (q i : EReal)) (hk : ∀ i, K i = (k i : EReal)) (b : Fin 2) (p : Fin 16640) (h : Fin 12) (d : Fin 64) :
    ∃ M : ℝ, Eq (α := EReal) (Cert.ReferenceIdeal.Value.res_out0 m' c (ix3 b p ⟨64 * h.val + d.val, by omega⟩)) (attn (seen p) (qk q k b h p) (vals V b h d) M) := by
  rw [Cert.ReferenceIdeal.Gqa.res_eq, hQ, hK, hV, Cert.ReferenceIdeal.Gqa.joined_apply]
  unfold seen
  by_cases e : p.val < 256
  · rw [dif_pos e, if_pos e]
    exact Cert.ReferenceIdeal.Gqa.ctx_attn Q K V q k hq hk b ⟨p.val, e⟩ h d
  · rw [dif_neg e, if_neg e]
    have f : (⟨256 + (p.val - 256), by omega⟩ : Fin 16640) = p := Fin.ext (by show 256 + (p.val - 256) = p.val; omega)
    have l := Cert.ReferenceIdeal.Gqa.lat_attn Q K V q k hq hk b ⟨p.val - 256, by omega⟩ h d
    simp only [f] at l
    exact l

/-- The kernel and the reference end with the same array. -/
theorem value : Cert.algebraic_KernelIdeal_ReferenceIdeal_pre_finite_scores (hKernelIdeal := Cert.KernelIdeal.Gen.facts) (hReferenceIdeal := Cert.ReferenceIdeal.Gen.facts)
    (hPre_finite_scores := preFacts) := by
  intro m g m' g' hpre hargs
  refine ⟨fun c => Cert.ReferenceIdeal.Value.res_out0 m' c, ?_, Cert.ReferenceIdeal.Value.run m' g'⟩
  refine (θ_run _ _ _).mono (fun r h c => ?_) (Cert.KernelIdeal.Value.run_blocks m g)
  refine ⟨(h c).1.trans ?_, (h c).2⟩
  obtain ⟨hq, hk⟩ := @Cert.Gqa.finite_scores_real preFacts _ _ _ (hpre c)
  choose q hq using hq
  choose k hk using hk
  obtain ⟨a0, a1, a2⟩ := hargs c
  exact Cert.KernelIdeal.Gqa.arr_eq m c q k hq hk _ fun b p h d => ref_attn m' c _ _ _ a0 a1 a2 q k hq hk b p h d

theorem preFacts2 : Cert.Pre_finite_latent.Facts where
  bcast_S_S2x16640x8x96 := by decide
  reducesTo_S2x16640x8x96_S_d0_1_2_3 := by decide
  h_S_ := by decide

/-- The latent attention's reference runs, leaves its arguments and has no counter. -/
theorem frame_r2 : Cert.quiescent_Reference2Ideal (hReference2Ideal := Cert.Reference2Ideal.Gen.facts) := fun m ρ _ =>
  (θ_run _ _ _).mono (fun r h => ⟨fun c => (h c).2, sem_eq_zero_of_no_sems (by decide) r.2⟩) (Cert.Reference2Ideal.Value.run m ρ)

/-- The latent attention's reference at an index is the attention. -/
theorem ref_attn2 (m' : (ℓ : Loc Cert.Reference2Ideal.nD Cert.Reference2Ideal.τ Cert.Reference2Ideal.sig) → Buf (Elt Ideal) ℓ) (c : Dev Cert.Reference2Ideal.nD)
    (Q K : (⟨4, ![2, 16640, 8, 96]⟩ : Shape).Idx → EReal) (V : (⟨4, ![2, 16640, 8, 64]⟩ : Shape).Idx → EReal)
    (hQ : m' ((c.tc : Thread Cert.Reference2Ideal.nD Cert.Reference2Ideal.τ).loc Cert.Reference2Ideal.main_arg0) = Q)
    (hK : m' ((c.tc : Thread Cert.Reference2Ideal.nD Cert.Reference2Ideal.τ).loc Cert.Reference2Ideal.main_arg1) = K)
    (hV : m' ((c.tc : Thread Cert.Reference2Ideal.nD Cert.Reference2Ideal.τ).loc Cert.Reference2Ideal.main_arg2) = V)
    (q k : (⟨4, ![2, 16640, 8, 96]⟩ : Shape).Idx → ℝ)
    (hq : ∀ i, Q i = (q i : EReal)) (hk : ∀ i, K i = (k i : EReal)) (b : Fin 2) (p : Fin 16384) (h : Fin 8) (d : Fin 64) :
    ∃ M : ℝ, Eq (α := EReal) (Cert.Reference2Ideal.Mla.res m' c (ix3 b p ⟨64 * h.val + d.val, by omega⟩))
      (Cert.Gqa.attn 16640 (Cert.Mla.qk q k b h ⟨256 + p.val, by omega⟩) (Cert.Mla.vals V b h d) M) := by
  unfold Cert.Reference2Ideal.Mla.res
  rw [hQ, hK, hV]
  exact Cert.Reference2Ideal.Mla.attn_eq Q K V q k hq hk b p h d

/-- The latent attention's kernel and reference end with the same array. -/
theorem value2 : Cert.algebraic_Kernel2Ideal_Reference2Ideal_pre_finite_latent (hKernel2Ideal := Cert.Kernel2Ideal.Gen.facts) (hReference2Ideal := Cert.Reference2Ideal.Gen.facts)
    (hPre_finite_latent := preFacts2) := by
  intro m g m' g' hpre hargs
  refine ⟨fun c => Cert.Reference2Ideal.Mla.res m' c, ?_, Cert.Reference2Ideal.Mla.run m' g'⟩
  refine (θ_run _ _ _).mono (fun r h c => ?_) (Cert.Kernel2Ideal.Value.run_blocks m g)
  refine ⟨(h c).1.trans ?_, (h c).2⟩
  obtain ⟨hq, hk⟩ := @Cert.Gqa.finite_latent_real preFacts2 _ _ _ (hpre c)
  choose q hq using hq
  choose k hk using hk
  obtain ⟨a0, a1, a2⟩ := hargs c
  exact Cert.Kernel2Ideal.Mla.arr_eq m c q k hq hk _ fun b p h d => ref_attn2 m' c _ _ _ a0 a1 a2 q k hq hk b p h d

/-- The feed-forward part's reference runs, leaves its arguments and has no counter. -/
theorem frame_r3 : Cert.quiescent_Reference3Ideal (hReference3Ideal := Cert.Reference3Ideal.Gen.facts) := fun m ρ _ =>
  (θ_run _ _ _).mono (fun r h => ⟨fun c => (h c).2, sem_eq_zero_of_no_sems (by decide) r.2⟩) (Cert.Reference3Ideal.Value.run m ρ)

section ffn
open Cert.Ln
variable (m' : (ℓ : Loc Cert.Reference3Ideal.nD Cert.Reference3Ideal.τ Cert.Reference3Ideal.sig) → Buf (Elt Ideal) ℓ) (c : Dev Cert.Reference3Ideal.nD)
  (X : (⟨3, ![2, 16384, 1024]⟩ : Shape).Idx → EReal) (C : (⟨3, ![2, 256, 1024]⟩ : Shape).Idx → EReal) (M : (⟨3, ![2, 2, 6144]⟩ : Shape).Idx → EReal)
  (Mc : (⟨2, ![2, 6144]⟩ : Shape).Idx → EReal) (Wg Wu : (⟨2, ![1024, 2816]⟩ : Shape).Idx → EReal) (Wd : (⟨2, ![2816, 1024]⟩ : Shape).Idx → EReal)
  (g b : (⟨1, ![1024]⟩ : Shape).Idx → EReal)
  (h0 : m' ((c.tc : Thread Cert.Reference3Ideal.nD Cert.Reference3Ideal.τ).loc Cert.Reference3Ideal.main_arg0) = X)
  (h1 : m' ((c.tc : Thread Cert.Reference3Ideal.nD Cert.Reference3Ideal.τ).loc Cert.Reference3Ideal.main_arg1) = C)
  (h2 : m' ((c.tc : Thread Cert.Reference3Ideal.nD Cert.Reference3Ideal.τ).loc Cert.Reference3Ideal.main_arg2) = M)
  (h3 : m' ((c.tc : Thread Cert.Reference3Ideal.nD Cert.Reference3Ideal.τ).loc Cert.Reference3Ideal.main_arg3) = Mc)
  (h4 : m' ((c.tc : Thread Cert.Reference3Ideal.nD Cert.Reference3Ideal.τ).loc Cert.Reference3Ideal.main_arg4) = Wg)
  (h5 : m' ((c.tc : Thread Cert.Reference3Ideal.nD Cert.Reference3Ideal.τ).loc Cert.Reference3Ideal.main_arg5) = Wu)
  (h6 : m' ((c.tc : Thread Cert.Reference3Ideal.nD Cert.Reference3Ideal.τ).loc Cert.Reference3Ideal.main_arg6) = Wd)
  (h7 : m' ((c.tc : Thread Cert.Reference3Ideal.nD Cert.Reference3Ideal.τ).loc Cert.Reference3Ideal.main_arg7) = g)
  (h8 : m' ((c.tc : Thread Cert.Reference3Ideal.nD Cert.Reference3Ideal.τ).loc Cert.Reference3Ideal.main_arg8) = b)
include h0 h1 h2 h3 h4 h5 h6 h7 h8

/-- The feed-forward part's reference at a token of the context, and at a latent token. -/
theorem ref_ctx3 (u : Fin 33280) (j : Fin 1024) (h : u.val % 16640 < 256) :
    Eq (α := EReal) (Cert.Reference3Ideal.Ffn.res m' c (ix2 u j))
      (ln (ffn (fun k => C (ix3 ⟨u.val / 16640, by omega⟩ ⟨u.val % 16640, h⟩ k)) (fun k => Mc (ix2 0 ⟨3072 + k.val, by omega⟩)) (fun k => Mc (ix2 0 ⟨4096 + k.val, by omega⟩))
        (fun k => Mc (ix2 0 ⟨5120 + k.val, by omega⟩)) Wg Wu Wd) (g (ix1 j)) (b (ix1 j)) j) := by
  unfold Cert.Reference3Ideal.Ffn.res
  rw [h0, h1, h2, h3, h4, h5, h6, h7, h8]
  exact (Cert.Reference3Ideal.Ffn.joined_ctx _ _ _ u h).trans (Cert.Reference3Ideal.Ffn.outC_apply ..)

@[inherit_doc ref_ctx3] theorem ref_lat3 (u : Fin 33280) (j : Fin 1024) (h : ¬ u.val % 16640 < 256) :
    Eq (α := EReal) (Cert.Reference3Ideal.Ffn.res m' c (ix2 u j))
      (ln (ffn (fun k => X (ix3 ⟨u.val / 16640, by omega⟩ ⟨u.val % 16640 - 256, by omega⟩ k)) (fun k => M (ix3 0 ⟨u.val / 16640, by omega⟩ ⟨3072 + k.val, by omega⟩))
        (fun k => M (ix3 0 ⟨u.val / 16640, by omega⟩ ⟨4096 + k.val, by omega⟩)) (fun k => M (ix3 0 ⟨u.val / 16640, by omega⟩ ⟨5120 + k.val, by omega⟩)) Wg Wu Wd)
        (g (ix1 j)) (b (ix1 j)) j) := by
  unfold Cert.Reference3Ideal.Ffn.res
  rw [h0, h1, h2, h3, h4, h5, h6, h7, h8]
  exact (Cert.Reference3Ideal.Ffn.joined_lat _ _ _ u h).trans (Cert.Reference3Ideal.Ffn.outL_apply ..)

end ffn

/-- The feed-forward part's kernel and reference end with the same array. -/
theorem value3 : Cert.algebraic_Kernel3Ideal_Reference3Ideal (hKernel3Ideal := Cert.Kernel3Ideal.Gen.facts) (hReference3Ideal := Cert.Reference3Ideal.Gen.facts) := by
  intro m g m' g' _ hargs
  refine ⟨fun c => Cert.Reference3Ideal.Ffn.res m' c, ?_, Cert.Reference3Ideal.Value.run m' g'⟩
  refine (θ_run _ _ _).mono (fun r h c => ?_) (Cert.Kernel3Ideal.Value.run_blocks m g)
  refine ⟨(h c).1.trans ?_, (h c).2⟩
  obtain ⟨a0, a1, a2, a3, a4, a5, a6, a7, a8⟩ := hargs c
  exact Cert.Kernel3Ideal.Ffn.arr_eq m c _ (fun u j h => ref_ctx3 m' c _ _ _ _ _ _ _ _ _ a0 a1 a2 a3 a4 a5 a6 a7 a8 u j h)
    fun u j h => ref_lat3 m' c _ _ _ _ _ _ _ _ _ a0 a1 a2 a3 a4 a5 a6 a7 a8 u j h

/-- The experts' sum's reference runs, leaves its arguments and has no counter. -/
theorem frame_r4 : Cert.quiescent_Reference4Ideal (hReference4Ideal := Cert.Reference4Ideal.Gen.facts) := fun m ρ _ =>
  (θ_run _ _ _).mono (fun r h => ⟨fun c => (h c).2, sem_eq_zero_of_no_sems (by decide) r.2⟩) (Cert.Reference4Ideal.Value.run m ρ)

open Cert.Ln Cert.Kernel4Ideal.Comb in
/-- The experts' sum's reference at a token. -/
theorem ref4 (m' : (ℓ : Loc Cert.Reference4Ideal.nD Cert.Reference4Ideal.τ Cert.Reference4Ideal.sig) → Buf (Elt Ideal) ℓ) (c : Dev Cert.Reference4Ideal.nD)
    (X Y0 Y1 : (⟨3, ![2, 16384, 1024]⟩ : Shape).Idx → EReal) (R : (⟨3, ![2, 16384, 2]⟩ : Shape).Idx → EReal) (M : (⟨3, ![2, 2, 6144]⟩ : Shape).Idx → EReal)
    (g b : (⟨1, ![1024]⟩ : Shape).Idx → EReal)
    (h0 : m' ((c.tc : Thread Cert.Reference4Ideal.nD Cert.Reference4Ideal.τ).loc Cert.Reference4Ideal.main_arg0) = X)
    (h1 : m' ((c.tc : Thread Cert.Reference4Ideal.nD Cert.Reference4Ideal.τ).loc Cert.Reference4Ideal.main_arg1) = Y0)
    (h2 : m' ((c.tc : Thread Cert.Reference4Ideal.nD Cert.Reference4Ideal.τ).loc Cert.Reference4Ideal.main_arg2) = Y1)
    (h3 : m' ((c.tc : Thread Cert.Reference4Ideal.nD Cert.Reference4Ideal.τ).loc Cert.Reference4Ideal.main_arg3) = R)
    (h4 : m' ((c.tc : Thread Cert.Reference4Ideal.nD Cert.Reference4Ideal.τ).loc Cert.Reference4Ideal.main_arg4) = M)
    (h6 : m' ((c.tc : Thread Cert.Reference4Ideal.nD Cert.Reference4Ideal.τ).loc Cert.Reference4Ideal.main_arg6) = g)
    (h7 : m' ((c.tc : Thread Cert.Reference4Ideal.nD Cert.Reference4Ideal.τ).loc Cert.Reference4Ideal.main_arg7) = b) (u : Fin 32768) (j : Fin 1024) :
    Eq (α := EReal) (Cert.Reference4Ideal.Comb.res m' c (ix2 u j))
      (ln (comb (fun k => X (ix3 ⟨u.val / 16384, by omega⟩ ⟨u.val % 16384, by omega⟩ k)) (fun k => M (ix3 1 ⟨u.val / 16384, by omega⟩ ⟨5120 + k.val, by omega⟩))
        (fun k => Y0 (ix3 ⟨u.val / 16384, by omega⟩ ⟨u.val % 16384, by omega⟩ k)) (fun k => Y1 (ix3 ⟨u.val / 16384, by omega⟩ ⟨u.val % 16384, by omega⟩ k))
        (R (ix3 ⟨u.val / 16384, by omega⟩ ⟨u.val % 16384, by omega⟩ 0)) (R (ix3 ⟨u.val / 16384, by omega⟩ ⟨u.val % 16384, by omega⟩ 1))) (g (ix1 j)) (b (ix1 j)) j) := by
  unfold Cert.Reference4Ideal.Comb.res
  rw [h0, h1, h2, h3, h4, h6, h7]
  exact (Cert.Reference4Ideal.Comb.flat_apply _ _ u).trans (Cert.Reference4Ideal.Comb.out_apply ..)

/-- The experts' sum's kernel and reference end with the same array. -/
theorem value4 : Cert.algebraic_Kernel4Ideal_Reference4Ideal (hKernel4Ideal := Cert.Kernel4Ideal.Gen.facts) (hReference4Ideal := Cert.Reference4Ideal.Gen.facts) := by
  intro m g m' g' _ hargs
  refine ⟨fun c => Cert.Reference4Ideal.Comb.res m' c, ?_, Cert.Reference4Ideal.Value.run m' g'⟩
  refine (θ_run _ _ _).mono (fun r h c => ?_) (Cert.Kernel4Ideal.Value.run_blocks m g)
  refine ⟨(h c).1.trans ?_, (h c).2⟩
  obtain ⟨a0, a1, a2, a3, a4, -, a6, a7⟩ := hargs c
  exact Cert.Kernel4Ideal.Comb.arr_eq m c _ fun u j => ref4 m' c _ _ _ _ _ _ _ a0 a1 a2 a3 a4 a6 a7 u j

/-- The even layer's output projection's reference runs, leaves its arguments and has no counter. -/
theorem frame_r5 : Cert.quiescent_Reference5Ideal (hReference5Ideal := Cert.Reference5Ideal.Gen.facts) := fun m ρ _ =>
  (θ_run _ _ _).mono (fun r h => ⟨fun c => (h c).2, sem_eq_zero_of_no_sems (by decide) r.2⟩) (Cert.Reference5Ideal.Value.run m ρ)

section even
open Cert.Ln
variable (m' : (ℓ : Loc Cert.Reference5Ideal.nD Cert.Reference5Ideal.τ Cert.Reference5Ideal.sig) → Buf (Elt Ideal) ℓ) (c : Dev Cert.Reference5Ideal.nD)
  (A : (⟨3, ![2, 16384, 768]⟩ : Shape).Idx → EReal) (Ac : (⟨3, ![2, 256, 768]⟩ : Shape).Idx → EReal)
  (P : (⟨3, ![2, 16384, 256]⟩ : Shape).Idx → EReal) (Pc : (⟨3, ![2, 256, 256]⟩ : Shape).Idx → EReal)
  (X : (⟨3, ![2, 16384, 1024]⟩ : Shape).Idx → EReal) (C : (⟨3, ![2, 256, 1024]⟩ : Shape).Idx → EReal) (M : (⟨3, ![2, 2, 6144]⟩ : Shape).Idx → EReal)
  (Mc : (⟨2, ![2, 6144]⟩ : Shape).Idx → EReal) (W : (⟨2, ![1024, 1024]⟩ : Shape).Idx → EReal) (g b : (⟨1, ![1024]⟩ : Shape).Idx → EReal)
  (h0 : m' ((c.tc : Thread Cert.Reference5Ideal.nD Cert.Reference5Ideal.τ).loc Cert.Reference5Ideal.main_arg0) = A)
  (h1 : m' ((c.tc : Thread Cert.Reference5Ideal.nD Cert.Reference5Ideal.τ).loc Cert.Reference5Ideal.main_arg1) = Ac)
  (h2 : m' ((c.tc : Thread Cert.Reference5Ideal.nD Cert.Reference5Ideal.τ).loc Cert.Reference5Ideal.main_arg2) = P)
  (h3 : m' ((c.tc : Thread Cert.Reference5Ideal.nD Cert.Reference5Ideal.τ).loc Cert.Reference5Ideal.main_arg3) = Pc)
  (h4 : m' ((c.tc : Thread Cert.Reference5Ideal.nD Cert.Reference5Ideal.τ).loc Cert.Reference5Ideal.main_arg4) = X)
  (h5 : m' ((c.tc : Thread Cert.Reference5Ideal.nD Cert.Reference5Ideal.τ).loc Cert.Reference5Ideal.main_arg5) = C)
  (h6 : m' ((c.tc : Thread Cert.Reference5Ideal.nD Cert.Reference5Ideal.τ).loc Cert.Reference5Ideal.main_arg6) = M)
  (h7 : m' ((c.tc : Thread Cert.Reference5Ideal.nD Cert.Reference5Ideal.τ).loc Cert.Reference5Ideal.main_arg7) = Mc)
  (h8 : m' ((c.tc : Thread Cert.Reference5Ideal.nD Cert.Reference5Ideal.τ).loc Cert.Reference5Ideal.main_arg8) = W)
  (h9 : m' ((c.tc : Thread Cert.Reference5Ideal.nD Cert.Reference5Ideal.τ).loc Cert.Reference5Ideal.main_arg9) = g)
  (h10 : m' ((c.tc : Thread Cert.Reference5Ideal.nD Cert.Reference5Ideal.τ).loc Cert.Reference5Ideal.main_arg10) = b)
include h0 h1 h2 h3 h4 h5 h6 h7 h8 h9 h10

/-- The even layer's output projection's reference at a token of the context, and at a latent token. -/
theorem ref_ctx5 (u : Fin 33280) (j : Fin 1024) (h : u.val % 16640 < 256) :
    Eq (α := EReal) (Cert.Reference5Ideal.Even.res m' c (ix2 u j))
      (ln (resid (fun k => C (ix3 ⟨u.val / 16640, by omega⟩ ⟨u.val % 16640, h⟩ k)) (fun k => Mc (ix2 0 ⟨2048 + k.val, by omega⟩))
        (proj (n := 768) (m := 256) rfl (fun k => Ac (ix3 ⟨u.val / 16640, by omega⟩ ⟨u.val % 16640, h⟩ k)) (fun k => Pc (ix3 ⟨u.val / 16640, by omega⟩ ⟨u.val % 16640, h⟩ k)) W))
        (g (ix1 j)) (b (ix1 j)) j) := by
  unfold Cert.Reference5Ideal.Even.res
  rw [h0, h1, h2, h3, h4, h5, h6, h7, h8, h9, h10]
  exact (Cert.Reference5Ideal.Even.joined_ctx _ _ _ u h).trans (Cert.Reference5Ideal.Even.normC_apply ..)

@[inherit_doc ref_ctx5] theorem ref_lat5 (u : Fin 33280) (j : Fin 1024) (h : ¬ u.val % 16640 < 256) :
    Eq (α := EReal) (Cert.Reference5Ideal.Even.res m' c (ix2 u j))
      (ln (resid (fun k => X (ix3 ⟨u.val / 16640, by omega⟩ ⟨u.val % 16640 - 256, by omega⟩ k)) (fun k => M (ix3 0 ⟨u.val / 16640, by omega⟩ ⟨2048 + k.val, by omega⟩))
        (proj (n := 768) (m := 256) rfl (fun k => A (ix3 ⟨u.val / 16640, by omega⟩ ⟨u.val % 16640 - 256, by omega⟩ k))
          (fun k => P (ix3 ⟨u.val / 16640, by omega⟩ ⟨u.val % 16640 - 256, by omega⟩ k)) W))
        (g (ix1 j)) (b (ix1 j)) j) := by
  unfold Cert.Reference5Ideal.Even.res
  rw [h0, h1, h2, h3, h4, h5, h6, h7, h8, h9, h10]
  exact (Cert.Reference5Ideal.Even.joined_lat _ _ _ u h).trans (Cert.Reference5Ideal.Even.normL_apply ..)

end even

/-- The even layer's output projection's kernel and reference end with the same array. -/
theorem value5 : Cert.algebraic_Kernel5Ideal_Reference5Ideal (hKernel5Ideal := Cert.Kernel5Ideal.Gen.facts) (hReference5Ideal := Cert.Reference5Ideal.Gen.facts) := by
  intro m g m' g' _ hargs
  refine ⟨fun c => Cert.Reference5Ideal.Even.res m' c, ?_, Cert.Reference5Ideal.Value.run m' g'⟩
  refine (θ_run _ _ _).mono (fun r h c => ?_) (Cert.Kernel5Ideal.Value.run_blocks m g)
  refine ⟨(h c).1.trans ?_, (h c).2⟩
  obtain ⟨a0, a1, a2, a3, a4, a5, a6, a7, a8, a9, a10⟩ := hargs c
  exact Cert.Kernel5Ideal.Even.arr_eq m c _ (fun u j h => ref_ctx5 m' c _ _ _ _ _ _ _ _ _ _ _ a0 a1 a2 a3 a4 a5 a6 a7 a8 a9 a10 u j h)
    fun u j h => ref_lat5 m' c _ _ _ _ _ _ _ _ _ _ _ a0 a1 a2 a3 a4 a5 a6 a7 a8 a9 a10 u j h

/-- The odd layer's output projection's reference runs, leaves its arguments and has no counter. -/
theorem frame_r6 : Cert.quiescent_Reference6Ideal (hReference6Ideal := Cert.Reference6Ideal.Gen.facts) := fun m ρ _ =>
  (θ_run _ _ _).mono (fun r h => ⟨fun c => (h c).2, sem_eq_zero_of_no_sems (by decide) r.2⟩) (Cert.Reference6Ideal.Value.run m ρ)

open Cert.Ln in
/-- The odd layer's output projection's reference at a token. -/
theorem ref6 (m' : (ℓ : Loc Cert.Reference6Ideal.nD Cert.Reference6Ideal.τ Cert.Reference6Ideal.sig) → Buf (Elt Ideal) ℓ) (c : Dev Cert.Reference6Ideal.nD)
    (L N : (⟨3, ![2, 16384, 512]⟩ : Shape).Idx → EReal) (X : (⟨3, ![2, 16384, 1024]⟩ : Shape).Idx → EReal) (M : (⟨3, ![2, 2, 6144]⟩ : Shape).Idx → EReal)
    (W : (⟨2, ![1024, 1024]⟩ : Shape).Idx → EReal) (g b : (⟨1, ![1024]⟩ : Shape).Idx → EReal)
    (h0 : m' ((c.tc : Thread Cert.Reference6Ideal.nD Cert.Reference6Ideal.τ).loc Cert.Reference6Ideal.main_arg0) = L)
    (h1 : m' ((c.tc : Thread Cert.Reference6Ideal.nD Cert.Reference6Ideal.τ).loc Cert.Reference6Ideal.main_arg1) = N)
    (h2 : m' ((c.tc : Thread Cert.Reference6Ideal.nD Cert.Reference6Ideal.τ).loc Cert.Reference6Ideal.main_arg2) = X)
    (h4 : m' ((c.tc : Thread Cert.Reference6Ideal.nD Cert.Reference6Ideal.τ).loc Cert.Reference6Ideal.main_arg4) = M)
    (h6 : m' ((c.tc : Thread Cert.Reference6Ideal.nD Cert.Reference6Ideal.τ).loc Cert.Reference6Ideal.main_arg6) = W)
    (h7 : m' ((c.tc : Thread Cert.Reference6Ideal.nD Cert.Reference6Ideal.τ).loc Cert.Reference6Ideal.main_arg7) = g)
    (h8 : m' ((c.tc : Thread Cert.Reference6Ideal.nD Cert.Reference6Ideal.τ).loc Cert.Reference6Ideal.main_arg8) = b) (u : Fin 32768) (j : Fin 1024) :
    Eq (α := EReal) (Cert.Reference6Ideal.Odd.res m' c (ix2 u j))
      (ln (resid (fun k => X (ix3 ⟨u.val / 16384, by omega⟩ ⟨u.val % 16384, by omega⟩ k)) (fun k => M (ix3 1 ⟨u.val / 16384, by omega⟩ ⟨2048 + k.val, by omega⟩))
        (proj (n := 512) (m := 512) rfl (fun k => L (ix3 ⟨u.val / 16384, by omega⟩ ⟨u.val % 16384, by omega⟩ k)) (fun k => N (ix3 ⟨u.val / 16384, by omega⟩ ⟨u.val % 16384, by omega⟩ k)) W))
        (g (ix1 j)) (b (ix1 j)) j) := by
  unfold Cert.Reference6Ideal.Odd.res
  rw [h0, h1, h2, h4, h6, h7, h8]
  exact (Cert.Reference6Ideal.Odd.flat_apply _ _ u).trans (Cert.Reference6Ideal.Odd.normed_apply ..)

/-- The odd layer's output projection's kernel and reference end with the same array. -/
theorem value6 : Cert.algebraic_Kernel6Ideal_Reference6Ideal (hKernel6Ideal := Cert.Kernel6Ideal.Gen.facts) (hReference6Ideal := Cert.Reference6Ideal.Gen.facts) := by
  intro m g m' g' _ hargs
  refine ⟨fun c => Cert.Reference6Ideal.Odd.res m' c, ?_, Cert.Reference6Ideal.Value.run m' g'⟩
  refine (θ_run _ _ _).mono (fun r h c => ?_) (Cert.Kernel6Ideal.Value.run_blocks m g)
  refine ⟨(h c).1.trans ?_, (h c).2⟩
  obtain ⟨a0, a1, a2, -, a4, -, a6, a7, a8⟩ := hargs c
  exact Cert.Kernel6Ideal.Odd.arr_eq m c _ fun u j => ref6 m' c _ _ _ _ _ _ _ a0 a1 a2 a4 a6 a7 a8 u j

/-- The modulation table's reference runs, leaves its arguments and has no counter. -/
theorem frame_r7 : Cert.quiescent_Reference7Ideal (hReference7Ideal := Cert.Reference7Ideal.Gen.facts) := fun m ρ _ =>
  (θ_run _ _ _).mono (fun r h => ⟨fun c => (h c).2, sem_eq_zero_of_no_sems (by decide) r.2⟩) (Cert.Reference7Ideal.Value.run m ρ)

section ada
open Cert.Ada
variable (m' : (ℓ : Loc Cert.Reference7Ideal.nD Cert.Reference7Ideal.τ Cert.Reference7Ideal.sig) → Buf (Elt Ideal) ℓ) (c : Dev Cert.Reference7Ideal.nD)
  (S : (⟨2, ![2, 1024]⟩ : Shape).Idx → EReal) (C : (⟨1, ![1024]⟩ : Shape).Idx → EReal) (W : (⟨3, ![2, 1024, 6144]⟩ : Shape).Idx → EReal) (b : (⟨2, ![2, 6144]⟩ : Shape).Idx → EReal)
  (h0 : m' ((c.tc : Thread Cert.Reference7Ideal.nD Cert.Reference7Ideal.τ).loc Cert.Reference7Ideal.main_arg0) = S)
  (h1 : m' ((c.tc : Thread Cert.Reference7Ideal.nD Cert.Reference7Ideal.τ).loc Cert.Reference7Ideal.main_arg1) = C)
  (h2 : m' ((c.tc : Thread Cert.Reference7Ideal.nD Cert.Reference7Ideal.τ).loc Cert.Reference7Ideal.main_arg2) = W)
  (h3 : m' ((c.tc : Thread Cert.Reference7Ideal.nD Cert.Reference7Ideal.τ).loc Cert.Reference7Ideal.main_arg3) = b)
include h0 h1 h2 h3

/-- The modulation table's reference at the context's row, at a sample's and at a spare one. -/
theorem ref_ctx7 (l : Fin 2) (j : Fin 6144) : Eq (α := EReal) (Cert.Reference7Ideal.Ada.res m' c (ix3 l 0 j))
    (entry (fun k => C (ix1 k)) (fun k => W (ix3 l k j)) (b (ix2 l j))) := by
  unfold Cert.Reference7Ideal.Ada.res
  rw [h0, h1, h2, h3]
  exact Cert.Reference7Ideal.Ada.ctx_apply ..

@[inherit_doc ref_ctx7] theorem ref_smp7 (l s : Fin 2) (j : Fin 6144) : Eq (α := EReal) (Cert.Reference7Ideal.Ada.res m' c (ix3 l ⟨1 + s.val, by omega⟩ j))
    (entry (fun k => S (ix2 s k)) (fun k => W (ix3 l k j)) (b (ix2 l j))) := by
  unfold Cert.Reference7Ideal.Ada.res
  rw [h0, h1, h2, h3]
  exact Cert.Reference7Ideal.Ada.smp_apply ..

@[inherit_doc ref_ctx7] theorem ref_spare7 (l : Fin 2) (r : Fin 5) (j : Fin 6144) :
    Eq (α := EReal) (Cert.Reference7Ideal.Ada.res m' c (ix3 l ⟨3 + r.val, by omega⟩ j)) (b (ix2 l j)) := by
  unfold Cert.Reference7Ideal.Ada.res
  rw [h0, h1, h2, h3]
  exact Cert.Reference7Ideal.Ada.rest_apply ..

end ada

/-- The modulation table's kernel and reference end with the same array. -/
theorem value7 : Cert.algebraic_Kernel7Ideal_Reference7Ideal (hKernel7Ideal := Cert.Kernel7Ideal.Gen.facts) (hReference7Ideal := Cert.Reference7Ideal.Gen.facts) := by
  intro m g m' g' _ hargs
  refine ⟨fun c => Cert.Reference7Ideal.Ada.res m' c, ?_, Cert.Reference7Ideal.Value.run m' g'⟩
  refine (θ_run _ _ _).mono (fun r h c => ?_) (Cert.Kernel7Ideal.Value.run_blocks m g)
  refine ⟨(h c).1.trans ?_, (h c).2⟩
  obtain ⟨a0, a1, a2, a3⟩ := hargs c
  exact Cert.Kernel7Ideal.Ada.arr_eq m c _ (Cert.Kernel7Ideal.Ada.row_eq m c _ (fun l j => ref_ctx7 m' c _ _ _ _ a0 a1 a2 a3 l j) (fun l s j => ref_smp7 m' c _ _ _ _ a0 a1 a2 a3 l s j)
    fun l r j => ref_spare7 m' c _ _ _ _ a0 a1 a2 a3 l r j)

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Kernel4.Gen.facts, Cert.Kernel4Ideal.Gen.facts,
  Cert.Reference4Ideal.Gen.facts, Cert.Kernel5.Gen.facts, Cert.Kernel5Ideal.Gen.facts, Cert.Reference5Ideal.Gen.facts, Cert.Kernel6.Gen.facts, Cert.Kernel6Ideal.Gen.facts,
  Cert.Reference6Ideal.Gen.facts, Cert.Kernel7.Gen.facts, Cert.Kernel7Ideal.Gen.facts, Cert.Reference7Ideal.Gen.facts, preFacts, preFacts2,
  fun m ρ _ => Cert.Kernel.Gen.frame m ρ, fun m ρ _ => Cert.KernelIdeal.Gen.frame m ρ, fun m ρ _ => Cert.KernelIdeal.Gen.frame m ρ,
  frame_r, fun m ρ _ => frame_r m ρ trivial,
  fun m ρ _ => Cert.Kernel2.Gen.frame m ρ, fun m ρ _ => Cert.Kernel2Ideal.Gen.frame m ρ, fun m ρ _ => Cert.Kernel2Ideal.Gen.frame m ρ,
  frame_r2, fun m ρ _ => frame_r2 m ρ trivial,
  fun m ρ _ => Cert.Kernel3.Gen.frame m ρ, fun m ρ _ => Cert.Kernel3Ideal.Gen.frame m ρ, frame_r3,
  fun m ρ _ => Cert.Kernel4.Gen.frame m ρ, fun m ρ _ => Cert.Kernel4Ideal.Gen.frame m ρ, frame_r4,
  fun m ρ _ => Cert.Kernel5.Gen.frame m ρ, fun m ρ _ => Cert.Kernel5Ideal.Gen.frame m ρ, frame_r5,
  fun m ρ _ => Cert.Kernel6.Gen.frame m ρ, fun m ρ _ => Cert.Kernel6Ideal.Gen.frame m ρ, frame_r6,
  fun m ρ _ => Cert.Kernel7.Gen.frame m ρ, fun m ρ _ => Cert.Kernel7Ideal.Gen.frame m ρ, frame_r7,
  trivial, value, trivial, value2, trivial, value3, trivial, value4,
  trivial, value5, trivial, value6, trivial, value7⟩

end Cert.Proof

end
